-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_norm [hPre_finite_norm : Cert.Pre_finite_norm.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_norm.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite_norm.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite_norm.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_norm [hPre_finite_norm : Cert.Pre_finite_norm.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_norm.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite_norm.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite_norm.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_norm [hKernel8Ideal : Cert.Kernel8Ideal.Facts] [hPre_finite_norm : Cert.Pre_finite_norm.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_norm m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_norm [hReference8Ideal : Cert.Reference8Ideal.Facts] [hPre_finite_norm : Cert.Pre_finite_norm.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_norm m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v140_0)) (v1 : (c : Dev Cert.KernelIdeal.nD) → Buf (Elt Ideal) ((c.tc : Thread Cert.KernelIdeal.nD Cert.KernelIdeal.τ).loc Cert.KernelIdeal.main_v140_1)) (v2 : (c : Dev Cert.KernelIdeal.nD) → Buf (Elt Ideal) ((c.tc : Thread Cert.KernelIdeal.nD Cert.KernelIdeal.τ).loc Cert.KernelIdeal.main_v140_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140_0) = v0 c
          ∧ r.2.mem ((c.tc : Thread Cert.KernelIdeal.nD Cert.KernelIdeal.τ).loc Cert.KernelIdeal.main_v140_1) = v1 c
          ∧ r.2.mem ((c.tc : Thread Cert.KernelIdeal.nD Cert.KernelIdeal.τ).loc Cert.KernelIdeal.main_v140_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v258) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal_pre_finite_norm [hKernel8Ideal : Cert.Kernel8Ideal.Facts] [hReference8Ideal : Cert.Reference8Ideal.Facts] [hPre_finite_norm : Cert.Pre_finite_norm.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_norm m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel7 : Cert.Kernel7.Facts) (hKernel7Ideal : Cert.Kernel7Ideal.Facts) (hReference7Ideal : Cert.Reference7Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Kernel8Ideal_pre_finite_norm (hKernel8Ideal := hKernel8Ideal) (hPre_finite_norm := hPre_finite_norm)
    ∧ quiescent_Reference8Ideal (hReference8Ideal := hReference8Ideal)
    ∧ quiescent_Reference8Ideal_pre_finite_norm (hReference8Ideal := hReference8Ideal) (hPre_finite_norm := hPre_finite_norm)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel7_Kernel7Ideal
    ∧ algebraic_Kernel7Ideal_Reference7Ideal (hKernel7Ideal := hKernel7Ideal) (hReference7Ideal := hReference7Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal_pre_finite_norm (hKernel8Ideal := hKernel8Ideal) (hReference8Ideal := hReference8Ideal) (hPre_finite_norm := hPre_finite_norm)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x5120 : Shape := ⟨2, ![4096, 5120]⟩
abbrev S4096x2048 : Shape := ⟨2, ![4096, 2048]⟩
abbrev S4096x1024 : Shape := ⟨2, ![4096, 1024]⟩
abbrev S4096x8 : Shape := ⟨2, ![4096, 8]⟩
abbrev S_ : Shape := ⟨0, ![]⟩

class Facts : Prop where
  bcast_S_S4096x5120 : S_.BroadcastsInDim S4096x5120 (![] : Fin 0 → Fin S4096x5120.rank)
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S4096x8 : S_.BroadcastsInDim S4096x8 (![] : Fin 0 → Fin S4096x8.rank)

variable [Facts]

def fn_part1 {F : FTy → Type} [FloatOps F] (main_arg3 : FVec F S4096x8 .f32) (main_arg4 : FVec F S4096x1024 .f32) (main_arg5 : FVec F S4096x8 .f32) (main_v4 : IVec S4096x5120 1) (main_v9 : IVec S4096x2048 1) (main_v14 : IVec S4096x1024 1) (main_v16 : IVec S4096x8 1) : IVec S4096x5120 1 × IVec S4096x2048 1 × IVec S4096x1024 1 × IVec S4096x8 1 × IVec S4096x1024 1 × IVec S4096x8 1 :=
  let main_cst_6 : FVec F S_ .f32 := constant S_ .f32 0x7F800000#32
  let main_v17 : FVec F S4096x8 .f32 := broadcastInDim S4096x8 ![] bcast_S_S4096x8 main_cst_6
  let main_v18 : IVec S4096x8 1 := cmpf .olt main_arg3 main_v17
  let main_v19 : IVec S4096x8 1 := andi main_v16 main_v18
  let main_cst_7 : FVec F S_ .f32 := constant S_ .f32 0xFF800000#32
  let main_v20 : FVec F S4096x1024 .f32 := broadcastInDim S4096x1024 ![] bcast_S_S4096x1024 main_cst_7
  let main_v21 : IVec S4096x1024 1 := cmpf .ogt main_arg4 main_v20
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_arg4 main_v22
  let main_v24 : IVec S4096x1024 1 := andi main_v21 main_v23
  let main_cst_9 : FVec F S_ .f32 := constant S_ .f32 0xFF800000#32
  let main_v25 : FVec F S4096x8 .f32 := broadcastInDim S4096x8 ![] bcast_S_S4096x8 main_cst_9
  let main_v26 : IVec S4096x8 1 := cmpf .ogt main_arg5 main_v25
  let main_cst_10 : FVec F S_ .f32 := constant S_ .f32 0x7F800000#32
  let main_v27 : FVec F S4096x8 .f32 := broadcastInDim S4096x8 ![] bcast_S_S4096x8 main_cst_10
  let main_v28 : IVec S4096x8 1 := cmpf .olt main_arg5 main_v27
  let main_v29 : IVec S4096x8 1 := andi main_v26 main_v28
  (main_v4, main_v9, main_v14, main_v19, main_v24, main_v29)

def fn {F : FTy → Type} [FloatOps F] (main_arg0 : FVec F S4096x5120 .bf16) (main_arg1 : FVec F S4096x2048 .bf16) (main_arg2 : FVec F S4096x1024 .f32) (main_arg3 : FVec F S4096x8 .f32) (main_arg4 : FVec F S4096x1024 .f32) (main_arg5 : FVec F S4096x8 .f32) : IVec S4096x5120 1 × IVec S4096x2048 1 × IVec S4096x1024 1 × IVec S4096x8 1 × IVec S4096x1024 1 × IVec S4096x8 1 :=
  let main_cst : FVec F S_ .bf16 := constant S_ .bf16 0xFF80#16
  let main_v0 : FVec F S4096x5120 .bf16 := broadcastInDim S4096x5120 ![] bcast_S_S4096x5120 main_cst
  let main_v1 : IVec S4096x5120 1 := cmpf .ogt main_arg0 main_v0
  let main_cst_0 : FVec F S_ .bf16 := constant S_ .bf16 0x7F80#16
  let main_v2 : FVec F S4096x5120 .bf16 := broadcastInDim S4096x5120 ![] bcast_S_S4096x5120 main_cst_0
  let main_v3 : IVec S4096x5120 1 := cmpf .olt main_arg0 main_v2
  let main_v4 : IVec S4096x5120 1 := andi main_v1 main_v3
  let main_cst_1 : FVec F S_ .bf16 := constant S_ .bf16 0xFF80#16
  let main_v5 : FVec F S4096x2048 .bf16 := broadcastInDim S4096x2048 ![] bcast_S_S4096x2048 main_cst_1
  let main_v6 : IVec S4096x2048 1 := cmpf .ogt main_arg1 main_v5
  let main_cst_2 : FVec F S_ .bf16 := constant S_ .bf16 0x7F80#16
  let main_v7 : FVec F S4096x2048 .bf16 := broadcastInDim S4096x2048 ![] bcast_S_S4096x2048 main_cst_2
  let main_v8 : IVec S4096x2048 1 := cmpf .olt main_arg1 main_v7
  let main_v9 : IVec S4096x2048 1 := andi main_v6 main_v8
  let main_cst_3 : FVec F S_ .f32 := constant S_ .f32 0xFF800000#32
  let main_v10 : FVec F S4096x1024 .f32 := broadcastInDim S4096x1024 ![] bcast_S_S4096x1024 main_cst_3
  let main_v11 : IVec S4096x1024 1 := cmpf .ogt main_arg2 main_v10
  let main_cst_4 : FVec F S_ .f32 := constant S_ .f32 0x7F800000#32
  let main_v12 : FVec F S4096x1024 .f32 := broadcastInDim S4096x1024 ![] bcast_S_S4096x1024 main_cst_4
  let main_v13 : IVec S4096x1024 1 := cmpf .olt main_arg2 main_v12
  let main_v14 : IVec S4096x1024 1 := andi main_v11 main_v13
  let main_cst_5 : FVec F S_ .f32 := constant S_ .f32 0xFF800000#32
  let main_v15 : FVec F S4096x8 .f32 := broadcastInDim S4096x8 ![] bcast_S_S4096x8 main_cst_5
  let main_v16 : IVec S4096x8 1 := cmpf .ogt main_arg3 main_v15
  fn_part1 (F := F) main_arg3 main_arg4 main_arg5 main_v4 main_v9 main_v14 main_v16
-- ==== Pre_finite_norm.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .bf16) (main_arg3 : FVec F S4096x2048 .f32) : IVec S4096x2048 1 × IVec S1x2048 1 × IVec S4096x2048 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg0 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg0 main_v2
  let main_v4 : IVec S4096x2048 1 := andi main_v1 main_v3
  let main_cst_1 : FVec F S_ .f32 := constant S_ .f32 0xFF800000#32
  let main_v5 : FVec F S1x2048 .f32 := broadcastInDim S1x2048 ![] bcast_S_S1x2048 main_cst_1
  let main_v6 : IVec S1x2048 1 := cmpf .ogt main_arg1 main_v5
  let main_cst_2 : FVec F S_ .f32 := constant S_ .f32 0x7F800000#32
  let main_v7 : FVec F S1x2048 .f32 := broadcastInDim S1x2048 ![] bcast_S_S1x2048 main_cst_2
  let main_v8 : IVec S1x2048 1 := cmpf .olt main_arg1 main_v7
  let main_v9 : IVec S1x2048 1 := andi main_v6 main_v8
  let main_cst_3 : FVec F S_ .bf16 := constant S_ .bf16 0xFF80#16
  let main_v10 : FVec F S4096x2048 .bf16 := broadcastInDim S4096x2048 ![] bcast_S_S4096x2048 main_cst_3
  let main_v11 : IVec S4096x2048 1 := cmpf .ogt main_arg2 main_v10
  let main_cst_4 : FVec F S_ .bf16 := constant S_ .bf16 0x7F80#16
  let main_v12 : FVec F S4096x2048 .bf16 := broadcastInDim S4096x2048 ![] bcast_S_S4096x2048 main_cst_4
  let main_v13 : IVec S4096x2048 1 := cmpf .olt main_arg2 main_v12
  let main_v14 : IVec S4096x2048 1 := andi main_v11 main_v13
  (main_v4, main_v9, main_v14)
-- ==== Kernel.lean ====
abbrev S4096x5120 : Shape := ⟨2, ![4096, 5120]⟩
abbrev S4096x2048 : Shape := ⟨2, ![4096, 2048]⟩
abbrev S4096x1024 : Shape := ⟨2, ![4096, 1024]⟩
abbrev S4096x8 : Shape := ⟨2, ![4096, 8]⟩
abbrev S4096x8x128 : Shape := ⟨3, ![4096, 8, 128]⟩
abbrev S_ : Shape := ⟨0, ![]⟩
abbrev S8 : Shape := ⟨1, ![8]⟩
abbrev S1024x4x8x128 : Shape := ⟨4, ![1024, 4, 8, 128]⟩
abbrev S4x8x1024x128 : Shape := ⟨4, ![4, 8, 1024, 128]⟩
abbrev S4x8x8x128x128 : Shape := ⟨5, ![4, 8, 8, 128, 128]⟩
abbrev S4x8x1x128x128 : Shape := ⟨5, ![4, 8, 1, 128, 128]⟩
abbrev S4x8x7x128x128 : Shape := ⟨5, ![4, 8, 7, 128, 128]⟩
abbrev S4x8x8x256x128 : Shape := ⟨5, ![4, 8, 8, 256, 128]⟩
abbrev S4x8x8x128x256 : Shape := ⟨5, ![4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S1x1x8x128x256 : Shape := ⟨5, ![1, 1, 8, 128, 256]⟩
abbrev S4x8x8x128 : Shape := ⟨4, ![4, 8, 8, 128]⟩
abbrev S4x8x8x128x1 : Shape := ⟨5, ![4, 8, 8, 128, 1]⟩
abbrev S4x8x1024 : Shape := ⟨3, ![4, 8, 1024]⟩
abbrev S1024x4x8 : Shape := ⟨3, ![1024, 4, 8]⟩
abbrev S4096x8x1 : Shape := ⟨3, ![4096, 8, 1]⟩
abbrev S4096x128 : Shape := ⟨2, ![4096, 128]⟩
abbrev S4096x3072 : Shape := ⟨2, ![4096, 3072]⟩
abbrev S1024x12288 : Shape := ⟨2, ![1024, 12288]⟩
abbrev S1024x4096 : Shape := ⟨2, ![1024, 4096]⟩
abbrev S1024x512 : Shape := ⟨2, ![1024, 512]⟩
abbrev S128x1024 : Shape := ⟨2, ![128, 1024]⟩
abbrev S128x128 : Shape := ⟨2, ![128, 128]⟩

abbrev nBuf : Space → Nat
  | .hbm => 173
  | .vmem => 30
  | .smem => 0
  | _ => 0

abbrev hbmTy0_0 (i : Nat) : BufTy := match i % 128 with
  | 0 => ⟨S4096x5120, .bf16⟩
  | 1 => ⟨S4096x2048, .bf16⟩
  | 2 => ⟨S4096x1024, .f32⟩
  | 3 => ⟨S4096x8, .f32⟩
  | 4 => ⟨S4096x1024, .f32⟩
  | 5 => ⟨S4096x8, .f32⟩
  | 6 => ⟨S4096x5120, .f32⟩
  | 7 => ⟨S4096x1024, .f32⟩
  | 8 => ⟨S4096x8x128, .f32⟩
  | 9 => ⟨S4096x1024, .f32⟩
  | 10 => ⟨S4096x8x128, .f32⟩
  | 11 => ⟨S4096x1024, .f32⟩
  | 12 => ⟨S4096x8x128, .f32⟩
  | 13 => ⟨S_, .f32⟩
  | 14 => ⟨S4096x8x128, .f32⟩
  | 15 => ⟨S4096x8x128, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S1024x4x8x128, .f32⟩
  | 30 => ⟨S4x8x1024x128, .f32⟩
  | 31 => ⟨S4x8x8x128x128, .f32⟩
  | 32 => ⟨S1024x4x8x128, .f32⟩
  | 33 => ⟨S4x8x1024x128, .f32⟩
  | 34 => ⟨S4x8x8x128x128, .f32⟩
  | 35 => ⟨S1024x4x8x128, .f32⟩
  | 36 => ⟨S4x8x1024x128, .f32⟩
  | 37 => ⟨S4x8x8x128x128, .f32⟩
  | 38 => ⟨S4x8x1x128x128, .f32⟩
  | 39 => ⟨S_, .f32⟩
  | 40 => ⟨S4x8x1x128x128, .f32⟩
  | 41 => ⟨S4x8x7x128x128, .f32⟩
  | 42 => ⟨S4x8x8x128x128, .f32⟩
  | 43 => ⟨S4x8x8x256x128, .f32⟩
  | 44 => ⟨S4x8x1x128x128, .f32⟩
  | 45 => ⟨S_, .f32⟩
  | 46 => ⟨S4x8x1x128x128, .f32⟩
  | 47 => ⟨S4x8x7x128x128, .f32⟩
  | 48 => ⟨S4x8x8x128x128, .f32⟩
  | 49 => ⟨S4x8x8x256x128, .f32⟩
  | 50 => ⟨S4x8x8x128x256, .f32⟩
  | 51 => ⟨S128, .i32⟩
  | 52 => ⟨S128x1, .i32⟩
  | 53 => ⟨S256, .i32⟩
  | 54 => ⟨S1x256, .i32⟩
  | 55 => ⟨S_, .i32⟩
  | 56 => ⟨S128x1, .i32⟩
  | 57 => ⟨S128x1, .i32⟩
  | 58 => ⟨S128x256, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S_, .i32⟩
  | 65 => ⟨S128x256, .i32⟩
  | 66 => ⟨S128x256, .i1⟩
  | 67 => ⟨S128x256, .i1⟩
  | 68 => ⟨S8, .i32⟩
  | 69 => ⟨S_, .i32⟩
  | 70 => ⟨S8, .i32⟩
  | 71 => ⟨S8, .i1⟩
  | 72 => ⟨S8x1x1, .i1⟩
  | 73 => ⟨S_, .i32⟩
  | 74 => ⟨S1x256, .i32⟩
  | 75 => ⟨S1x256, .i1⟩
  | 76 => ⟨S1x1x256, .i1⟩
  | 77 => ⟨S8x1x256, .i1⟩
  | 78 => ⟨S8x1x256, .i1⟩
  | 79 => ⟨S8x1x256, .i1⟩
  | 80 => ⟨S1x128x256, .i1⟩
  | 81 => ⟨S8x1x256, .i1⟩
  | 82 => ⟨S8x128x256, .i1⟩
  | 83 => ⟨S8x128x256, .i1⟩
  | 84 => ⟨S8x128x256, .i1⟩
  | 85 => ⟨S8x1x1, .f32⟩
  | 86 => ⟨S8x1x1, .f32⟩
  | 87 => ⟨S_, .i32⟩
  | 88 => ⟨S128x256, .i32⟩
  | 89 => ⟨S128x256, .i32⟩
  | 90 => ⟨S128x256, .f32⟩
  | 91 => ⟨S1x128x256, .f32⟩
  | 92 => ⟨S8x128x256, .f32⟩
  | 93 => ⟨S8x128x256, .f32⟩
  | 94 => ⟨S8x128x256, .f32⟩
  | 95 => ⟨S1x8x1x128x256, .f32⟩
  | 96 => ⟨S4x8x8x128x256, .f32⟩
  | 97 => ⟨S4x8x8x128x256, .f32⟩
  | 98 => ⟨S1x1x8x128x256, .i1⟩
  | 99 => ⟨S_, .f32⟩
  | 100 => ⟨S_, .f32⟩
  | 101 => ⟨S4x8x8x128x256, .i1⟩
  | 102 => ⟨S4x8x8x128x256, .f32⟩
  | 103 => ⟨S4x8x8x128x256, .f32⟩
  | 104 => ⟨S_, .f32⟩
  | 105 => ⟨S4x8x8x128, .f32⟩
  | 106 => ⟨S4x8x8x128x1, .f32⟩
  | 107 => ⟨S4x8x8x128x256, .f32⟩
  | 108 => ⟨S4x8x8x128x256, .f32⟩
  | 109 => ⟨S4x8x8x128x256, .f32⟩
  | 110 => ⟨S_, .f32⟩
  | 111 => ⟨S4x8x8x128, .f32⟩
  | 112 => ⟨S4x8x8x128x128, .f32⟩
  | 113 => ⟨S4x8x8x128x1, .f32⟩
  | 114 => ⟨S4x8x8x128x128, .f32⟩
  | 115 => ⟨S4x8x8x128x128, .f32⟩
  | 116 => ⟨S4x8x1024x128, .f32⟩
  | 117 => ⟨S1024x4x8x128, .f32⟩
  | 118 => ⟨S4096x8x128, .f32⟩
  | 119 => ⟨S4x8x8x128, .f32⟩
  | 120 => ⟨S4x8x8x128, .f32⟩
  | 121 => ⟨S4x8x1024, .f32⟩
  | 122 => ⟨S1024x4x8, .f32⟩
  | 123 => ⟨S4096x8, .f32⟩
  | 124 => ⟨S4096x8, .f32⟩
  | 125 => ⟨S4096x8, .f32⟩
  | 126 => ⟨S4096x8, .f32⟩
  | 127 => ⟨S4096x8, .f32⟩
  | _ => ⟨S4096x5120, .bf16⟩

abbrev hbmTy0_1 (i : Nat) : BufTy := match i % 128 with
  | 0 => ⟨S4096x8, .f32⟩
  | 1 => ⟨S4096x8, .f32⟩
  | 2 => ⟨S4096x8, .f32⟩
  | 3 => ⟨S4096x8, .f32⟩
  | 4 => ⟨S4096x8, .f32⟩
  | 5 => ⟨S4096x8, .f32⟩
  | 6 => ⟨S4096x8, .f32⟩
  | 7 => ⟨S4096x8, .f32⟩
  | 8 => ⟨S4096x8, .f32⟩
  | 9 => ⟨S4096x8x1, .f32⟩
  | 10 => ⟨S4096x8x128, .f32⟩
  | 11 => ⟨S4096x8x128, .f32⟩
  | 12 => ⟨S4096x8x128, .f32⟩
  | 13 => ⟨S4096x8x1, .f32⟩
  | 14 => ⟨S4096x8x128, .f32⟩
  | 15 => ⟨S4096x8x128, .f32⟩
  | 16 => ⟨S4096x8x128, .f32⟩
  | 17 => ⟨S4096x8x1, .f32⟩
  | 18 => ⟨S4096x8x128, .f32⟩
  | 19 => ⟨S4096x8x128, .f32⟩
  | 20 => ⟨S4096x8x128, .f32⟩
  | 21 => ⟨S4096x8x128, .f32⟩
  | 22 => ⟨S4096x1024, .bf16⟩
  | 23 => ⟨S4096x1024, .f32⟩
  | 24 => ⟨S4096x8x128, .f32⟩
  | 25 => ⟨S4096x8, .f32⟩
  | 26 => ⟨S4096x8, .f32⟩
  | 27 => ⟨S_, .i32⟩
  | 28 => ⟨S_, .f32⟩
  | 29 => ⟨S4096x128, .f32⟩
  | 30 => ⟨S4096x8x128, .f32⟩
  | 31 => ⟨S_, .f32⟩
  | 32 => ⟨S4096x8, .f32⟩
  | 33 => ⟨S_, .i32⟩
  | 34 => ⟨S_, .f32⟩
  | 35 => ⟨S4096x128, .f32⟩
  | 36 => ⟨S4096x3072, .bf16⟩
  | 37 => ⟨S1024x12288, .bf16⟩
  | 38 => ⟨S4096x1024, .bf16⟩
  | 39 => ⟨S1024x4096, .bf16⟩
  | 40 => ⟨S1024x512, .f32⟩
  | 41 => ⟨S1024x512, .f32⟩
  | 42 => ⟨S1024x4096, .bf16⟩
  | 43 => ⟨S1024x4096, .bf16⟩
  | 44 => ⟨S1024x4096, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_11 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_c_14 : Ref sig .tc := ⟨.hbm, 155, rfl⟩
abbrev main_call1_v0 : Ref sig .tc := ⟨.hbm, 156, rfl⟩
abbrev main_v130 : Ref sig .tc := ⟨.hbm, 157, rfl⟩
abbrev main_v131 : Ref sig .tc := ⟨.hbm, 158, rfl⟩
abbrev main_cst_15 : Ref sig .tc := ⟨.hbm, 159, rfl⟩
abbrev main_v132 : Ref sig .tc := ⟨.hbm, 160, rfl⟩
abbrev main_c_16 : Ref sig .tc := ⟨.hbm, 161, rfl⟩
abbrev main_call2_v0 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140_0 : Ref sig .tc := ⟨.hbm, 170, rfl⟩
abbrev main_v140_1 : Ref sig .tc := ⟨.hbm, 171, rfl⟩
abbrev main_v140_2 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c3_i32 : BitVec 32 := 3#32
  let v2 : BitVec 32 := Scalar.muli arg0 c3_i32
  let c0_i32 : BitVec 32 := 0#32
  let v3 : BitVec 32 := Scalar.addi v2 c0_i32
  let c0_i32_0 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli arg0 c3_i32
  let c1_i32_0 : BitVec 32 := 1#32
  let v3 : BitVec 32 := Scalar.addi v2 c1_i32_0
  let c0_i32_1 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.muli arg0 c3_i32
  let c2_i32 : BitVec 32 := 2#32
  let v3 : BitVec 32 := Scalar.addi v2 c2_i32
  let c0_i32_0 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c1_i32_0 : BitVec 32 := 1#32
  let v2 : BitVec 32 := Scalar.muli arg0 c1_i32_0
  let c0_i32 : BitVec 32 := 0#32
  let v3 : BitVec 32 := Scalar.addi v2 c0_i32
  let c0_i32_1 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c1_i32_0 : BitVec 32 := 1#32
  let v2 : BitVec 32 := Scalar.muli arg0 c1_i32_0
  let c0_i32 : BitVec 32 := 0#32
  let v3 : BitVec 32 := Scalar.addi v2 c0_i32
  let c0_i32_1 : BitVec 32 := 0#32
  ![v1.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c1_i32_0 : BitVec 32 := 1#32
  let v2 : BitVec 32 := Scalar.muli arg0 c1_i32_0
  let c0_i32 : BitVec 32 := 0#32
  let v3 : BitVec 32 := Scalar.addi v2 c0_i32
  let c0_i32_1 : BitVec 32 := 0#32
  ![v1.toNat, v3.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x5120 : Shape := ⟨2, ![4096, 5120]⟩
abbrev S4096x2048 : Shape := ⟨2, ![4096, 2048]⟩
abbrev S4096x1024 : Shape := ⟨2, ![4096, 1024]⟩
abbrev S4096x8 : Shape := ⟨2, ![4096, 8]⟩
abbrev S4096x3072 : Shape := ⟨2, ![4096, 3072]⟩
abbrev S4096x8x128 : Shape := ⟨3, ![4096, 8, 128]⟩
abbrev S_ : Shape := ⟨0, ![]⟩
abbrev S8 : Shape := ⟨1, ![8]⟩
abbrev S1024x4x8x128 : Shape := ⟨4, ![1024, 4, 8, 128]⟩
abbrev S4x8x1024x128 : Shape := ⟨4, ![4, 8, 1024, 128]⟩
abbrev S4x8x8x128x128 : Shape := ⟨5, ![4, 8, 8, 128, 128]⟩
abbrev S4x8x1x128x128 : Shape := ⟨5, ![4, 8, 1, 128, 128]⟩
abbrev S4x8x7x128x128 : Shape := ⟨5, ![4, 8, 7, 128, 128]⟩
abbrev S4x8x8x256x128 : Shape := ⟨5, ![4, 8, 8, 256, 128]⟩
abbrev S4x8x8x128x256 : Shape := ⟨5, ![4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x128x256 : Shape := ⟨5, ![1, 8, 1, 128, 256]⟩
abbrev S1x1x8x128x256 : Shape := ⟨5, ![1, 1, 8, 128, 256]⟩
abbrev S4x8x8x128 : Shape := ⟨4, ![4, 8, 8, 128]⟩
abbrev S4x8x8x128x1 : Shape := ⟨5, ![4, 8, 8, 128, 1]⟩
abbrev S4x8x1024 : Shape := ⟨3, ![4, 8, 1024]⟩
abbrev S1024x4x8 : Shape := ⟨3, ![1024, 4, 8]⟩
abbrev S1x4096x8 : Shape := ⟨3, ![1, 4096, 8]⟩
abbrev S3x4096x8 : Shape := ⟨3, ![3, 4096, 8]⟩
abbrev S3x4096x8x1 : Shape := ⟨4, ![3, 4096, 8, 1]⟩
abbrev S1x4096x8x128 : Shape := ⟨4, ![1, 4096, 8, 128]⟩
abbrev S3x4096x8x128 : Shape := ⟨4, ![3, 4096, 8, 128]⟩
abbrev S1024x4096 : Shape := ⟨2, ![1024, 4096]⟩

abbrev nBuf : Space → Nat
  | .hbm => 318
  | .vmem => 0
  | .smem => 0
  | _ => 0

abbrev hbmTy0_0 (i : Nat) : BufTy := match i % 128 with
  | 0 => ⟨S4096x5120, .bf16⟩
  | 1 => ⟨S4096x2048, .bf16⟩
  | 2 => ⟨S4096x1024, .f32⟩
  | 3 => ⟨S4096x8, .f32⟩
  | 4 => ⟨S4096x1024, .f32⟩
  | 5 => ⟨S4096x8, .f32⟩
  | 6 => ⟨S4096x3072, .bf16⟩
  | 7 => ⟨S4096x3072, .f32⟩
  | 8 => ⟨S4096x1024, .f32⟩
  | 9 => ⟨S4096x1024, .f32⟩
  | 10 => ⟨S4096x1024, .f32⟩
  | 11 => ⟨S4096x1024, .bf16⟩
  | 12 => ⟨S4096x1024, .f32⟩
  | 13 => ⟨S4096x8x128, .f32⟩
  | 14 => ⟨S4096x8x128, .f32⟩
  | 15 => ⟨S_, .f32⟩
  | 16 => ⟨S4096x8x128, .f32⟩
  | 17 => ⟨S4096x8x128, .f32⟩
  | 18 => ⟨S4096x8x128, .f32⟩
  | 19 => ⟨S4096x8x128, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S1024x4x8x128, .f32⟩
  | 34 => ⟨S4x8x1024x128, .f32⟩
  | 35 => ⟨S4x8x8x128x128, .f32⟩
  | 36 => ⟨S1024x4x8x128, .f32⟩
  | 37 => ⟨S4x8x1024x128, .f32⟩
  | 38 => ⟨S4x8x8x128x128, .f32⟩
  | 39 => ⟨S1024x4x8x128, .f32⟩
  | 40 => ⟨S4x8x1024x128, .f32⟩
  | 41 => ⟨S4x8x8x128x128, .f32⟩
  | 42 => ⟨S4x8x1x128x128, .f32⟩
  | 43 => ⟨S_, .f32⟩
  | 44 => ⟨S4x8x1x128x128, .f32⟩
  | 45 => ⟨S4x8x7x128x128, .f32⟩
  | 46 => ⟨S4x8x8x128x128, .f32⟩
  | 47 => ⟨S_, .f32⟩
  | 48 => ⟨S4x8x1x128x128, .f32⟩
  | 49 => ⟨S4x8x8x256x128, .f32⟩
  | 50 => ⟨S4x8x1x128x128, .f32⟩
  | 51 => ⟨S_, .f32⟩
  | 52 => ⟨S4x8x1x128x128, .f32⟩
  | 53 => ⟨S4x8x7x128x128, .f32⟩
  | 54 => ⟨S4x8x8x128x128, .f32⟩
  | 55 => ⟨S_, .f32⟩
  | 56 => ⟨S4x8x1x128x128, .f32⟩
  | 57 => ⟨S4x8x8x256x128, .f32⟩
  | 58 => ⟨S4x8x8x128x256, .f32⟩
  | 59 => ⟨S128, .i32⟩
  | 60 => ⟨S128x1, .i32⟩
  | 61 => ⟨S256, .i32⟩
  | 62 => ⟨S1x256, .i32⟩
  | 63 => ⟨S_, .i32⟩
  | 64 => ⟨S128x1, .i32⟩
  | 65 => ⟨S128x1, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S8, .i32⟩
  | 77 => ⟨S_, .i32⟩
  | 78 => ⟨S8, .i32⟩
  | 79 => ⟨S8, .i1⟩
  | 80 => ⟨S8x1x1, .i1⟩
  | 81 => ⟨S_, .i32⟩
  | 82 => ⟨S1x256, .i32⟩
  | 83 => ⟨S1x256, .i1⟩
  | 84 => ⟨S1x1x256, .i1⟩
  | 85 => ⟨S8x1x256, .i1⟩
  | 86 => ⟨S8x1x256, .i1⟩
  | 87 => ⟨S8x1x256, .i1⟩
  | 88 => ⟨S1x128x256, .i1⟩
  | 89 => ⟨S8x1x256, .i1⟩
  | 90 => ⟨S8x128x256, .i1⟩
  | 91 => ⟨S8x128x256, .i1⟩
  | 92 => ⟨S8x128x256, .i1⟩
  | 93 => ⟨S8x1x1, .f32⟩
  | 94 => ⟨S8x1x1, .f32⟩
  | 95 => ⟨S_, .i32⟩
  | 96 => ⟨S128x256, .i32⟩
  | 97 => ⟨S128x256, .i32⟩
  | 98 => ⟨S128x256, .f32⟩
  | 99 => ⟨S1x128x256, .f32⟩
  | 100 => ⟨S8x128x256, .f32⟩
  | 101 => ⟨S8x128x256, .f32⟩
  | 102 => ⟨S8x128x256, .f32⟩
  | 103 => ⟨S1x8x1x128x256, .f32⟩
  | 104 => ⟨S4x8x8x128x256, .f32⟩
  | 105 => ⟨S4x8x8x128x256, .f32⟩
  | 106 => ⟨S1x1x8x128x256, .i1⟩
  | 107 => ⟨S_, .f32⟩
  | 108 => ⟨S_, .f32⟩
  | 109 => ⟨S4x8x8x128x256, .i1⟩
  | 110 => ⟨S4x8x8x128x256, .f32⟩
  | 111 => ⟨S4x8x8x128x256, .f32⟩
  | 112 => ⟨S_, .f32⟩
  | 113 => ⟨S4x8x8x128x256, .f32⟩
  | 114 => ⟨S_, .f32⟩
  | 115 => ⟨S4x8x8x128, .f32⟩
  | 116 => ⟨S4x8x8x128x1, .f32⟩
  | 117 => ⟨S4x8x8x128x256, .f32⟩
  | 118 => ⟨S4x8x8x128x256, .i1⟩
  | 119 => ⟨S4x8x8x128x256, .f32⟩
  | 120 => ⟨S_, .f32⟩
  | 121 => ⟨S4x8x8x128, .f32⟩
  | 122 => ⟨S4x8x8x128x1, .f32⟩
  | 123 => ⟨S4x8x8x128x256, .f32⟩
  | 124 => ⟨S4x8x8x128x256, .f32⟩
  | 125 => ⟨S4x8x8x128x256, .f32⟩
  | 126 => ⟨S_, .f32⟩
  | 127 => ⟨S4x8x8x128, .f32⟩
  | _ => ⟨S4096x5120, .bf16⟩

abbrev hbmTy0_1 (i : Nat) : BufTy := match i % 128 with
  | 0 => ⟨S4x8x8x128x1, .f32⟩
  | 1 => ⟨S4x8x8x128x128, .f32⟩
  | 2 => ⟨S4x8x8x128x128, .f32⟩
  | 3 => ⟨S4x8x8x128x128, .f32⟩
  | 4 => ⟨S4x8x8x128x1, .f32⟩
  | 5 => ⟨S_, .f32⟩
  | 6 => ⟨S4x8x8x128x1, .f32⟩
  | 7 => ⟨S4x8x8x128x1, .f32⟩
  | 8 => ⟨S4x8x8x128x1, .f32⟩
  | 9 => ⟨S4x8x8x128x1, .f32⟩
  | 10 => ⟨S4x8x8x128, .f32⟩
  | 11 => ⟨S4x8x1024x128, .f32⟩
  | 12 => ⟨S1024x4x8x128, .f32⟩
  | 13 => ⟨S4096x8x128, .f32⟩
  | 14 => ⟨S4x8x1024, .f32⟩
  | 15 => ⟨S1024x4x8, .f32⟩
  | 16 => ⟨S4096x8, .f32⟩
  | 17 => ⟨S1x4096x8, .f32⟩
  | 18 => ⟨S1x4096x8, .f32⟩
  | 19 => ⟨S1x4096x8, .f32⟩
  | 20 => ⟨S3x4096x8, .f32⟩
  | 21 => ⟨S_, .f32⟩
  | 22 => ⟨S4096x8, .f32⟩
  | 23 => ⟨S_, .f32⟩
  | 24 => ⟨S4096x8, .f32⟩
  | 25 => ⟨S_, .f32⟩
  | 26 => ⟨S4096x8, .f32⟩
  | 27 => ⟨S1x4096x8, .f32⟩
  | 28 => ⟨S3x4096x8, .f32⟩
  | 29 => ⟨S3x4096x8, .i1⟩
  | 30 => ⟨S3x4096x8, .f32⟩
  | 31 => ⟨S_, .f32⟩
  | 32 => ⟨S4096x8, .f32⟩
  | 33 => ⟨S_, .f32⟩
  | 34 => ⟨S4096x8, .f32⟩
  | 35 => ⟨S4096x8, .f32⟩
  | 36 => ⟨S_, .f32⟩
  | 37 => ⟨S4096x8, .f32⟩
  | 38 => ⟨S4096x8, .i1⟩
  | 39 => ⟨S_, .f32⟩
  | 40 => ⟨S4096x8, .f32⟩
  | 41 => ⟨S4096x8, .i1⟩
  | 42 => ⟨S_, .f32⟩
  | 43 => ⟨S4096x8, .f32⟩
  | 44 => ⟨S_, .f32⟩
  | 45 => ⟨S4096x8, .f32⟩
  | 46 => ⟨S_, .f32⟩
  | 47 => ⟨S4096x8, .f32⟩
  | 48 => ⟨S4096x8, .f32⟩
  | 49 => ⟨S4096x8, .f32⟩
  | 50 => ⟨S1x4096x8, .f32⟩
  | 51 => ⟨S3x4096x8, .f32⟩
  | 52 => ⟨S3x4096x8, .f32⟩
  | 53 => ⟨S3x4096x8, .f32⟩
  | 54 => ⟨S_, .f32⟩
  | 55 => ⟨S4096x8, .f32⟩
  | 56 => ⟨S1x4096x8, .f32⟩
  | 57 => ⟨S3x4096x8, .f32⟩
  | 58 => ⟨S3x4096x8, .f32⟩
  | 59 => ⟨S1x4096x8, .f32⟩
  | 60 => ⟨S_, .f32⟩
  | 61 => ⟨S1x4096x8, .f32⟩
  | 62 => ⟨S1x4096x8, .f32⟩
  | 63 => ⟨S3x4096x8x1, .f32⟩
  | 64 => ⟨S4096x8x128, .f32⟩
  | 65 => ⟨S4096x8x128, .f32⟩
  | 66 => ⟨S1x4096x8x128, .f32⟩
  | 67 => ⟨S1x4096x8x128, .f32⟩
  | 68 => ⟨S1x4096x8x128, .f32⟩
  | 69 => ⟨S3x4096x8x128, .f32⟩
  | 70 => ⟨S_, .f32⟩
  | 71 => ⟨S4096x8x128, .f32⟩
  | 72 => ⟨S_, .f32⟩
  | 73 => ⟨S4096x8x128, .f32⟩
  | 74 => ⟨S3x4096x8x128, .f32⟩
  | 75 => ⟨S3x4096x8x128, .f32⟩
  | 76 => ⟨S_, .f32⟩
  | 77 => ⟨S4096x8x128, .f32⟩
  | 78 => ⟨S3x4096x8x128, .f32⟩
  | 79 => ⟨S3x4096x8x128, .f32⟩
  | 80 => ⟨S3x4096x8x128, .f32⟩
  | 81 => ⟨S3x4096x8x128, .f32⟩
  | 82 => ⟨S_, .f32⟩
  | 83 => ⟨S3x4096x8, .f32⟩
  | 84 => ⟨S3x4096x8x1, .f32⟩
  | 85 => ⟨S1x4096x8x128, .f32⟩
  | 86 => ⟨S4096x8x128, .f32⟩
  | 87 => ⟨S1x4096x8x128, .f32⟩
  | 88 => ⟨S4096x8x128, .f32⟩
  | 89 => ⟨S1x4096x8x128, .f32⟩
  | 90 => ⟨S4096x8x128, .f32⟩
  | 91 => ⟨S_, .f32⟩
  | 92 => ⟨S3x4096x8, .f32⟩
  | 93 => ⟨S3x4096x8, .f32⟩
  | 94 => ⟨S3x4096x8, .f32⟩
  | 95 => ⟨S3x4096x8, .f32⟩
  | 96 => ⟨S_, .f32⟩
  | 97 => ⟨S4096x8, .f32⟩
  | 98 => ⟨S1x4096x8, .f32⟩
  | 99 => ⟨S1x4096x8, .f32⟩
  | 100 => ⟨S3x4096x8, .f32⟩
  | 101 => ⟨S3x4096x8, .f32⟩
  | 102 => ⟨S_, .f32⟩
  | 103 => ⟨S4096x8, .f32⟩
  | 104 => ⟨S3x4096x8, .f32⟩
  | 105 => ⟨S3x4096x8, .f32⟩
  | 106 => ⟨S3x4096x8, .f32⟩
  | 107 => ⟨S1x4096x8, .f32⟩
  | 108 => ⟨S4096x8, .f32⟩
  | 109 => ⟨S1x4096x8, .f32⟩
  | 110 => ⟨S4096x8, .f32⟩
  | 111 => ⟨S1x4096x8, .f32⟩
  | 112 => ⟨S4096x8, .f32⟩
  | 113 => ⟨S1024x4x8, .f32⟩
  | 114 => ⟨S4x8x1024, .f32⟩
  | 115 => ⟨S4x8x8x128, .f32⟩
  | 116 => ⟨S1024x4x8x128, .f32⟩
  | 117 => ⟨S4x8x1024x128, .f32⟩
  | 118 => ⟨S4x8x8x128x128, .f32⟩
  | 119 => ⟨S4x8x8x128x1, .f32⟩
  | 120 => ⟨S4x8x8x128x1, .f32⟩
  | 121 => ⟨S4x8x8x128x128, .f32⟩
  | 122 => ⟨S4x8x8x128x128, .f32⟩
  | 123 => ⟨S4x8x8x128x128, .f32⟩
  | 124 => ⟨S_, .f32⟩
  | 125 => ⟨S4x8x8x128, .f32⟩
  | 126 => ⟨S4x8x8x128x1, .f32⟩
  | 127 => ⟨S4x8x8x128x1, .f32⟩
  | _ => ⟨S4096x5120, .bf16⟩

abbrev hbmTy0_2 (i : Nat) : BufTy := match i % 128 with
  | 0 => ⟨S4x8x8x128x1, .f32⟩
  | 1 => ⟨S4x8x8x128x128, .f32⟩
  | 2 => ⟨S4x8x8x128x128, .f32⟩
  | 3 => ⟨S4x8x8x128x256, .f32⟩
  | 4 => ⟨S4x8x8x256x128, .f32⟩
  | 5 => ⟨S4x8x8x128x256, .f32⟩
  | 6 => ⟨S_, .f32⟩
  | 7 => ⟨S4x8x8x128, .f32⟩
  | 8 => ⟨S4x8x8x128x256, .f32⟩
  | 9 => ⟨S4x8x8x128x256, .f32⟩
  | 10 => ⟨S4x8x8x128x256, .f32⟩
  | 11 => ⟨S4x8x8x128x256, .f32⟩
  | 12 => ⟨S_, .f32⟩
  | 13 => ⟨S4x8x8x128, .f32⟩
  | 14 => ⟨S4x8x8x128x1, .f32⟩
  | 15 => ⟨S4x8x8x128x1, .f32⟩
  | 16 => ⟨S_, .f32⟩
  | 17 => ⟨S4x8x8x128, .f32⟩
  | 18 => ⟨S4x8x8x128, .f32⟩
  | 19 => ⟨S4x8x8x128x256, .f32⟩
  | 20 => ⟨S4x8x8x128x256, .f32⟩
  | 21 => ⟨S4x8x8x128x256, .f32⟩
  | 22 => ⟨S_, .f32⟩
  | 23 => ⟨S4x8x8x128x256, .f32⟩
  | 24 => ⟨S4x8x8x128x256, .f32⟩
  | 25 => ⟨S4x8x8x256x128, .f32⟩
  | 26 => ⟨S4x8x8x128x128, .f32⟩
  | 27 => ⟨S4x8x8x128x128, .f32⟩
  | 28 => ⟨S4x8x8x128x128, .f32⟩
  | 29 => ⟨S4x8x1x128x128, .f32⟩
  | 30 => ⟨S4x8x7x128x128, .f32⟩
  | 31 => ⟨S_, .f32⟩
  | 32 => ⟨S4x8x8x128x128, .f32⟩
  | 33 => ⟨S4x8x8x128x128, .f32⟩
  | 34 => ⟨S4x8x8x128x128, .f32⟩
  | 35 => ⟨S4x8x8x128x128, .f32⟩
  | 36 => ⟨S4x8x1x128x128, .f32⟩
  | 37 => ⟨S4x8x7x128x128, .f32⟩
  | 38 => ⟨S_, .f32⟩
  | 39 => ⟨S4x8x8x128x128, .f32⟩
  | 40 => ⟨S4x8x8x128x128, .f32⟩
  | 41 => ⟨S4x8x1024x128, .f32⟩
  | 42 => ⟨S1024x4x8x128, .f32⟩
  | 43 => ⟨S4096x8x128, .f32⟩
  | 44 => ⟨S4x8x1024x128, .f32⟩
  | 45 => ⟨S1024x4x8x128, .f32⟩
  | 46 => ⟨S4096x8x128, .f32⟩
  | 47 => ⟨S4x8x1024x128, .f32⟩
  | 48 => ⟨S1024x4x8x128, .f32⟩
  | 49 => ⟨S4096x8x128, .f32⟩
  | 50 => ⟨S4096x1024, .f32⟩
  | 51 => ⟨S4096x1024, .f32⟩
  | 52 => ⟨S_, .f32⟩
  | 53 => ⟨S4096x8x128, .f32⟩
  | 54 => ⟨S4096x8x128, .f32⟩
  | 55 => ⟨S4096x1024, .f32⟩
  | 56 => ⟨S1024x4096, .f32⟩
  | 57 => ⟨S1024x4096, .bf16⟩
  | 58 => ⟨S1024x4096, .f32⟩
  | 59 => ⟨S1024x4096, .bf16⟩
  | 60 => ⟨S1024x4096, .f32⟩
  | 61 => ⟨S1024x4096, .bf16⟩
  | _ => ⟨S4096x5120, .bf16⟩

abbrev hbmTy (i : Nat) : BufTy := match i / 128 with
  | 0 => hbmTy0_0 i
  | 1 => hbmTy0_1 i
  | 2 => hbmTy0_2 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_call0_v0 : Ref sig .tc := ⟨.hbm, 108, rfl⟩
abbrev main_v86_1 : Ref sig .tc := ⟨.hbm, 109, rfl⟩
abbrev main_call0_v2 : Ref sig .tc := ⟨.hbm, 110, rfl⟩
abbrev main_v86_0 : Ref sig .tc := ⟨.hbm, 111, rfl⟩
abbrev main_call0_cst : Ref sig .tc := ⟨.hbm, 112, rfl⟩
abbrev main_v86_2 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_17 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_18 : Ref sig .tc := ⟨.hbm, 149, rfl⟩
abbrev main_v118 : Ref sig .tc := ⟨.hbm, 150, rfl⟩
abbrev main_cst_19 : Ref sig .tc := ⟨.hbm, 151, rfl⟩
abbrev main_v119 : Ref sig .tc := ⟨.hbm, 152, rfl⟩
abbrev main_cst_20 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_21 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_cst_23 : Ref sig .tc := ⟨.hbm, 164, rfl⟩
abbrev main_v128 : Ref sig .tc := ⟨.hbm, 165, rfl⟩
abbrev main_v129 : Ref sig .tc := ⟨.hbm, 166, rfl⟩
abbrev main_cst_24 : Ref sig .tc := ⟨.hbm, 167, rfl⟩
abbrev main_v130 : Ref sig .tc := ⟨.hbm, 168, rfl⟩
abbrev main_v131 : Ref sig .tc := ⟨.hbm, 169, rfl⟩
abbrev main_cst_25 : Ref sig .tc := ⟨.hbm, 170, rfl⟩
abbrev main_v132 : Ref sig .tc := ⟨.hbm, 171, rfl⟩
abbrev main_cst_26 : Ref sig .tc := ⟨.hbm, 172, rfl⟩
abbrev main_v133 : Ref sig .tc := ⟨.hbm, 173, rfl⟩
abbrev main_cst_27 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_28 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_29 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_30 : Ref sig .tc := ⟨.hbm, 198, rfl⟩
abbrev main_v155 : Ref sig .tc := ⟨.hbm, 199, rfl⟩
abbrev main_cst_31 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_32 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_33 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_34 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_35 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_36 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_cst_37 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_cst_38 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_cst_39 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_cst_40 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_call1_cst : Ref sig .tc := ⟨.hbm, 278, rfl⟩
abbrev main_call1_v0 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_41 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_cst_42 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_cst_43 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S4096x8192, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x8192, .f32⟩
  | .hbm, ⟨3, _⟩ => ⟨S2048x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel9.lean ====
abbrev S1x2048x1280 : Shape := ⟨3, ![1, 2048, 1280]⟩
abbrev S1x256x1280 : Shape := ⟨3, ![1, 256, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1280, .f32⟩
  | .hbm, ⟨1, _⟩ => ⟨S1x2048x1280, .f32⟩
  | .hbm, ⟨2, _⟩ => ⟨S1x2048x1280, .f32⟩
  | .hbm, ⟨3, _⟩ => ⟨S1x2048x1280, .f32⟩
  | .hbm, ⟨4, _⟩ => ⟨S1x2048x1280, .f32⟩
  | .hbm, ⟨5, _⟩ => ⟨S1x2048x1280, .f32⟩
  | .hbm, ⟨6, _⟩ => ⟨S1x2048x1280, .f32⟩
  | .hbm, ⟨7, _⟩ => ⟨S1x2048x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | _, _ => ⟨S1x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S1x2048x1280 : Shape := ⟨3, ![1, 2048, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1280, .f32⟩
  | .hbm, ⟨1, _⟩ => ⟨S1x2048x1280, .f32⟩
  | .hbm, ⟨2, _⟩ => ⟨S1x2048x1280, .f32⟩
  | .hbm, ⟨3, _⟩ => ⟨S1x2048x1280, .f32⟩
  | .hbm, ⟨4, _⟩ => ⟨S_, .f32⟩
  | .hbm, ⟨5, _⟩ => ⟨S1x2048x1280, .f32⟩
  | .hbm, ⟨6, _⟩ => ⟨S1x2048x1280, .f32⟩
  | .hbm, ⟨7, _⟩ => ⟨S_, .f32⟩
  | .hbm, ⟨8, _⟩ => ⟨S1x2048x1280, .f32⟩
  | .hbm, ⟨9, _⟩ => ⟨S1x2048x1280, .f32⟩
  | .hbm, ⟨10, _⟩ => ⟨S1x2048x1280, .f32⟩
  | .hbm, ⟨11, _⟩ => ⟨S_, .f32⟩
  | .hbm, ⟨12, _⟩ => ⟨S1x2048x1280, .f32⟩
  | .hbm, ⟨13, _⟩ => ⟨S1x2048x1280, .f32⟩
  | .hbm, ⟨14, _⟩ => ⟨S1x2048x1280, .f32⟩
  | .hbm, ⟨15, _⟩ => ⟨S_, .f32⟩
  | .hbm, ⟨16, _⟩ => ⟨S1x2048x1280, .f32⟩
  | .hbm, ⟨17, _⟩ => ⟨S1x2048x1280, .f32⟩
  | .hbm, ⟨18, _⟩ => ⟨S1x2048x1280, .f32⟩
  | .hbm, ⟨19, _⟩ => ⟨S_, .f32⟩
  | .hbm, ⟨20, _⟩ => ⟨S1x2048x1280, .f32⟩
  | .hbm, ⟨21, _⟩ => ⟨S1x2048x1280, .f32⟩
  | .hbm, ⟨22, _⟩ => ⟨S_, .f32⟩
  | .hbm, ⟨23, _⟩ => ⟨S1x2048x1280, .f32⟩
  | .hbm, ⟨24, _⟩ => ⟨S1x2048x1280, .f32⟩
  | .hbm, ⟨25, _⟩ => ⟨S1x2048x1280, .f32⟩
  | .hbm, ⟨26, _⟩ => ⟨S_, .f32⟩
  | .hbm, ⟨27, _⟩ => ⟨S1x2048x1280, .f32⟩
  | .hbm, ⟨28, _⟩ => ⟨S1x2048x1280, .f32⟩
  | .hbm, ⟨29, _⟩ => ⟨S1x2048x1280, .f32⟩
  | .hbm, ⟨30, _⟩ => ⟨S_, .f32⟩
  | .hbm, ⟨31, _⟩ => ⟨S1x2048x1280, .f32⟩
  | .hbm, ⟨32, _⟩ => ⟨S1x2048x1280, .f32⟩
  | .hbm, ⟨33, _⟩ => ⟨S1x2048x1280, .f32⟩
  | .hbm, ⟨34, _⟩ => ⟨S_, .f32⟩
  | .hbm, ⟨35, _⟩ => ⟨S1x2048x1280, .f32⟩
  | .hbm, ⟨36, _⟩ => ⟨S1x2048x1280, .f32⟩
  | _, _ => ⟨S1x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1x2048x1536 : Shape := ⟨3, ![1, 2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S1x2048x1536, .f32⟩
  | .hbm, ⟨7, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S1x2048x1536 : Shape := ⟨3, ![1, 2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S_, .f32⟩
  | .hbm, ⟨5, _⟩ => ⟨S1x2048x1536, .f32⟩
  | .hbm, ⟨6, _⟩ => ⟨S1x2048x1536, .f32⟩
  | .hbm, ⟨7, _⟩ => ⟨S_, .f32⟩
  | .hbm, ⟨8, _⟩ => ⟨S1x2048x1536, .f32⟩
  | .hbm, ⟨9, _⟩ => ⟨S1x2048x1536, .f32⟩
  | .hbm, ⟨10, _⟩ => ⟨S1x2048x1536, .f32⟩
  | .hbm, ⟨11, _⟩ => ⟨S_, .f32⟩
  | .hbm, ⟨12, _⟩ => ⟨S1x2048x1536, .f32⟩
  | .hbm, ⟨13, _⟩ => ⟨S1x2048x1536, .f32⟩
  | .hbm, ⟨14, _⟩ => ⟨S1x2048x1536, .f32⟩
  | .hbm, ⟨15, _⟩ => ⟨S_, .f32⟩
  | .hbm, ⟨16, _⟩ => ⟨S1x2048x1536, .f32⟩
  | .hbm, ⟨17, _⟩ => ⟨S1x2048x1536, .f32⟩
  | .hbm, ⟨18, _⟩ => ⟨S1x2048x1536, .f32⟩
  | .hbm, ⟨19, _⟩ => ⟨S_, .f32⟩
  | .hbm, ⟨20, _⟩ => ⟨S1x2048x1536, .f32⟩
  | .hbm, ⟨21, _⟩ => ⟨S1x2048x1536, .f32⟩
  | .hbm, ⟨22, _⟩ => ⟨S_, .f32⟩
  | .hbm, ⟨23, _⟩ => ⟨S1x2048x1536, .f32⟩
  | .hbm, ⟨24, _⟩ => ⟨S1x2048x1536, .f32⟩
  | .hbm, ⟨25, _⟩ => ⟨S1x2048x1536, .f32⟩
  | .hbm, ⟨26, _⟩ => ⟨S_, .f32⟩
  | .hbm, ⟨27, _⟩ => ⟨S1x2048x1536, .f32⟩
  | .hbm, ⟨28, _⟩ => ⟨S1x2048x1536, .f32⟩
  | .hbm, ⟨29, _⟩ => ⟨S1x2048x1536, .f32⟩
  | .hbm, ⟨30, _⟩ => ⟨S_, .f32⟩
  | .hbm, ⟨31, _⟩ => ⟨S1x2048x1536, .f32⟩
  | .hbm, ⟨32, _⟩ => ⟨S1x2048x1536, .f32⟩
  | .hbm, ⟨33, _⟩ => ⟨S1x2048x1536, .f32⟩
  | .hbm, ⟨34, _⟩ => ⟨S_, .f32⟩
  | .hbm, ⟨35, _⟩ => ⟨S1x2048x1536, .f32⟩
  | .hbm, ⟨36, _⟩ => ⟨S1x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2x2048x2048 : Shape := ⟨3, ![2, 2048, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S2x2048x2048 : Shape := ⟨3, ![2, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1176x128 : Shape := ⟨2, ![1176, 128]⟩
abbrev S8x1176x128 : Shape := ⟨3, ![8, 1176, 128]⟩
abbrev S1x1176x128 : Shape := ⟨3, ![1, 1176, 128]⟩

abbrev nBuf : Space → Nat
  | .hbm => 9
  | .vmem => 9
  | .smem => 0
  | _ => 0

abbrev bufTy : (tb : Table) → Fin (tcTables nBuf tb) → BufTy
  | .hbm, ⟨0, _⟩ => ⟨S1176x128, .f32⟩
  | .hbm, ⟨1, _⟩ => ⟨S8x1176x128, .f32⟩
  | .hbm, ⟨2, _⟩ => ⟨S1176x128, .f32⟩
  | .hbm, ⟨3, _⟩ => ⟨S1176x128, .f32⟩
  | .hbm, ⟨4, _⟩ => ⟨S1176x128, .f32⟩
  | .hbm, ⟨5, _⟩ => ⟨S1176x128, .f32⟩
  | .hbm, ⟨6, _⟩ => ⟨S1176x128, .f32⟩
  | .hbm, ⟨7, _⟩ => ⟨S1176x128, .f32⟩
  | .hbm, ⟨8, _⟩ => ⟨S1176x128, .f32⟩
  | .local _ .vmem, ⟨0, _⟩ => ⟨S1176x128, .f32⟩
  | .local _ .vmem, ⟨1, _⟩ => ⟨S8x1176x128, .f32⟩
  | .local _ .vmem, ⟨2, _⟩ => ⟨S1176x128, .f32⟩
  | .local _ .vmem, ⟨3, _⟩ => ⟨S1176x128, .f32⟩
  | .local _ .vmem, ⟨4, _⟩ => ⟨S1176x128, .f32⟩
  | .local _ .vmem, ⟨5, _⟩ => ⟨S1176x128, .f32⟩
  | .local _ .vmem, ⟨6, _⟩ => ⟨S1176x128, .f32⟩
  | .local _ .vmem, ⟨7, _⟩ => ⟨S1176x128, .f32⟩
  | .local _ .vmem, ⟨8, _⟩ => ⟨S1176x128, .f32⟩
  | _, _ => ⟨S1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1176x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference13Ideal.lean ====
abbrev S1176x128 : Shape := ⟨2, ![1176, 128]⟩
abbrev S8x1176x128 : Shape := ⟨3, ![8, 1176, 128]⟩
abbrev S7x1176x128 : Shape := ⟨3, ![7, 1176, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1176x128, .f32⟩
  | .hbm, ⟨1, _⟩ => ⟨S8x1176x128, .f32⟩
  | .hbm, ⟨2, _⟩ => ⟨S1176x128, .f32⟩
  | .hbm, ⟨3, _⟩ => ⟨S1176x128, .f32⟩
  | .hbm, ⟨4, _⟩ => ⟨S1176x128, .f32⟩
  | .hbm, ⟨5, _⟩ => ⟨S7x1176x128, .f32⟩
  | .hbm, ⟨6, _⟩ => ⟨S_, .f32⟩
  | .hbm, ⟨7, _⟩ => ⟨S1176x128, .f32⟩
  | .hbm, ⟨8, _⟩ => ⟨S1176x128, .f32⟩
  | .hbm, ⟨9, _⟩ => ⟨S_, .f32⟩
  | .hbm, ⟨10, _⟩ => ⟨S1176x128, .f32⟩
  | .hbm, ⟨11, _⟩ => ⟨S1176x128, .f32⟩
  | .hbm, ⟨12, _⟩ => ⟨S_, .f32⟩
  | .hbm, ⟨13, _⟩ => ⟨S1176x128, .f32⟩
  | .hbm, ⟨14, _⟩ => ⟨S1176x128, .f32⟩
  | .hbm, ⟨15, _⟩ => ⟨S1176x128, .f32⟩
  | .hbm, ⟨16, _⟩ => ⟨S_, .f32⟩
  | .hbm, ⟨17, _⟩ => ⟨S1176x128, .f32⟩
  | .hbm, ⟨18, _⟩ => ⟨S1176x128, .f32⟩
  | .hbm, ⟨19, _⟩ => ⟨S1176x128, .f32⟩
  | .hbm, ⟨20, _⟩ => ⟨S_, .f32⟩
  | .hbm, ⟨21, _⟩ => ⟨S1176x128, .f32⟩
  | .hbm, ⟨22, _⟩ => ⟨S1176x128, .f32⟩
  | .hbm, ⟨23, _⟩ => ⟨S1176x128, .f32⟩
  | .hbm, ⟨24, _⟩ => ⟨S_, .f32⟩
  | .hbm, ⟨25, _⟩ => ⟨S1176x128, .f32⟩
  | .hbm, ⟨26, _⟩ => ⟨S1176x128, .f32⟩
  | .hbm, ⟨27, _⟩ => ⟨S_, .f32⟩
  | .hbm, ⟨28, _⟩ => ⟨S1176x128, .f32⟩
  | .hbm, ⟨29, _⟩ => ⟨S1176x128, .f32⟩
  | .hbm, ⟨30, _⟩ => ⟨S1176x128, .f32⟩
  | .hbm, ⟨31, _⟩ => ⟨S_, .f32⟩
  | .hbm, ⟨32, _⟩ => ⟨S1176x128, .f32⟩
  | .hbm, ⟨33, _⟩ => ⟨S1176x128, .f32⟩
  | .hbm, ⟨34, _⟩ => ⟨S1176x128, .f32⟩
  | .hbm, ⟨35, _⟩ => ⟨S_, .f32⟩
  | .hbm, ⟨36, _⟩ => ⟨S1176x128, .f32⟩
  | .hbm, ⟨37, _⟩ => ⟨S1176x128, .f32⟩
  | .hbm, ⟨38, _⟩ => ⟨S1176x128, .f32⟩
  | .hbm, ⟨39, _⟩ => ⟨S_, .f32⟩
  | .hbm, ⟨40, _⟩ => ⟨S1176x128, .f32⟩
  | .hbm, ⟨41, _⟩ => ⟨S1176x128, .f32⟩
  | _, _ => ⟨S1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | .hbm, ⟨5, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x5120 : Shape := ⟨2, ![4096, 5120]⟩
abbrev S2048x5120 : Shape := ⟨2, ![2048, 5120]⟩
abbrev S4096x2048 : Shape := ⟨2, ![4096, 2048]⟩
abbrev S1024x1280 : Shape := ⟨2, ![1024, 1280]⟩
abbrev S2048x1280 : Shape := ⟨2, ![2048, 1280]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .bf16⟩
  | .local _ .vmem, ⟨0, _⟩ => ⟨S1024x1280, .bf16⟩
  | .local _ .vmem, ⟨1, _⟩ => ⟨S1024x1280, .bf16⟩
  | .local _ .vmem, ⟨2, _⟩ => ⟨S2048x1280, .bf16⟩
  | .local _ .vmem, ⟨3, _⟩ => ⟨S2048x1280, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x5120, .f32⟩
  | .hbm, ⟨3, _⟩ => ⟨S2048x5120, .f32⟩
  | .hbm, ⟨4, _⟩ => ⟨S_, .f32⟩
  | .hbm, ⟨5, _⟩ => ⟨S4096x2048, .f32⟩
  | .hbm, ⟨6, _⟩ => ⟨S4096x5120, .f32⟩
  | .hbm, ⟨7, _⟩ => ⟨S4096x2048, .f32⟩
  | .hbm, ⟨8, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x2048 : Shape := ⟨2, ![4096, 2048]⟩
abbrev S4096x5120 : Shape := ⟨2, ![4096, 5120]⟩
abbrev S2048x5120 : Shape := ⟨2, ![2048, 5120]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x6144, .f32⟩
  | .hbm, ⟨3, _⟩ => ⟨S2048x6144, .f32⟩
  | .hbm, ⟨4, _⟩ => ⟨S_, .f32⟩
  | .hbm, ⟨5, _⟩ => ⟨S4096x2048, .f32⟩
  | .hbm, ⟨6, _⟩ => ⟨S4096x6144, .f32⟩
  | .hbm, ⟨7, _⟩ => ⟨S4096x2048, .f32⟩
  | .hbm, ⟨8, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S_, .f32⟩
  | .hbm, ⟨5, _⟩ => ⟨S2048x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Row.lean ====
/- One row of the dilated attention over the reals: a query, its 256 candidate keys (some of them masked), and the
   softmax merge of its result with the results of two other branches. What the forward pass saves of the row, and
   the gradient of the row's result with respect to its scores, in the two forms the programs compute it. -/
module

public import Mathlib.Analysis.SpecialFunctions.Log.Basic
public import Mathlib.Data.EReal.Operations
public import Mathlib.Algebra.BigOperators.Fin
public import Mathlib.Algebra.BigOperators.Field
public import Mathlib.Data.Finset.Fold

@[expose] public section

noncomputable section

namespace Dil

open scoped Classical

/-- The data of one row: which keys count, their scores and values, the gradient of the row's result, and the
    log-sums and results of the two other branches. -/
structure Row where
  ok : Fin 256 → Prop
  s : Fin 256 → ℝ
  v : Fin 256 → Fin 128 → ℝ
  c : Fin 128 → ℝ
  l1 : ℝ
  l3 : ℝ
  o1 : Fin 128 → ℝ
  o3 : Fin 128 → ℝ

namespace Row

variable (R : Row)

/-- The masked scores, `⊥` where a key does not count. -/
def mask (x : Fin 256) : EReal := if R.ok x then (R.s x : EReal) else ⊥

/-- The greatest score. -/
def mu : ℝ := (Finset.univ.fold max ⊥ R.mask).toReal

/-- The exponentials, zero where a key does not count. -/
def p (x : Fin 256) : ℝ := if R.ok x then Real.exp (R.s x - R.mu) else 0

def den : ℝ := ∑ x, R.p x

def num (e : Fin 128) : ℝ := ∑ x, R.p x * R.v x e

/-- The log-sum of this branch. -/
def lam : ℝ := R.mu + Real.log R.den

/-- The greatest of the three log-sums and the three weights before their division by the sum. -/
def top : ℝ := max (max R.l1 R.lam) R.l3
def w1 : ℝ := Real.exp (R.l1 - R.top)
def w2 : ℝ := Real.exp (R.lam - R.top)
def w3 : ℝ := Real.exp (R.l3 - R.top)
def wsum : ℝ := R.w1 + R.w2 + R.w3

/-- The log-sum over the three branches. -/
def ltot : ℝ := R.top + Real.log R.wsum

/-- The merged result, and its product with the incoming gradient. -/
def mix (e : Fin 128) : ℝ := R.w1 / R.wsum * R.o1 e + R.w2 / R.wsum * (R.num e / R.den) + R.w3 / R.wsum * R.o3 e
def delta : ℝ := ∑ e, R.c e * R.mix e

/-- The probabilities under the common log-sum, and the gradient with respect to the scores. -/
def prob (x : Fin 256) : ℝ := if R.ok x then Real.exp (R.s x - R.ltot) else 0
def ds (x : Fin 256) : ℝ := R.prob x * ((∑ e, R.c e * R.v x e) - R.delta)

theorem fold_max_bot {ι : Type} (S : Finset ι) (f : ι → EReal) (hf : ∀ x ∈ S, f x ≠ ⊤) :
    S.fold max ⊥ f ≠ ⊤ := by
  classical
  induction S using Finset.induction with
  | empty => simp
  | insert a S ha ih =>
    rw [Finset.fold_insert ha]
    have h1 := hf a (Finset.mem_insert_self a S)
    have h2 := ih fun x hx => hf x (Finset.mem_insert_of_mem hx)
    intro h
    rcases max_choice (f a) (S.fold max ⊥ f) with h' | h' <;> rw [h'] at h <;> contradiction

theorem le_fold_max {ι : Type} (S : Finset ι) (f : ι → EReal) (a : ι) (ha : a ∈ S) : f a ≤ S.fold max ⊥ f := by
  rw [Finset.le_fold_max]; exact Or.inr ⟨a, ha, le_rfl⟩

/-- Some key counts, so the greatest score is a number. -/
theorem fold_mask (h : ∃ x, R.ok x) : Finset.univ.fold max ⊥ R.mask = (R.mu : EReal) := by
  obtain ⟨a, ha⟩ := h
  refine (EReal.coe_toReal ?_ ?_).symm
  · refine fold_max_bot _ _ fun x _ => ?_
    unfold mask; split
    · exact EReal.coe_ne_top _
    · exact bot_ne_top
  · intro hb
    have := le_fold_max Finset.univ R.mask a (Finset.mem_univ a)
    rw [hb, le_bot_iff, mask, if_pos ha] at this
    exact EReal.coe_ne_bot _ this

theorem fold_max_attained {ι : Type} (S : Finset ι) (f : ι → EReal) :
    S.fold max ⊥ f = ⊥ ∨ ∃ a, S.fold max ⊥ f = f a := by
  classical
  induction S using Finset.induction with
  | empty => left; simp
  | insert a S ha ih =>
    rw [Finset.fold_insert ha]
    rcases max_choice (f a) (S.fold max ⊥ f) with h' | h' <;> rw [h']
    · exact Or.inr ⟨a, rfl⟩
    · exact ih

/-- The greatest score is some key's. -/
theorem mu_attained (h : ∃ x, R.ok x) : ∃ a, R.mask a = (R.mu : EReal) := by
  rcases fold_max_attained Finset.univ R.mask with h' | ⟨a, ha⟩
  · rw [R.fold_mask h] at h'; exact absurd h' (EReal.coe_ne_bot _)
  · exact ⟨a, by rw [← ha, R.fold_mask h]⟩

theorem ds_of_not_ok (x : Fin 256) (h : ¬R.ok x) : R.ds x = 0 := by unfold ds prob; rw [if_neg h, zero_mul]

theorem p_nonneg (x : Fin 256) : 0 ≤ R.p x := by
  unfold p; split
  · exact (Real.exp_pos _).le
  · exact le_rfl

theorem den_pos (h : ∃ x, R.ok x) : 0 < R.den := by
  obtain ⟨a, ha⟩ := h
  refine Finset.sum_pos' (fun x _ => R.p_nonneg x) ⟨a, Finset.mem_univ a, ?_⟩
  unfold p; rw [if_pos ha]; exact Real.exp_pos _

theorem wsum_pos : 0 < R.wsum := by
  have h1 := Real.exp_pos (R.l1 - R.top)
  have h2 := Real.exp_pos (R.lam - R.top)
  have h3 := Real.exp_pos (R.l3 - R.top)
  unfold wsum w1 w2 w3; linarith

/-- A probability under the common log-sum is the branch's own, weighted. -/
theorem prob_eq (h : ∃ x, R.ok x) (x : Fin 256) : R.w2 / R.wsum / R.den * R.p x = R.prob x := by
  have hd := R.den_pos h
  have hw := R.wsum_pos
  unfold prob p
  split
  · have e1 : Real.exp (R.s x - R.ltot) = Real.exp (R.s x - R.mu) * Real.exp (R.mu - R.top) / R.wsum := by
      rw [← Real.exp_add, div_eq_mul_inv, ← Real.exp_log hw, ← Real.exp_neg, ← Real.exp_add]
      congr 1; unfold ltot; ring
    have e2 : R.w2 = Real.exp (R.mu - R.top) * R.den := by
      unfold w2 lam
      rw [← Real.exp_log hd, ← Real.exp_add, Real.log_exp]; congr 1; ring
    rw [e1, e2]; field_simp
  · simp

/-- The three products of a branch's result with the incoming gradient. -/
def g1 : ℝ := ∑ e, R.c e * R.o1 e
def g2 : ℝ := ∑ e, R.c e * (R.num e / R.den)
def g3 : ℝ := ∑ e, R.c e * R.o3 e

theorem delta_eq : R.delta = (R.w1 * R.g1 + R.w2 * R.g2 + R.w3 * R.g3) / R.wsum := by
  have e : ∀ e, R.c e * R.mix e = R.w1 / R.wsum * (R.c e * R.o1 e) + R.w2 / R.wsum * (R.c e * (R.num e / R.den))
      + R.w3 / R.wsum * (R.c e * R.o3 e) := fun e => by unfold mix; ring
  unfold delta g1 g2 g3
  simp only [e, Finset.sum_add_distrib, ← Finset.mul_sum]
  ring

/-- The gradient of the log-sum of this branch, through the three weights. -/
def dlam : ℝ := (R.g2 / R.wsum + -(R.g1 * (1 / (R.wsum * R.wsum)) * R.w1 + R.g2 * (1 / (R.wsum * R.wsum)) * R.w2
  + R.g3 * (1 / (R.wsum * R.wsum)) * R.w3)) * R.w2

theorem dlam_eq : R.dlam = R.w2 / R.wsum * (R.g2 - R.delta) := by
  have hw := R.wsum_pos.ne'
  rw [delta_eq, dlam]; field_simp; ring

/-- The gradient with respect to the scores as the differentiated softmax computes it, the greatest score held. -/
def dsHeld (x : Fin 256) : ℝ :=
  ((∑ e, R.w2 / R.wsum * R.c e / R.den * R.v x e)
    + (R.dlam / R.den + -∑ e, R.w2 / R.wsum * R.c e * (1 / (R.den * R.den)) * R.num e)) * R.p x

theorem dsHeld_eq' (h : ∃ x, R.ok x) (x : Fin 256) :
    R.dsHeld x = R.w2 / R.wsum / R.den * R.p x * ((∑ e, R.c e * R.v x e) - R.delta) := by
  have hd := (R.den_pos h).ne'
  have a1 : (∑ e, R.w2 / R.wsum * R.c e / R.den * R.v x e) = R.w2 / R.wsum / R.den * ∑ e, R.c e * R.v x e := by
    rw [Finset.mul_sum]; exact Finset.sum_congr rfl fun e _ => by ring
  have a2 : (∑ e, R.w2 / R.wsum * R.c e * (1 / (R.den * R.den)) * R.num e) = R.w2 / R.wsum / R.den * R.g2 := by
    unfold g2; rw [Finset.mul_sum]; exact Finset.sum_congr rfl fun e _ => by field_simp
  unfold dsHeld
  rw [a1, a2, dlam_eq]; ring

/-- It is the gradient the fused backward pass computes. -/
theorem dsHeld_eq (h : ∃ x, R.ok x) (x : Fin 256) : R.dsHeld x = R.ds x := by
  rw [dsHeld_eq' R h, prob_eq R h, ds]

/-- What flows back through the greatest score is zero. -/
theorem through_max (h : ∃ x, R.ok x) : R.dlam + ∑ x, -R.dsHeld x = 0 := by
  have hd := (R.den_pos h).ne'
  have b : ∑ x, R.p x * ∑ e, R.c e * R.v x e = R.den * R.g2 := by
    unfold g2 num
    simp only [Finset.mul_sum]
    rw [Finset.sum_comm]
    refine Finset.sum_congr rfl fun e _ => ?_
    rw [Finset.sum_div, Finset.mul_sum, Finset.mul_sum]
    refine Finset.sum_congr rfl fun x _ => ?_
    field_simp
  have t : ∑ x, R.dsHeld x = R.w2 / R.wsum * (R.g2 - R.delta) := by
    simp only [dsHeld_eq' R h, mul_sub, Finset.sum_sub_distrib]
    rw [← Finset.sum_mul, ← Finset.mul_sum]
    have : ∀ x, R.w2 / R.wsum / R.den * R.p x * (∑ e, R.c e * R.v x e)
        = R.w2 / R.wsum / R.den * (R.p x * ∑ e, R.c e * R.v x e) := fun x => by ring
    simp only [this]
    rw [← Finset.mul_sum, b, show ∑ x, R.p x = R.den from rfl]
    field_simp
  rw [Finset.sum_neg_distrib, t, dlam_eq]; ring

end Row

end Dil

end
-- ==== Proof.Spec.lean ====
/- The gradient of one branch of the dilated attention over the reals, row by row. Token `t` of a sequence is entry
   `t / d` of the strided subsequence `t % d`; a subsequence is cut into blocks of 128, and the queries of block `n`
   attend the keys of block `n - 1` (candidates 0 to 127) and of block `n` (candidates 128 to 255). -/
module

public import proofs.«01_k».proof.Proof.Row

@[expose] public section

noncomputable section

namespace Dil

/-- The real entries of the argument arrays: the projection's rows `z`, the gradient `c` of the layer's rows, and the
    results and log-sums of the two other branches. -/
structure Arrays where
  z : ℕ → ℕ → ℝ
  c : ℕ → ℕ → ℝ
  o1 : ℕ → ℕ → ℝ
  l1 : ℕ → ℕ → ℝ
  o3 : ℕ → ℕ → ℝ
  l3 : ℕ → ℕ → ℝ

/-- The scale `128 ^ (-1/2)` as the 32-bit number both programs multiply by. -/
def sc : ℝ := 11863283 / 134217728

/-- The slope of head `h`. -/
def slope (h : ℕ) : ℝ := (1 / 2) ^ (h + 1)

namespace Arrays

variable (A : Arrays) (d : ℕ)

/-- The query, the key and the value of head `h` at a token, and the gradient of its result. -/
def q (h t e : ℕ) : ℝ := A.z t (2048 + (h * 128 + e))
def k (h t e : ℕ) : ℝ := A.z t (2048 + (1024 + (h * 128 + e)))
def v (h t e : ℕ) : ℝ := A.z t (2048 + (2048 + (h * 128 + e)))
def ct (h t e : ℕ) : ℝ := A.c t (1024 + (h * 128 + e))

/-- The token of entry `i` of block `n` of subsequence `r`. -/
def tok (r n i : ℕ) : ℕ := (n * 128 + i) * d + r

/-- The key and the value of candidate `x` of block `n`: block 0 has zeros before it. -/
def kx (h r n x e : ℕ) : ℝ := if n = 0 ∧ x < 128 then 0 else A.k h ((n * 128 + x - 128) * d + r) e
def vx (h r n x e : ℕ) : ℝ := if n = 0 ∧ x < 128 then 0 else A.v h ((n * 128 + x - 128) * d + r) e

/-- Candidate `x` counts for query `i`: it is the query's own entry or one of the 128 before it. -/
def ok (n i x : ℕ) : Prop := x ≤ 128 + i ∧ i ≤ x ∧ ¬(n = 0 ∧ x < 128)

/-- The row of query `i` of block `n` of subsequence `r`, head `h`. -/
def row (h r n i : ℕ) : Row where
  ok x := ok n i x
  s x := (∑ e : Fin 128, A.q h (tok d r n i) e * sc * A.kx d h r n x e)
    + -slope h * (((128 + (i : ℤ) - (x.val : ℤ)) * d : ℤ) : ℝ)
  v x e := A.vx d h r n x e
  c e := A.ct h (tok d r n i) e
  l1 := A.l1 (tok d r n i) h
  l3 := A.l3 (tok d r n i) h
  o1 e := A.o1 (tok d r n i) (h * 128 + e)
  o3 e := A.o3 (tok d r n i) (h * 128 + e)

/-- A query's own entry counts. -/
theorem row_ok (h r n : ℕ) (i : Fin 128) : ∃ x, (A.row d h r n i).ok x :=
  ⟨⟨128 + i.val, by omega⟩, show ok n i (128 + i.val) from ⟨by omega, by omega, by omega⟩⟩

/-- The gradients with respect to the query, the key and the value of entry `i` of block `n` of subsequence `r`,
    head `h`, lane `e`, of `nb` blocks. -/
def dq (h r n i e : ℕ) : ℝ := (∑ x : Fin 256, (A.row d h r n i).ds x * A.kx d h r n x e) * sc

def dk (nb h r n i e : ℕ) : ℝ :=
  (∑ y : Fin 128, (A.row d h r n y).ds ⟨(128 + i) % 256, Nat.mod_lt _ (by norm_num)⟩ * (A.q h (tok d r n y) e * sc))
  + if n + 1 < nb then
      ∑ y : Fin 128, (A.row d h r (n + 1) y).ds ⟨i % 256, Nat.mod_lt _ (by norm_num)⟩ * (A.q h (tok d r (n + 1) y) e * sc)
    else 0

def dv (nb h r n i e : ℕ) : ℝ :=
  (∑ y : Fin 128, (A.row d h r n y).prob ⟨(128 + i) % 256, Nat.mod_lt _ (by norm_num)⟩ * A.ct h (tok d r n y) e)
  + if n + 1 < nb then
      ∑ y : Fin 128, (A.row d h r (n + 1) y).prob ⟨i % 256, Nat.mod_lt _ (by norm_num)⟩ * A.ct h (tok d r (n + 1) y) e
    else 0

end Arrays

end Dil

end
-- ==== Proof.Reals.lean ====
/- Extended reals that are reals: sums, quotients, exponentials, and the constants and small integers of the programs. -/
module

public import proofs.«01_k».proof.Proof.Spec
public import Idealize.ShloMosaic.Lib.Pointwise
public import Idealize.ShloMosaic.Lib.WordCmp
public import Idealize.ShloMosaic.Lib.Tactic.WordOmega

@[expose] public section

noncomputable section

namespace Dil

open Idealize.ShloMosaic

theorem sum_coe {ι : Type} (s : Finset ι) (f : ι → ℝ) : ∑ x ∈ s, (f x : EReal) = ((∑ x ∈ s, f x : ℝ) : EReal) := by
  classical
  induction s using Finset.induction with
  | empty => simp
  | insert a s ha ih => rw [Finset.sum_insert ha, Finset.sum_insert ha, ih, EReal.coe_add]

theorem sum_real {ι : Type} [Fintype ι] {g : ι → EReal} {f : ι → ℝ} (h : ∀ x, g x = f x) :
    ∑ x, g x = ((∑ x, f x : ℝ) : EReal) := by
  rw [← sum_coe]; exact Finset.sum_congr rfl fun x _ => h x

theorem div_real {a b : ℝ} (h : b ≠ 0) : Ideal.div (a : EReal) (b : EReal) = ((a / b : ℝ) : EReal) := by
  rw [Ideal.div_coe h, ← EReal.coe_mul, mul_one_div]

theorem uitofp_flag (b : Bool) : (FloatOps.uitofp (F := Ideal) FTy.f32 (BitVec.ofBool b) : EReal) = if b then 1 else 0 := by
  cases b
  · show (((0 : ℕ) : ℝ) : EReal) = 0; simp
  · show (((1 : ℕ) : ℝ) : EReal) = 1; simp

/-- A count of what holds somewhere is not zero. -/
theorem count_ne_zero {ι : Type} [Fintype ι] (f : ι → EReal) (a : ι) (h0 : ∀ x, 0 ≤ f x) (ha : f a = 1) : ∑ x, f x ≠ 0 := by
  intro h
  have := Finset.single_le_sum (f := f) (fun x _ => h0 x) (Finset.mem_univ a)
  rw [h, ha] at this
  exact absurd this (by norm_num)

theorem exp_real (a : ℝ) : Ideal.exp (a : EReal) = ((Real.exp a : ℝ) : EReal) := rfl

theorem exp_bot : Ideal.exp (⊥ : EReal) = 0 := rfl

theorem log_real {a : ℝ} (h : 0 < a) : Ideal.log (a : EReal) = ((Real.log a : ℝ) : EReal) := by
  show (if a ≤ 0 then (⊥ : EReal) else ((Real.log a : ℝ) : EReal)) = _
  rw [if_neg (not_le.mpr h)]

theorem max_real (a b : ℝ) : max (a : EReal) (b : EReal) = ((max a b : ℝ) : EReal) :=
  (EReal.coe_strictMono.monotone.map_max).symm

theorem ofBits_sc : Ideal.ofBits FTy.f32 1035273459#32 = ((sc : ℝ) : EReal) := by
  unfold sc; simp [Ideal.ofBits, Ideal.ieee, -EReal.coe_mul]; norm_num

theorem ofBits_bot : Ideal.ofBits FTy.f32 4286578688#32 = (⊥ : EReal) := by
  simp [Ideal.ofBits, Ideal.ieee]

theorem ofBits_two : Ideal.ofBits FTy.f32 1073741824#32 = ((2 : ℝ) : EReal) := by
  simp [Ideal.ofBits, Ideal.ieee, -EReal.coe_mul]; norm_num

theorem ofBits_neg_eight : Ideal.ofBits FTy.f32 3238002688#32 = ((-8 : ℝ) : EReal) := by
  simp [Ideal.ofBits, Ideal.ieee, -EReal.coe_mul]; norm_num

theorem ofBits_eight : Ideal.ofBits FTy.f32 1090519040#32 = ((8 : ℝ) : EReal) := by
  simp [Ideal.ofBits, Ideal.ieee, -EReal.coe_mul]; norm_num

theorem sitofp_nat (n : ℕ) (h : n < 2 ^ 31) :
    (FloatOps.sitofp (F := Ideal) FTy.f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The slope of a head, a power of two written as a power of 2 with a fraction for exponent. -/
theorem pow_slope (h : Fin 8) :
    -Ideal.pow (Ideal.ofBits FTy.f32 1073741824#32)
      (Ideal.div (Ideal.ofBits FTy.f32 3238002688#32 * (FloatOps.sitofp (F := Ideal) FTy.f32 (BitVec.ofNat 32 h.val) + 1))
        (Ideal.ofBits FTy.f32 1090519040#32)) = ((-slope h : ℝ) : EReal) := by
  rw [ofBits_two, ofBits_neg_eight, ofBits_eight, sitofp_nat _ (by omega), ← EReal.coe_one, ← EReal.coe_add,
    ← EReal.coe_mul, div_real (by norm_num)]
  show -((Real.rpow 2 (-8 * ((h.val : ℝ) + 1) / 8) : ℝ) : EReal) = _
  rw [← EReal.coe_neg]; congr 2
  show (2 : ℝ) ^ (-8 * ((h.val : ℝ) + 1) / 8 : ℝ) = _
  rw [show (-8 * ((h.val : ℝ) + 1) / 8 : ℝ) = -(((h.val + 1 : ℕ)) : ℝ) by push_cast; ring,
    Real.rpow_neg (by norm_num), Real.rpow_natCast, slope, one_div, inv_pow]

theorem toInt_small (z : ℤ) (h1 : -2 ^ 31 ≤ z) (h2 : z < 2 ^ 31) : (BitVec.ofInt 32 z).toInt = z := by
  rw [BitVec.toInt_ofInt]
  exact Int.bmod_eq_of_le (by push_cast; omega) (by push_cast; omega)

theorem ofNat_ofInt (n : ℕ) : BitVec.ofNat 32 n = BitVec.ofInt 32 (n : ℤ) := (BitVec.ofInt_natCast 32 n).symm

/-- The distance of a candidate, in entries, as a word. -/
theorem word_dist (i x : ℕ) :
    IntOp.subi (IntOp.addi (BitVec.ofNat 32 i) 128#32) (BitVec.ofNat 32 x) = BitVec.ofInt 32 (128 + (i : ℤ) - (x : ℤ)) := by
  show BitVec.ofNat 32 i + 128#32 - BitVec.ofNat 32 x = _
  rw [sub_eq_add_neg (128 + (i : ℤ)), BitVec.ofInt_add, BitVec.ofInt_neg, ← ofNat_ofInt, BitVec.ofInt_add, ← ofNat_ofInt,
    ← BitVec.sub_eq_add_neg, BitVec.add_comm (BitVec.ofInt 32 128)]
  rfl

/-- The distance of a candidate, in tokens. -/
theorem sitofp_dist (i x : ℕ) (hi : i < 128) (hx : x < 256) :
    (FloatOps.sitofp (F := Ideal) FTy.f32 (IntOp.muli (IntOp.subi (IntOp.addi (BitVec.ofNat 32 i) 128#32) (BitVec.ofNat 32 x)) 4#32) : EReal)
      = (((((128 + (i : ℤ) - (x : ℤ)) * (4 : ℕ) : ℤ)) : ℝ) : EReal) := by
  rw [word_dist]
  show (((BitVec.ofInt 32 (128 + (i : ℤ) - (x : ℤ)) * 4#32).toInt : ℝ) : EReal) = _
  rw [show (4#32 : BitVec 32) = BitVec.ofInt 32 4 from rfl, ← BitVec.ofInt_mul, toInt_small _ (by omega) (by omega)]
  norm_num

/-- Which candidates count, as the programs' comparisons of words. -/
theorem word_ok (n i x : ℕ) (hn : n < 8) (hi : i < 128) (hx : x < 256) :
    IntOp.andi
      (IntOp.andi
        (IntOp.cmpi CmpIPredicate.sge (IntOp.subi (IntOp.addi (BitVec.ofNat 32 i) 128#32) (BitVec.ofNat 32 x)) 0#32)
        (IntOp.cmpi CmpIPredicate.sle (IntOp.subi (IntOp.addi (BitVec.ofNat 32 i) 128#32) (BitVec.ofNat 32 x)) 128#32))
      (~~~IntOp.andi (IntOp.cmpi CmpIPredicate.eq (BitVec.ofNat 32 n) 0#32)
          (IntOp.cmpi CmpIPredicate.slt (BitVec.ofNat 32 x) 128#32)) = 1#1 ↔ Arrays.ok n i x := by
  rw [word_dist]
  unfold Arrays.ok
  have h1 : IntOp.cmpi CmpIPredicate.sge (BitVec.ofInt 32 (128 + (i : ℤ) - (x : ℤ))) 0#32 = BitVec.ofBool (decide (x ≤ 128 + i)) := by
    show BitVec.ofBool (BitVec.sle _ _) = _
    rw [BitVec.sle_eq_decide, toInt_small _ (by omega) (by omega)]
    congr 1; rw [decide_eq_decide]; show (0 : ℤ) ≤ _ ↔ _; omega
  have h2 : IntOp.cmpi CmpIPredicate.sle (BitVec.ofInt 32 (128 + (i : ℤ) - (x : ℤ))) 128#32 = BitVec.ofBool (decide (i ≤ x)) := by
    show BitVec.ofBool (BitVec.sle _ _) = _
    rw [BitVec.sle_eq_decide, toInt_small _ (by omega) (by omega)]
    congr 1; rw [decide_eq_decide]; show _ ≤ (128 : ℤ) ↔ _; omega
  have h3 : IntOp.cmpi CmpIPredicate.eq (BitVec.ofNat 32 n) 0#32 = BitVec.ofBool (decide (n = 0)) := by
    word_omega
  have h4 : IntOp.cmpi CmpIPredicate.slt (BitVec.ofNat 32 x) 128#32 = BitVec.ofBool (decide (x < 128)) := by
    word_omega
  rw [h1, h2, h3, h4]
  by_cases a : x ≤ 128 + i <;> by_cases b : i ≤ x <;> by_cases c : n = 0 <;> by_cases d : x < 128 <;> simp [a, b, c, d] <;> decide

end Dil

end
-- ==== Proof.KerRow.lean ====
/- The kernel's host lines before the call, first part: the masked scores and the windows of values, over the reals. -/
module

public import proofs.«01_k».proof.Proof.Reals
public import proofs.«01_k».proof.Proof.Gen.KernelIdeal.Value
public import Idealize.ShloMosaic.Lib.StableHlo.ReadAt

@[expose] public section

set_option maxRecDepth 16384

noncomputable section

namespace Cert.KernelIdeal.Dil

open Idealize.ShloMosaic Idealize.ShloMosaic.TcCoe Idealize.SL.Sem Idealize.ShloMosaic.StableHlo
open Cert.KernelIdeal Cert.KernelIdeal.Gen
open _root_.Dil

variable {W : Valuation τ sig (Elt Ideal)} {A : Arrays}

/-- The argument arrays hold the reals of `A`. -/
structure Reads (W : Valuation τ sig (Elt Ideal)) (A : Arrays) : Prop where
  z : ∀ (t : Fin 4096) (j : Fin 5120), @Eq EReal (W (Proc.devRef .tc main_arg0) (ix2 t j)) ((A.z t j : ℝ) : EReal)
  c : ∀ (t : Fin 4096) (j : Fin 2048), @Eq EReal (W (Proc.devRef .tc main_arg1) (ix2 t j)) ((A.c t j : ℝ) : EReal)
  o1 : ∀ (t : Fin 4096) (j : Fin 1024), @Eq EReal (W (Proc.devRef .tc main_arg2) (ix2 t j)) ((A.o1 t j : ℝ) : EReal)
  l1 : ∀ (t : Fin 4096) (j : Fin 8), @Eq EReal (W (Proc.devRef .tc main_arg3) (ix2 t j)) ((A.l1 t j : ℝ) : EReal)
  o3 : ∀ (t : Fin 4096) (j : Fin 1024), @Eq EReal (W (Proc.devRef .tc main_arg4) (ix2 t j)) ((A.o3 t j : ℝ) : EReal)
  l3 : ∀ (t : Fin 4096) (j : Fin 8), @Eq EReal (W (Proc.devRef .tc main_arg5) (ix2 t j)) ((A.l3 t j : ℝ) : EReal)

/-- A window's entry of keys or values, read off the input. -/
theorem window (H : Reads W A) (c0 c1 : ℕ) (hc : c0 ≤ 2048) (h1 : c1 = 2048 + c0) (r : Fin 4) (h n : Fin 8) (x : Fin 256) (e : Fin 128) :
    @Eq EReal (if h_1 : x.val < 128 then
      if h' : n.val < 1 then (0 : EReal)
      else W (Proc.devRef .tc main_arg0) (ix2 ⟨((n.val - 1) * 128 + x.val) * 4 + r.val, by omega⟩ ⟨c1 + (h.val * 128 + e.val), by omega⟩)
    else W (Proc.devRef .tc main_arg0) (ix2 ⟨(n.val * 128 + (x.val - 128)) * 4 + r.val, by omega⟩ ⟨c1 + (h.val * 128 + e.val), by omega⟩))
    ((if n.val = 0 ∧ x.val < 128 then 0 else A.z ((n.val * 128 + x.val - 128) * 4 + r.val) (2048 + (c0 + (h.val * 128 + e.val))) : ℝ) : EReal) := by
  split
  · rename_i hx
    split
    · rename_i hn
      rw [if_pos (show n.val = 0 ∧ x.val < 128 from ⟨by omega, hx⟩)]; rfl
    · rename_i hn
      rw [if_neg (show ¬(n.val = 0 ∧ x.val < 128) by omega)]
      refine (H.z _ _).trans ?_
      show ((A.z (((n.val - 1) * 128 + x.val) * 4 + r.val) (c1 + (h.val * 128 + e.val)) : ℝ) : EReal) = _
      rw [show ((n.val - 1) * 128 + x.val) * 4 + r.val = (n.val * 128 + x.val - 128) * 4 + r.val by omega, show c1 + (h.val * 128 + e.val) = 2048 + (c0 + (h.val * 128 + e.val)) by omega]
  · rename_i hx
    rw [if_neg (show ¬(n.val = 0 ∧ x.val < 128) by omega)]
    refine (H.z _ _).trans ?_
    show ((A.z ((n.val * 128 + (x.val - 128)) * 4 + r.val) (c1 + (h.val * 128 + e.val)) : ℝ) : EReal) = _
    rw [show (n.val * 128 + (x.val - 128)) * 4 + r.val = (n.val * 128 + x.val - 128) * 4 + r.val by omega, show c1 + (h.val * 128 + e.val) = 2048 + (c0 + (h.val * 128 + e.val)) by omega]

theorem v36 (H : Reads W A) (r : Fin 4) (h n : Fin 8) (x : Fin 256) (e : Fin 128) :
    @Eq EReal (after (hostOps0 (F := Ideal)) W (Proc.devRef .tc main_v36) (ix5 r h n x e)) ((A.vx 4 h r n x e : ℝ) : EReal) := by
  unfold hostOps0
  after_reads_at
  after_reads_at
  exact window H 2048 4096 (by omega) rfl r h n x e

theorem v79 (o o' : Fin 1) (n : Fin 8) (i : Fin 128) (x : Fin 256) :
    @Eq (BitVec 1) (after (hostOps0 (F := Ideal)) W (Proc.devRef .tc main_v79) (ix5 o o' n i x)) 1#1 ↔ (x.val ≤ 128 + i.val ∧ i.val ≤ x.val ∧ ¬(n.val = 0 ∧ x.val < 128)) := by
  unfold hostOps0
  after_reads_at
  exact word_ok _ _ _ n.isLt i.isLt x.isLt

theorem score_val (h : Fin 8) (i : Fin 128) (x : Fin 256) {S : EReal} (s : ℝ) (hS : S = (s : EReal)) :
    S + -Ideal.pow (Ideal.ofBits FTy.f32 1073741824#32)
      (Ideal.div (Ideal.ofBits FTy.f32 3238002688#32 * (FloatOps.sitofp (F := Ideal) FTy.f32 (BitVec.ofNat 32 h.val) + 1))
        (Ideal.ofBits FTy.f32 1090519040#32)) * (FloatOps.sitofp (F := Ideal) FTy.f32 (IntOp.muli (IntOp.subi (IntOp.addi (BitVec.ofNat 32 i.val) 128#32) (BitVec.ofNat 32 x.val)) 4#32) : EReal)
      = ((s + -slope h * (((128 + (i.val : ℤ) - (x.val : ℤ)) * (4 : ℕ) : ℤ) : ℝ) : ℝ) : EReal) := by
  rw [pow_slope, sitofp_dist _ _ i.isLt x.isLt, hS, ← EReal.coe_mul, ← EReal.coe_add]

theorem key_val {a b : EReal} {x y : ℝ} (ha : a = (x : EReal)) (hb : b = (y : EReal)) :
    a * Ideal.ofBits FTy.f32 1035273459#32 * b = ((x * sc * y : ℝ) : EReal) := by
  rw [ha, hb, ofBits_sc, ← EReal.coe_mul, ← EReal.coe_mul]

theorem v78 (H : Reads W A) (r : Fin 4) (h n : Fin 8) (i : Fin 128) (x : Fin 256) :
    @Eq EReal (after (hostOps0 (F := Ideal)) W (Proc.devRef .tc main_v78) (ix5 r h n i x)) (((A.row 4 h r n i).s x : ℝ) : EReal) := by
  unfold hostOps0
  after_reads_at
  after_reads_at
  refine score_val h i x _ (sum_real (f := fun e : Fin 128 => A.q h (Arrays.tok 4 r n i) e * sc * A.kx 4 h r n x e) fun e => ?_)
  exact key_val (H.z _ _) (window H 1024 3072 (by omega) rfl r h n x e)

theorem cst11 : after (hostOps0 (F := Ideal)) W (Proc.devRef .tc main_cst_11) = constant (F := Ideal) S_ .f32 4286578688#32 := by
  unfold hostOps0
  after_reads_simp

end Cert.KernelIdeal.Dil

end
-- ==== Proof.RefRow.lean ====
/- The reference's forward pass over the reals: its masked scores, exponentials, sums and products are those of `Dil.Row`. -/
module

public import proofs.«01_k».proof.Proof.Reals
public import proofs.«01_k».proof.Proof.Gen.ReferenceIdeal.Run
public import Idealize.ShloMosaic.Lib.Tactic.CleanTypes

@[expose] public section

set_option maxRecDepth 16384

noncomputable section

namespace Cert.ReferenceIdeal.Dil

open Idealize.ShloMosaic Idealize.ShloMosaic.TcCoe Idealize.SL.Sem Idealize.ShloMosaic.StableHlo
open Cert.ReferenceIdeal Cert.ReferenceIdeal.Gen Cert.ReferenceIdeal.Value
open _root_.Dil

variable {V0 : Valuation τ sig (Elt Ideal)} {A : Arrays}

/-- The argument arrays hold the reals of `A`. -/
structure Reads (V0 : Valuation τ sig (Elt Ideal)) (A : Arrays) : Prop where
  z : ∀ (t : Fin 4096) (j : Fin 5120), @Eq EReal (V0 (Proc.devRef .tc main_arg0) (ix2 t j)) ((A.z t j : ℝ) : EReal)
  c : ∀ (t : Fin 4096) (j : Fin 2048), @Eq EReal (V0 (Proc.devRef .tc main_arg1) (ix2 t j)) ((A.c t j : ℝ) : EReal)
  o1 : ∀ (t : Fin 4096) (j : Fin 1024), @Eq EReal (V0 (Proc.devRef .tc main_arg2) (ix2 t j)) ((A.o1 t j : ℝ) : EReal)
  l1 : ∀ (t : Fin 4096) (j : Fin 8), @Eq EReal (V0 (Proc.devRef .tc main_arg3) (ix2 t j)) ((A.l1 t j : ℝ) : EReal)
  o3 : ∀ (t : Fin 4096) (j : Fin 1024), @Eq EReal (V0 (Proc.devRef .tc main_arg4) (ix2 t j)) ((A.o3 t j : ℝ) : EReal)
  l3 : ∀ (t : Fin 4096) (j : Fin 8), @Eq EReal (V0 (Proc.devRef .tc main_arg5) (ix2 t j)) ((A.l3 t j : ℝ) : EReal)

theorem v24 (H : Reads V0 A) (r : Fin 4) (h n : Fin 8) (i e : Fin 128) :
    @Eq EReal (res_main_v24 (F := Ideal) V0 (ix5 r h n i e)) ((A.q h (Arrays.tok 4 r n i) e * sc : ℝ) : EReal) := by
  unfold res_main_v24 res_main_v1; clean_types; pointwise
  rw [H.z, ofBits_sc, ← EReal.coe_mul]; rfl

theorem v27 (H : Reads V0 A) (r : Fin 4) (h n : Fin 8) (i e : Fin 128) :
    @Eq EReal (res_main_v27 (F := Ideal) V0 (ix5 r h n i e)) ((A.k h (Arrays.tok 4 r n i) e : ℝ) : EReal) := by
  unfold res_main_v27 res_main_v1; clean_types; pointwise
  rw [H.z]; rfl

theorem v30 (H : Reads V0 A) (r : Fin 4) (h n : Fin 8) (i e : Fin 128) :
    @Eq EReal (res_main_v30 (F := Ideal) V0 (ix5 r h n i e)) ((A.v h (Arrays.tok 4 r n i) e : ℝ) : EReal) := by
  unfold res_main_v30 res_main_v1; clean_types; pointwise
  rw [H.z]; rfl

theorem v36 (H : Reads V0 A) (r : Fin 4) (h n : Fin 8) (x : Fin 256) (e : Fin 128) :
    @Eq EReal (res_main_v36 (F := Ideal) V0 (ix5 r h n x e)) ((A.kx 4 h r n x e : ℝ) : EReal) := by
  unfold res_main_v36; clean_types; pointwise
  unfold Arrays.kx
  split
  · rename_i hx
    split
    · rename_i hn
      rw [if_pos (show n.val = 0 ∧ x.val < 128 from ⟨by omega, hx⟩)]; rfl
    · rename_i hn
      rw [if_neg (show ¬(n.val = 0 ∧ x.val < 128) by omega)]
      refine (v27 H r h ⟨n.val - 1, by omega⟩ ⟨x.val, hx⟩ e).trans ?_
      rw [show Arrays.tok 4 r.val (n.val - 1) x.val = (n.val * 128 + x.val - 128) * 4 + r.val by unfold Arrays.tok; omega]
  · rename_i hx
    rw [if_neg (show ¬(n.val = 0 ∧ x.val < 128) by omega)]
    refine (v27 H r h n ⟨x.val - 128, by omega⟩ e).trans ?_
    rw [show Arrays.tok 4 r.val n.val (x.val - 128) = (n.val * 128 + x.val - 128) * 4 + r.val by unfold Arrays.tok; omega]

theorem v42 (H : Reads V0 A) (r : Fin 4) (h n : Fin 8) (x : Fin 256) (e : Fin 128) :
    @Eq EReal (res_main_v42 (F := Ideal) V0 (ix5 r h n x e)) ((A.vx 4 h r n x e : ℝ) : EReal) := by
  unfold res_main_v42; clean_types; pointwise
  unfold Arrays.vx
  split
  · rename_i hx
    split
    · rename_i hn
      rw [if_pos (show n.val = 0 ∧ x.val < 128 from ⟨by omega, hx⟩)]; rfl
    · rename_i hn
      rw [if_neg (show ¬(n.val = 0 ∧ x.val < 128) by omega)]
      refine (v30 H r h ⟨n.val - 1, by omega⟩ ⟨x.val, hx⟩ e).trans ?_
      rw [show Arrays.tok 4 r.val (n.val - 1) x.val = (n.val * 128 + x.val - 128) * 4 + r.val by unfold Arrays.tok; omega]
  · rename_i hx
    rw [if_neg (show ¬(n.val = 0 ∧ x.val < 128) by omega)]
    refine (v30 H r h n ⟨x.val - 128, by omega⟩ e).trans ?_
    rw [show Arrays.tok 4 r.val n.val (x.val - 128) = (n.val * 128 + x.val - 128) * 4 + r.val by unfold Arrays.tok; omega]

theorem v86_1 (r : Fin 4) (h n : Fin 8) (i : Fin 128) (x : Fin 256) :
    @Eq (BitVec 1) (res_main_v86_1 (F := Ideal) V0 (ix5 r h n i x)) 1#1 ↔ (A.row 4 h r n i).ok x := by
  unfold res_main_v86_1 res_main_v52 res_main_v47; clean_types; pointwise
  exact word_ok _ _ _ n.isLt i.isLt x.isLt

open scoped Classical in
theorem select_ok (r : Fin 4) (h n : Fin 8) (i : Fin 128) (x : Fin 256) (a b : EReal) :
    Scalar.select (res_main_v86_1 (F := Ideal) V0 (ix5 r h n i x)) a b = if (A.row 4 h r n i).ok x then a else b := by
  by_cases hx : (A.row 4 h r n i).ok x
  · rw [if_pos hx]; exact if_pos ((v86_1 (A := A) r h n i x).mpr hx)
  · rw [if_neg hx]; exact if_neg fun hc => hx ((v86_1 (A := A) r h n i x).mp hc)

theorem v86_0 (H : Reads V0 A) (r : Fin 4) (h n : Fin 8) (i : Fin 128) (x : Fin 256) :
    @Eq EReal (res_main_v86_0 (F := Ideal) V0 (ix5 r h n i x)) ((A.row 4 h r n i).mask x) := by
  unfold res_main_v86_0 res_main_v52 res_main_v47; clean_types; pointwise
  rw [select_ok (A := A), pow_slope, sitofp_dist _ _ i.isLt x.isLt, sum_real (f := fun e : Fin 128 => A.q h (Arrays.tok 4 r n i) e * sc * A.kx 4 h r n x e)
    fun e => by rw [v24 H, v36 H, ← EReal.coe_mul], ← EReal.coe_mul, ← EReal.coe_add]
  unfold Row.mask
  split
  · rfl
  · show Ideal.ofBits FTy.f32 4286578688#32 = _
    exact ofBits_bot

theorem v87 (H : Reads V0 A) (r : Fin 4) (h n : Fin 8) (i : Fin 128) :
    @Eq EReal (res_main_v87 (F := Ideal) V0 (ix4 r h n i)) (((A.row 4 h r n i).mu : ℝ) : EReal) := by
  unfold res_main_v87; clean_types; pointwise
  rw [← Row.fold_mask _ (A.row_ok 4 h r n i), ofBits_bot]
  congr 1; funext x; exact v86_0 H r h n i x

theorem v93 (H : Reads V0 A) (r : Fin 4) (h n : Fin 8) (i : Fin 128) (o : Fin 1) :
    @Eq EReal (res_main_v93 (F := Ideal) V0 (ix5 r h n i o)) (((A.row 4 h r n i).mu : ℝ) : EReal) := by
  unfold res_main_v93; clean_types; pointwise
  exact v87 H r h n i

theorem v96 (H : Reads V0 A) (r : Fin 4) (h n : Fin 8) (i : Fin 128) (x : Fin 256) :
    @Eq EReal (res_main_v96 (F := Ideal) V0 (ix5 r h n i x)) (((A.row 4 h r n i).p x : ℝ) : EReal) := by
  unfold res_main_v96; clean_types; pointwise
  rw [v86_0 H, v93 H]
  unfold Row.mask Row.p
  split
  · rw [← EReal.coe_sub]; rfl
  · rw [EReal.bot_sub]; rfl

theorem v98 (H : Reads V0 A) (r : Fin 4) (h n : Fin 8) (i : Fin 128) (o : Fin 1) :
    @Eq EReal (res_main_v98 (F := Ideal) V0 (ix5 r h n i o)) (((A.row 4 h r n i).den : ℝ) : EReal) := by
  unfold res_main_v98; clean_types; pointwise
  exact sum_real fun x => v96 H r h n i x

theorem v99 (H : Reads V0 A) (r : Fin 4) (h n : Fin 8) (i e : Fin 128) :
    @Eq EReal (res_main_v99 (F := Ideal) V0 (ix5 r h n i e)) (((A.row 4 h r n i).num e : ℝ) : EReal) := by
  unfold res_main_v99; clean_types; pointwise
  exact sum_real fun x => by rw [v96 H, v42 H, ← EReal.coe_mul]; rfl

end Cert.ReferenceIdeal.Dil

end
-- ==== Proof.Finite.lean ====
/- What the precondition gives: every entry of every argument array is a real number, so the arrays hold the entries of
   one record of reals. -/
module

public import proofs.«01_k».proof.Defs
public import proofs.«01_k».proof.Proof.KerRow
public import proofs.«01_k».proof.Proof.RefRow

@[expose] public section

set_option maxHeartbeats 4000000

noncomputable section

namespace Cert.Finite

open Idealize.ShloMosaic Idealize.SL.Sem Idealize.ShloMosaic.StableHlo
open _root_.Dil

/-- The relations the printed precondition's broadcasts take. -/
theorem facts : Cert.Pre_finite.Facts where
  bcast_S_S4096x5120 := by decide
  bcast_S_S4096x2048 := by decide
  bcast_S_S4096x1024 := by decide
  bcast_S_S4096x8 := by decide

/-- Above the lower infinity and below the upper one: a number. -/
theorem real_of {x y z : EReal} (hy : y = ⊥) (hz : z = ⊤)
    (h : IntOp.andi (Ideal.cmp .ogt x y) (Ideal.cmp .olt x z) = 1#1) : x = ((x.toReal : ℝ) : EReal) := by
  subst hy hz
  induction x using EReal.rec with
  | bot => exact absurd h (by simp [Ideal.cmp, IntOp.andi])
  | top => exact absurd h (by simp [Ideal.cmp, IntOp.andi])
  | coe a => simp

theorem f32_bot : Ideal.ofBits .f32 0xFF800000#32 = (⊥ : EReal) := by simp [Ideal.ofBits, Ideal.ieee]
theorem f32_top : Ideal.ofBits .f32 0x7F800000#32 = (⊤ : EReal) := by simp [Ideal.ofBits, Ideal.ieee]
theorem bf16_bot : Ideal.ofBits .bf16 0xFF80#16 = (⊥ : EReal) := by simp [Ideal.ofBits, Ideal.ieee]
theorem bf16_top : Ideal.ofBits .bf16 0x7F80#16 = (⊤ : EReal) := by simp [Ideal.ofBits, Ideal.ieee]

attribute [local instance] facts

section
variable (a0 : FVec Ideal Cert.Pre_finite.S4096x5120 .bf16) (a1 : FVec Ideal Cert.Pre_finite.S4096x2048 .bf16)
  (a2 : FVec Ideal Cert.Pre_finite.S4096x1024 .f32) (a3 : FVec Ideal Cert.Pre_finite.S4096x8 .f32)
  (a4 : FVec Ideal Cert.Pre_finite.S4096x1024 .f32) (a5 : FVec Ideal Cert.Pre_finite.S4096x8 .f32)

theorem real0 (h : (Cert.Pre_finite.fn (F := Ideal) a0 a1 a2 a3 a4 a5).1 = fun _ => 1#1) (i : Cert.Pre_finite.S4096x5120.Idx) :
    @Eq EReal (a0 i) ((EReal.toReal (a0 i) : ℝ) : EReal) := real_of bf16_bot bf16_top (congrFun h i)
theorem real1 (h : (Cert.Pre_finite.fn (F := Ideal) a0 a1 a2 a3 a4 a5).2.1 = fun _ => 1#1) (i : Cert.Pre_finite.S4096x2048.Idx) :
    @Eq EReal (a1 i) ((EReal.toReal (a1 i) : ℝ) : EReal) := real_of bf16_bot bf16_top (congrFun h i)
theorem real2 (h : (Cert.Pre_finite.fn (F := Ideal) a0 a1 a2 a3 a4 a5).2.2.1 = fun _ => 1#1) (i : Cert.Pre_finite.S4096x1024.Idx) :
    @Eq EReal (a2 i) ((EReal.toReal (a2 i) : ℝ) : EReal) := real_of f32_bot f32_top (congrFun h i)
theorem real3 (h : (Cert.Pre_finite.fn (F := Ideal) a0 a1 a2 a3 a4 a5).2.2.2.1 = fun _ => 1#1) (i : Cert.Pre_finite.S4096x8.Idx) :
    @Eq EReal (a3 i) ((EReal.toReal (a3 i) : ℝ) : EReal) := real_of f32_bot f32_top (congrFun h i)
theorem real4 (h : (Cert.Pre_finite.fn (F := Ideal) a0 a1 a2 a3 a4 a5).2.2.2.2.1 = fun _ => 1#1) (i : Cert.Pre_finite.S4096x1024.Idx) :
    @Eq EReal (a4 i) ((EReal.toReal (a4 i) : ℝ) : EReal) := real_of f32_bot f32_top (congrFun h i)
theorem real5 (h : (Cert.Pre_finite.fn (F := Ideal) a0 a1 a2 a3 a4 a5).2.2.2.2.2 = fun _ => 1#1) (i : Cert.Pre_finite.S4096x8.Idx) :
    @Eq EReal (a5 i) ((EReal.toReal (a5 i) : ℝ) : EReal) := real_of f32_bot f32_top (congrFun h i)
end

/-- An array's entries as reals, zero outside it. -/
def entries {n k : ℕ} (a : (⟨2, ![n, k]⟩ : Shape).Idx → EReal) (t j : ℕ) : ℝ :=
  if h : t < n ∧ j < k then (a (ix2 ⟨t, h.1⟩ ⟨j, h.2⟩)).toReal else 0

theorem entries_at {n k : ℕ} (a : (⟨2, ![n, k]⟩ : Shape).Idx → EReal) (t : Fin n) (j : Fin k) :
    entries a t j = (a (ix2 t j)).toReal := dif_pos ⟨t.isLt, j.isLt⟩

section
variable (m : (ℓ : Loc Cert.KernelIdeal.nD Cert.KernelIdeal.τ Cert.KernelIdeal.sig) → Buf (Elt Ideal) ℓ)

/-- The reals the arguments hold on device `c`. -/
def arrays (c : Dev Cert.KernelIdeal.nD) : Arrays where
  z := entries (m ((c.tc : Thread Cert.KernelIdeal.nD Cert.KernelIdeal.τ).loc Cert.KernelIdeal.main_arg0))
  c := entries (m ((c.tc : Thread Cert.KernelIdeal.nD Cert.KernelIdeal.τ).loc Cert.KernelIdeal.main_arg1))
  o1 := entries (m ((c.tc : Thread Cert.KernelIdeal.nD Cert.KernelIdeal.τ).loc Cert.KernelIdeal.main_arg2))
  l1 := entries (m ((c.tc : Thread Cert.KernelIdeal.nD Cert.KernelIdeal.τ).loc Cert.KernelIdeal.main_arg3))
  o3 := entries (m ((c.tc : Thread Cert.KernelIdeal.nD Cert.KernelIdeal.τ).loc Cert.KernelIdeal.main_arg4))
  l3 := entries (m ((c.tc : Thread Cert.KernelIdeal.nD Cert.KernelIdeal.τ).loc Cert.KernelIdeal.main_arg5))

/-- Under the precondition the kernel's arguments hold those reals. -/
theorem kernel (h : Cert.Pre_KernelIdeal_finite m) (c : Dev Cert.KernelIdeal.nD) :
    Cert.KernelIdeal.Dil.Reads (fun b => m (c, b)) (arrays m c) := by
  obtain ⟨h0, h1, h2, h3, h4, h5⟩ := h c
  exact {
    z := fun t j => (real0 _ _ _ _ _ _ h0 (ix2 t j)).trans (congrArg _ (entries_at _ t j).symm)
    c := fun t j => (real1 _ _ _ _ _ _ h1 (ix2 t j)).trans (congrArg _ (entries_at _ t j).symm)
    o1 := fun t j => (real2 _ _ _ _ _ _ h2 (ix2 t j)).trans (congrArg _ (entries_at _ t j).symm)
    l1 := fun t j => (real3 _ _ _ _ _ _ h3 (ix2 t j)).trans (congrArg _ (entries_at _ t j).symm)
    o3 := fun t j => (real4 _ _ _ _ _ _ h4 (ix2 t j)).trans (congrArg _ (entries_at _ t j).symm)
    l3 := fun t j => (real5 _ _ _ _ _ _ h5 (ix2 t j)).trans (congrArg _ (entries_at _ t j).symm) }

/-- And so do the reference's, its arguments being the same arrays. -/
theorem reference (h : Cert.Pre_KernelIdeal_finite m)
    (m' : (ℓ : Loc Cert.ReferenceIdeal.nD Cert.ReferenceIdeal.τ Cert.ReferenceIdeal.sig) → Buf (Elt Ideal) ℓ)
    (c : Dev Cert.KernelIdeal.nD)
    (e0 : ∀ (t : Fin 4096) (j : Fin 5120), @Eq EReal (m' ((c.tc : Thread Cert.ReferenceIdeal.nD Cert.ReferenceIdeal.τ).loc Cert.ReferenceIdeal.main_arg0) (ix2 t j)) (m ((c.tc : Thread Cert.KernelIdeal.nD Cert.KernelIdeal.τ).loc Cert.KernelIdeal.main_arg0) (ix2 t j)))
    (e1 : ∀ (t : Fin 4096) (j : Fin 2048), @Eq EReal (m' ((c.tc : Thread Cert.ReferenceIdeal.nD Cert.ReferenceIdeal.τ).loc Cert.ReferenceIdeal.main_arg1) (ix2 t j)) (m ((c.tc : Thread Cert.KernelIdeal.nD Cert.KernelIdeal.τ).loc Cert.KernelIdeal.main_arg1) (ix2 t j)))
    (e2 : ∀ (t : Fin 4096) (j : Fin 1024), @Eq EReal (m' ((c.tc : Thread Cert.ReferenceIdeal.nD Cert.ReferenceIdeal.τ).loc Cert.ReferenceIdeal.main_arg2) (ix2 t j)) (m ((c.tc : Thread Cert.KernelIdeal.nD Cert.KernelIdeal.τ).loc Cert.KernelIdeal.main_arg2) (ix2 t j)))
    (e3 : ∀ (t : Fin 4096) (j : Fin 8), @Eq EReal (m' ((c.tc : Thread Cert.ReferenceIdeal.nD Cert.ReferenceIdeal.τ).loc Cert.ReferenceIdeal.main_arg3) (ix2 t j)) (m ((c.tc : Thread Cert.KernelIdeal.nD Cert.KernelIdeal.τ).loc Cert.KernelIdeal.main_arg3) (ix2 t j)))
    (e4 : ∀ (t : Fin 4096) (j : Fin 1024), @Eq EReal (m' ((c.tc : Thread Cert.ReferenceIdeal.nD Cert.ReferenceIdeal.τ).loc Cert.ReferenceIdeal.main_arg4) (ix2 t j)) (m ((c.tc : Thread Cert.KernelIdeal.nD Cert.KernelIdeal.τ).loc Cert.KernelIdeal.main_arg4) (ix2 t j)))
    (e5 : ∀ (t : Fin 4096) (j : Fin 8), @Eq EReal (m' ((c.tc : Thread Cert.ReferenceIdeal.nD Cert.ReferenceIdeal.τ).loc Cert.ReferenceIdeal.main_arg5) (ix2 t j)) (m ((c.tc : Thread Cert.KernelIdeal.nD Cert.KernelIdeal.τ).loc Cert.KernelIdeal.main_arg5) (ix2 t j))) :
    Cert.ReferenceIdeal.Dil.Reads (launchContents m' c) (arrays m c) := by
  have K := kernel m h c
  exact {
    z := fun t j => (e0 t j).trans (K.z t j)
    c := fun t j => (e1 t j).trans (K.c t j)
    o1 := fun t j => (e2 t j).trans (K.o1 t j)
    l1 := fun t j => (e3 t j).trans (K.l1 t j)
    o3 := fun t j => (e4 t j).trans (K.o3 t j)
    l3 := fun t j => (e5 t j).trans (K.l3 t j) }
end

end Cert.Finite

end
-- ==== Proof.RefMerge.lean ====
/- The reference's softmax merge of the three branches and its gradient over the reals: the weights, the merged
   log-sum's gradient, and what reaches the branch's result and its log-sum. -/
module

public import proofs.«01_k».proof.Proof.RefRow

@[expose] public section

set_option maxRecDepth 16384

noncomputable section

namespace Cert.ReferenceIdeal.Dil

open Idealize.ShloMosaic Idealize.ShloMosaic.TcCoe Idealize.SL.Sem Idealize.ShloMosaic.StableHlo
open Cert.ReferenceIdeal Cert.ReferenceIdeal.Gen Cert.ReferenceIdeal.Value
open _root_.Dil

variable {V0 : Valuation τ sig (Elt Ideal)} {A : Arrays}

/-- The row of a token. -/
def trow (A : Arrays) (h t : ℕ) : Row := A.row 4 h (t % 4) (t / 4 / 128) (t / 4 % 128)

theorem tok_split (t : ℕ) : Arrays.tok 4 (t % 4) (t / 4 / 128) (t / 4 % 128) = t := by unfold Arrays.tok; omega

theorem trow_tok (A : Arrays) (h r n i : ℕ) (hr : r < 4) (hi : i < 128) :
    trow A h ((n * 128 + i) * 4 + r) = A.row 4 h r n i := by
  unfold trow
  rw [show ((n * 128 + i) * 4 + r) % 4 = r by omega, show ((n * 128 + i) * 4 + r) / 4 = n * 128 + i by omega,
    show (n * 128 + i) / 128 = n by omega, show (n * 128 + i) % 128 = i by omega]

theorem trow_ok (A : Arrays) (h t : ℕ) : ∃ x, (trow A h t).ok x := A.row_ok 4 h (t % 4) (t / 4 / 128) ⟨t / 4 % 128, by omega⟩

/-- One of three, by a branch's number. -/
def pick (a b c : ℝ) (j : Fin 3) : ℝ := if j.val < 1 then a else if j.val - 1 < 1 then b else c

theorem pick0 (a b c : ℝ) : pick a b c 0 = a := rfl
theorem pick1 (a b c : ℝ) : pick a b c 1 = b := by unfold pick; norm_num
theorem pick2 (a b c : ℝ) : pick a b c 2 = c := by unfold pick; norm_num

theorem fold3 (f : Fin 3 → EReal) : Finset.univ.fold max ⊥ f = max (max (f 0) (f 1)) (f 2) := by
  rw [show (Finset.univ : Finset (Fin 3)) = {0, 1, 2} from rfl, Finset.fold_insert (by decide), Finset.fold_insert (by decide),
    Finset.fold_singleton, max_eq_left bot_le, max_assoc]

/-- The branch's log-sums, by subsequence. -/
def slse (V0 : Valuation τ sig (Elt Ideal)) : FVec Ideal S4x8x8x128 .f32 :=
  shapeCast _ (addf (res_main_v93 V0) (Host.log (res_main_v98 V0))) shapeCasts_S4x8x8x128x1_S4x8x8x128

theorem drop1 (w : FVec Ideal S4x8x8x128x1 .f32) (r : Fin 4) (h n : Fin 8) (i : Fin 128) :
    @Eq EReal (shapeCast S4x8x8x128 w shapeCasts_S4x8x8x128x1_S4x8x8x128 (ix4 r h n i)) (w (ix5 r h n i 0)) := by
  clean_types; pointwise

theorem add_log (a b : FVec Ideal S4x8x8x128x1 .f32) (j : S4x8x8x128x1.Idx) :
    @Eq EReal (addf a (Host.log b) j) (@HAdd.hAdd EReal EReal EReal _ (a j) (Ideal.log (b j))) := rfl

theorem slse_val (H : Reads V0 A) (r : Fin 4) (h n : Fin 8) (i : Fin 128) :
    @Eq EReal (slse V0 (ix4 r h n i)) (((A.row 4 h r n i).lam : ℝ) : EReal) := by
  have h1 := v93 H r h n i 0
  have h2 := v98 H r h n i 0
  unfold slse
  generalize res_main_v93 V0 = a at h1 ⊢
  generalize res_main_v98 V0 = b at h2 ⊢
  rw [drop1, add_log, h1, h2, log_real (Row.den_pos _ (A.row_ok 4 h r n i)), ← EReal.coe_add]; rfl

theorem by_token (w : FVec Ideal S4x8x8x128 .f32) (t : Fin 4096) (h : Fin 8) :
    @Eq EReal (shapeCast S4096x8 (transpose S1024x4x8 [2, 0, 1] (shapeCast S4x8x1024 w shapeCasts_S4x8x8x128_S4x8x1024) transposes_S4x8x1024_S1024x4x8_2_0_1) shapeCasts_S1024x4x8_S4096x8 (ix2 t h))
      (w (ix4 ⟨t.val % 4, by omega⟩ h ⟨t.val / 4 / 128, by omega⟩ ⟨t.val / 4 % 128, by omega⟩)) := by
  clean_types; pointwise

theorem stack3 (a b c : FVec Ideal S4096x8 .f32) (j : Fin 3) (t : Fin 4096) (h : Fin 8) :
    @Eq EReal ((concatenate S3x4096x8 0 [⟨S1x4096x8, ((broadcastInDim S1x4096x8 ![1, 2] bcast_S4096x8_S1x4096x8_1_2 a) : (⟨S1x4096x8, .f32⟩ : BufTy).Contents (Elt Ideal))⟩, ⟨S1x4096x8, ((broadcastInDim S1x4096x8 ![1, 2] bcast_S4096x8_S1x4096x8_1_2 b) : (⟨S1x4096x8, .f32⟩ : BufTy).Contents (Elt Ideal))⟩, ⟨S1x4096x8, ((broadcastInDim S1x4096x8 ![1, 2] bcast_S4096x8_S1x4096x8_1_2 c) : (⟨S1x4096x8, .f32⟩ : BufTy).Contents (Elt Ideal))⟩] concatenates_S1x4096x8_S1x4096x8_S1x4096x8_S3x4096x8_d0 : FVec Ideal S3x4096x8 .f32) (ix3 j t h))
      (if j.val < 1 then a (ix2 t h) else if j.val - 1 < 1 then b (ix2 t h) else c (ix2 t h)) := by
  clean_types; pointwise
  rfl

theorem v117 (H : Reads V0 A) (b : Fin 3) (t : Fin 4096) (h : Fin 8) :
    @Eq EReal (res_main_v117 (F := Ideal) V0 (ix3 b t h))
      ((pick (trow A h t).l1 (trow A h t).lam (trow A h t).l3 b : ℝ) : EReal) := by
  refine (stack3 _ _ _ b t h).trans ?_
  unfold pick
  split
  · refine (H.l1 t h).trans ?_
    show _ = ((A.l1 (Arrays.tok 4 _ _ _) _ : ℝ) : EReal); rw [tok_split]
  · split
    · exact (by_token (slse V0) t h).trans (slse_val H ⟨t.val % 4, by omega⟩ h ⟨t.val / 4 / 128, by omega⟩ ⟨t.val / 4 % 128, by omega⟩)
    · refine (H.l3 t h).trans ?_
      show _ = ((A.l3 (Arrays.tok 4 _ _ _) _ : ℝ) : EReal); rw [tok_split]

theorem v120 (H : Reads V0 A) (t : Fin 4096) (h : Fin 8) :
    @Eq EReal (res_main_v120 (F := Ideal) V0 (ix2 t h)) (((trow A h t).top : ℝ) : EReal) := by
  unfold res_main_v120; clean_types; pointwise
  rw [ofBits_bot, fold3, v117 H, v117 H, v117 H, pick0, pick1, pick2, max_real, max_real]; rfl

theorem v140 (H : Reads V0 A) (b : Fin 3) (t : Fin 4096) (h : Fin 8) :
    @Eq EReal (res_main_v140 (F := Ideal) V0 (ix3 b t h))
      ((pick (trow A h t).w1 (trow A h t).w2 (trow A h t).w3 b : ℝ) : EReal) := by
  unfold res_main_v140; clean_types; pointwise
  rw [v117 H, v120 H, ofBits_bot, max_eq_right bot_le, ← EReal.coe_sub, exp_real]
  unfold pick Row.w1 Row.w2 Row.w3
  split
  · rfl
  · split <;> rfl

theorem v142 (H : Reads V0 A) (b : Fin 1) (t : Fin 4096) (h : Fin 8) :
    @Eq EReal (res_main_v142 (F := Ideal) V0 (ix3 b t h)) (((trow A h t).wsum : ℝ) : EReal) := by
  unfold res_main_v142; clean_types; pointwise
  rw [sum_real fun x => v140 H x t h, Fin.sum_univ_three, pick0, pick1, pick2]; rfl

theorem v148 (H : Reads V0 A) (b : Fin 3) (t : Fin 4096) (h : Fin 8) (o : Fin 1) :
    @Eq EReal (res_main_v148 (F := Ideal) V0 (ix4 b t h o))
      ((pick (trow A h t).w1 (trow A h t).w2 (trow A h t).w3 b / (trow A h t).wsum : ℝ) : EReal) := by
  unfold res_main_v148; clean_types; pointwise
  rw [v140 H, v142 H, div_real (Row.wsum_pos _).ne']

theorem v154 (H : Reads V0 A) (b : Fin 3) (t : Fin 4096) (h : Fin 8) (e : Fin 128) :
    @Eq EReal (res_main_v154 (F := Ideal) V0 (ix4 b t h e))
      ((pick ((trow A h t).o1 e) ((trow A h t).num e / (trow A h t).den) ((trow A h t).o3 e) b : ℝ) : EReal) := by
  unfold res_main_v154; clean_types; pointwise
  unfold pick
  split
  · rw [H.o1]; show _ = ((A.o1 (Arrays.tok 4 _ _ _) _ : ℝ) : EReal); rw [tok_split]
  · split
    · have h1 := v99 H ⟨t.val % 4, by omega⟩ h ⟨t.val / 4 / 128, by omega⟩ ⟨t.val / 4 % 128, by omega⟩ e
      have h2 := v98 H ⟨t.val % 4, by omega⟩ h ⟨t.val / 4 / 128, by omega⟩ ⟨t.val / 4 % 128, by omega⟩ 0
      refine (congrArg₂ Ideal.div h1 h2).trans ?_
      exact div_real (Row.den_pos _ (trow_ok A h t)).ne'
    · rw [H.o3]; show _ = ((A.o3 (Arrays.tok 4 _ _ _) _ : ℝ) : EReal); rw [tok_split]

theorem v160 (H : Reads V0 A) (b : Fin 3) (t : Fin 4096) (h : Fin 8) (e : Fin 128) :
    @Eq EReal (res_main_v160 (F := Ideal) V0 (ix4 b t h e)) (((trow A h t).c e : ℝ) : EReal) := by
  unfold res_main_v160; clean_types; pointwise
  rw [H.c]; show _ = ((A.c (Arrays.tok 4 _ _ _) _ : ℝ) : EReal); rw [tok_split]

theorem v162 (H : Reads V0 A) (b : Fin 3) (t : Fin 4096) (h : Fin 8) (e : Fin 128) :
    @Eq EReal (res_main_v162 (F := Ideal) V0 (ix4 b t h e))
      ((pick (trow A h t).w1 (trow A h t).w2 (trow A h t).w3 b / (trow A h t).wsum * (trow A h t).c e : ℝ) : EReal) := by
  unfold res_main_v162; clean_types; pointwise
  rw [v148 H, v160 H, ← EReal.coe_mul]

theorem v172 (H : Reads V0 A) (b : Fin 3) (t : Fin 4096) (h : Fin 8) :
    @Eq EReal (res_main_v172 (F := Ideal) V0 (ix3 b t h))
      ((pick (trow A h t).g1 (trow A h t).g2 (trow A h t).g3 b : ℝ) : EReal) := by
  unfold res_main_v172; clean_types; pointwise
  rw [Fin.sum_univ_one, sum_real fun e => by rw [v160 H, v154 H, ← EReal.coe_mul]]
  unfold pick Row.g1 Row.g2 Row.g3
  split
  · rfl
  · split <;> rfl

theorem v184 (H : Reads V0 A) (t : Fin 4096) (h : Fin 8) :
    @Eq EReal (res_main_v184 (F := Ideal) V0 (ix3 1 t h)) (((trow A h t).dlam : ℝ) : EReal) := by
  have hw := (trow A h t).wsum_pos
  unfold res_main_v184; clean_types; pointwise
  rw [Fin.sum_univ_one, v142 H, v172 H, v140 H, ← EReal.coe_mul, ← EReal.coe_one, div_real hw.ne', div_real (mul_pos hw hw).ne',
    sum_real fun x => by rw [v172 H, v140 H, ← EReal.coe_mul, ← EReal.coe_mul], ← EReal.coe_neg, ← EReal.coe_add, ← EReal.coe_mul,
    Fin.sum_univ_three]
  simp only [pick0, pick1, pick2]
  rfl

theorem v196 (H : Reads V0 A) (r : Fin 4) (h n : Fin 8) (i e : Fin 128) :
    @Eq EReal (res_main_v196 (F := Ideal) V0 (ix5 r h n i e))
      (((A.row 4 h r n i).w2 / (A.row 4 h r n i).wsum * (A.row 4 h r n i).c e : ℝ) : EReal) := by
  unfold res_main_v196; clean_types; pointwise
  rw [v162 H, pick1]
  show (((trow A h ((n.val * 128 + i.val) * 4 + r.val)).w2 / (trow A h ((n.val * 128 + i.val) * 4 + r.val)).wsum
    * (trow A h ((n.val * 128 + i.val) * 4 + r.val)).c e : ℝ) : EReal) = _
  rw [trow_tok _ _ _ _ _ r.isLt i.isLt]

theorem v197 (H : Reads V0 A) (r : Fin 4) (h n : Fin 8) (i : Fin 128) (o : Fin 1) :
    @Eq EReal (res_main_v197 (F := Ideal) V0 (ix5 r h n i o)) (((A.row 4 h r n i).dlam : ℝ) : EReal) := by
  unfold res_main_v197; clean_types; pointwise
  rw [v184 H]
  show (((trow A h ((n.val * 128 + i.val) * 4 + r.val)).dlam : ℝ) : EReal) = _
  rw [trow_tok _ _ _ _ _ r.isLt i.isLt]

end Cert.ReferenceIdeal.Dil

end
-- ==== Proof.KerMerge.lean ====
/- The kernel's host lines before the call, second part: the softmax of the branch and its merge with
   the two other branches, and the four arrays the call reads, over the reals. -/
module

public import proofs.«01_k».proof.Proof.KerRow
public import proofs.«01_k».proof.Proof.RefMerge
public import proofs.«01_k».proof.Proof.Gen.KernelIdeal.Value
public import Idealize.ShloMosaic.Lib.StableHlo.ReadAt

@[expose] public section

set_option maxRecDepth 16384

noncomputable section

namespace Cert.KernelIdeal.Dil

open Idealize.ShloMosaic Idealize.ShloMosaic.TcCoe Idealize.SL.Sem Idealize.ShloMosaic.StableHlo
open Cert.KernelIdeal Cert.KernelIdeal.Gen
open _root_.Dil

open Cert.ReferenceIdeal.Dil (trow trow_tok trow_ok tok_split)

variable {W : Valuation τ sig (Elt Ideal)} {A : Arrays}

/-- The host lines up to the softmax, the softmax, its results by token, and the merge. -/
abbrev lines1 : List (HloOp τ sig (Elt Ideal)) := (hostOps0_2 (F := Ideal)).take 12
abbrev lines2 : List (HloOp τ sig (Elt Ideal)) := ((hostOps0_2 (F := Ideal)).drop 12).take 8
abbrev lines3 : List (HloOp τ sig (Elt Ideal)) := (hostOps0_2 (F := Ideal)).drop 20

theorem split_lines (W : Valuation τ sig (Elt Ideal)) : after (hostOps0_2 (F := Ideal)) W = after lines3 (after lines2 (after lines1 W)) := by
  rw [← after_append, ← after_append]; rfl

theorem Reads.keep0 (H : Reads W A) : Reads (after (hostOps0 (F := Ideal)) W) A := by
  unfold hostOps0
  exact ⟨fun t j => by after_reads_simp; exact H.z t j, fun t j => by after_reads_simp; exact H.c t j, fun t j => by after_reads_simp; exact H.o1 t j,
    fun t j => by after_reads_simp; exact H.l1 t j, fun t j => by after_reads_simp; exact H.o3 t j, fun t j => by after_reads_simp; exact H.l3 t j⟩

theorem Reads.keep1 (H : Reads W A) : Reads (after (hostOps0_1 (F := Ideal)) W) A := by
  unfold hostOps0_1
  exact ⟨fun t j => by after_reads_simp; exact H.z t j, fun t j => by after_reads_simp; exact H.c t j, fun t j => by after_reads_simp; exact H.o1 t j,
    fun t j => by after_reads_simp; exact H.l1 t j, fun t j => by after_reads_simp; exact H.o3 t j, fun t j => by after_reads_simp; exact H.l3 t j⟩

theorem Reads.keep2 (H : Reads W A) : Reads (after lines1 W) A := by
  simp only [lines1, hostOps0_2, List.take_succ_cons, List.take_zero]
  exact ⟨fun t j => by after_reads_simp; exact H.z t j, fun t j => by after_reads_simp; exact H.c t j, fun t j => by after_reads_simp; exact H.o1 t j,
    fun t j => by after_reads_simp; exact H.l1 t j, fun t j => by after_reads_simp; exact H.o3 t j, fun t j => by after_reads_simp; exact H.l3 t j⟩

theorem Reads.keep3 (H : Reads W A) : Reads (after lines2 W) A := by
  simp only [lines2, hostOps0_2, List.drop_succ_cons, List.drop_zero, List.take_succ_cons, List.take_zero]
  exact ⟨fun t j => by after_reads_simp; exact H.z t j, fun t j => by after_reads_simp; exact H.c t j, fun t j => by after_reads_simp; exact H.o1 t j,
    fun t j => by after_reads_simp; exact H.l1 t j, fun t j => by after_reads_simp; exact H.o3 t j, fun t j => by after_reads_simp; exact H.l3 t j⟩

theorem w36 : after (hostOps0_1 (F := Ideal)) W (Proc.devRef .tc main_v36) = W (Proc.devRef .tc main_v36) := by
  unfold hostOps0_1; after_reads_simp

open scoped Classical in
theorem select_ok (P : Prop) (c : BitVec 1) (hc : c = 1#1 ↔ P) {a b : EReal} {x : ℝ} (ha : a = (x : EReal)) (hb : b = ⊥) :
    Scalar.select c a b = if P then (x : EReal) else ⊥ := by
  by_cases hP : P
  · rw [if_pos hP, ← ha]; exact if_pos (hc.mpr hP)
  · rw [if_neg hP, ← hb]; exact if_neg fun h => hP (hc.mp h)

theorem v80 (H : Reads W A) (r : Fin 4) (h n : Fin 8) (i : Fin 128) (x : Fin 256) :
    @Eq EReal (after (hostOps0_1 (F := Ideal)) (after (hostOps0 (F := Ideal)) W) (Proc.devRef .tc main_v80) (ix5 r h n i x)) ((A.row 4 h r n i).mask x) := by
  have h78 := v78 H r h n i x
  have h79 := v79 (W := W) 0 0 n i x
  have hc := cst11 (W := W)
  generalize after (hostOps0 (F := Ideal)) W = U at h78 h79 hc ⊢
  unfold hostOps0_1
  after_reads_at
  refine select_ok _ _ h79 h78 ?_
  rw [hc]; exact ofBits_bot

/-- The softmax's inputs: the masked scores and the windows of values. -/
structure Scores (W : Valuation τ sig (Elt Ideal)) (A : Arrays) : Prop where
  s : ∀ (r : Fin 4) (h n : Fin 8) (i : Fin 128) (x : Fin 256), @Eq EReal (W (Proc.devRef .tc main_v80) (ix5 r h n i x)) ((A.row 4 h r n i).mask x)
  v : ∀ (r : Fin 4) (h n : Fin 8) (x : Fin 256) (e : Fin 128), @Eq EReal (W (Proc.devRef .tc main_v36) (ix5 r h n x e)) ((A.vx 4 h r n x e : ℝ) : EReal)

theorem scores (H : Reads W A) : Scores (after (hostOps0_1 (F := Ideal)) (after (hostOps0 (F := Ideal)) W)) A :=
  ⟨v80 H, fun r h n x e => by rw [w36]; exact v36 H r h n x e⟩

theorem fold_val (S : Scores W A) (r : Fin 4) (h n : Fin 8) (i : Fin 128) :
    @Eq EReal (Finset.fold max (Ideal.ofBits FTy.f32 4286578688#32) (fun x : Fin 256 => (W (Proc.devRef .tc main_v80) (ix5 r h n i x) : EReal)) Finset.univ) (((A.row 4 h r n i).mu : ℝ) : EReal) := by
  rw [← Row.fold_mask _ (A.row_ok 4 h r n i), ofBits_bot]
  congr 1; funext x; exact S.s r h n i x

theorem exp_val (S : Scores W A) (r : Fin 4) (h n : Fin 8) (i : Fin 128) (x : Fin 256) {a b : EReal}
    (ha : a = (A.row 4 h r n i).mask x) (hb : b = (((A.row 4 h r n i).mu : ℝ) : EReal)) :
    Ideal.exp (a - b) = (((A.row 4 h r n i).p x : ℝ) : EReal) := by
  rw [ha, hb]
  unfold Row.mask Row.p
  split
  · rw [← EReal.coe_sub]; rfl
  · rw [EReal.bot_sub]; rfl

theorem v85 (S : Scores W A) (r : Fin 4) (h n : Fin 8) (i : Fin 128) (x : Fin 256) :
    @Eq EReal (after lines1 W (Proc.devRef .tc main_v85) (ix5 r h n i x)) (((A.row 4 h r n i).p x : ℝ) : EReal) := by
  simp only [lines1, hostOps0_2, List.take_succ_cons, List.take_zero]
  after_reads_at
  exact exp_val S r h n i x (S.s r h n i x) (fold_val S r h n i)

theorem v81 (S : Scores W A) (r : Fin 4) (h n : Fin 8) (i : Fin 128) :
    @Eq EReal (after lines1 W (Proc.devRef .tc main_v81) (ix4 r h n i)) (((A.row 4 h r n i).mu : ℝ) : EReal) := by
  simp only [lines1, hostOps0_2, List.take_succ_cons, List.take_zero]
  after_reads_at
  exact fold_val S r h n i

theorem v86 (S : Scores W A) (r : Fin 4) (h n : Fin 8) (i : Fin 128) :
    @Eq EReal (after lines1 W (Proc.devRef .tc main_v86) (ix4 r h n i)) (((A.row 4 h r n i).den : ℝ) : EReal) := by
  simp only [lines1, hostOps0_2, List.take_succ_cons, List.take_zero]
  after_reads_at
  exact sum_real fun x => exp_val S r h n i x (S.s r h n i x) (fold_val S r h n i)

theorem v90 (S : Scores W A) (r : Fin 4) (h n : Fin 8) (i e : Fin 128) :
    @Eq EReal (after lines1 W (Proc.devRef .tc main_v90) (ix5 r h n i e)) (((A.row 4 h r n i).num e / (A.row 4 h r n i).den : ℝ) : EReal) := by
  simp only [lines1, hostOps0_2, List.take_succ_cons, List.take_zero]
  after_reads_at
  refine (congrArg₂ Ideal.div (sum_real (f := fun x => (A.row 4 h r n i).p x * A.vx 4 h r n x e) fun x => ?_) (sum_real fun x => exp_val S r h n i x (S.s r h n i x) (fold_val S r h n i))).trans (div_real (Row.den_pos _ (A.row_ok 4 h r n i)).ne')
  refine (congrArg₂ (@HMul.hMul EReal EReal EReal _) (exp_val S r h n i x (S.s r h n i x) (fold_val S r h n i)) (S.v r h n x e)).trans ?_
  exact (EReal.coe_mul _ _).symm

theorem add_log (a b : FVec Ideal S4x8x8x128 .f32) (j : S4x8x8x128.Idx) :
    @Eq EReal (addf a (Host.log b) j) (@HAdd.hAdd EReal EReal EReal _ (a j) (Ideal.log (b j))) := rfl

theorem v93 (W : Valuation τ sig (Elt Ideal)) (t : Fin 4096) (h : Fin 8) (e : Fin 128) :
    @Eq EReal (after lines2 W (Proc.devRef .tc main_v93) (ix3 t h e))
      (W (Proc.devRef .tc main_v90) (ix5 ⟨t.val % 4, by omega⟩ h ⟨t.val / 4 / 128, by omega⟩ ⟨t.val / 4 % 128, by omega⟩ e)) := by
  simp only [lines2, hostOps0_2, List.drop_succ_cons, List.drop_zero, List.take_succ_cons, List.take_zero]
  after_reads_at

theorem by_token (w : FVec Ideal S4x8x8x128 .f32) (t : Fin 4096) (h : Fin 8) :
    @Eq EReal (shapeCast S4096x8 (transpose S1024x4x8 [2, 0, 1] (shapeCast S4x8x1024 w shapeCasts_S4x8x8x128_S4x8x1024) transposes_S4x8x1024_S1024x4x8_2_0_1) shapeCasts_S1024x4x8_S4096x8 (ix2 t h))
      (w (ix4 ⟨t.val % 4, by omega⟩ h ⟨t.val / 4 / 128, by omega⟩ ⟨t.val / 4 % 128, by omega⟩)) := by
  clean_types; pointwise

theorem v98 (W : Valuation τ sig (Elt Ideal)) (t : Fin 4096) (h : Fin 8) :
    @Eq EReal (after lines2 W (Proc.devRef .tc main_v98) (ix2 t h))
      (@HAdd.hAdd EReal EReal EReal _ (W (Proc.devRef .tc main_v81) (ix4 ⟨t.val % 4, by omega⟩ h ⟨t.val / 4 / 128, by omega⟩ ⟨t.val / 4 % 128, by omega⟩))
        (Ideal.log (W (Proc.devRef .tc main_v86) (ix4 ⟨t.val % 4, by omega⟩ h ⟨t.val / 4 / 128, by omega⟩ ⟨t.val / 4 % 128, by omega⟩)))) := by
  simp only [lines2, hostOps0_2, List.drop_succ_cons, List.drop_zero, List.take_succ_cons, List.take_zero]
  after_reads_simp
  exact (by_token _ t h).trans (add_log _ _ _)

theorem lam_val (S : Scores W A) (r : Fin 4) (h n : Fin 8) (i : Fin 128) :
    @HAdd.hAdd EReal EReal EReal _ (after lines1 W (Proc.devRef .tc main_v81) (ix4 r h n i)) (Ideal.log (after lines1 W (Proc.devRef .tc main_v86) (ix4 r h n i)))
      = (((A.row 4 h r n i).lam : ℝ) : EReal) := by
  refine (congrArg₂ (@HAdd.hAdd EReal EReal EReal _) (v81 S r h n i) ((congrArg Ideal.log (v86 S r h n i)).trans (log_real (Row.den_pos _ (A.row_ok 4 h r n i))))).trans ?_
  exact (EReal.coe_add _ _).symm

/-- The merge's inputs: the arguments, and the branch's log-sums and results by token. -/
structure Parts (W : Valuation τ sig (Elt Ideal)) (A : Arrays) : Prop where
  args : Reads W A
  lse : ∀ (t : Fin 4096) (h : Fin 8), @Eq EReal (W (Proc.devRef .tc main_v98) (ix2 t h)) (((trow A h t).lam : ℝ) : EReal)
  out : ∀ (t : Fin 4096) (h : Fin 8) (e : Fin 128), @Eq EReal (W (Proc.devRef .tc main_v93) (ix3 t h e)) (((trow A h t).num e / (trow A h t).den : ℝ) : EReal)

theorem parts (H : Reads W A) : Parts (after lines2 (after lines1 (after (hostOps0_1 (F := Ideal)) (after (hostOps0 (F := Ideal)) W)))) A :=
  ⟨H.keep0.keep1.keep2.keep3, fun t h => (v98 _ t h).trans (lam_val (scores H) _ h _ _), fun t h e => (v93 _ t h e).trans (v90 (scores H) _ h _ _ e)⟩

section merge

variable (P : Parts W A) (t : Fin 4096) (h : Fin 8)
include P

theorem l1_val : @Eq EReal (W (Proc.devRef .tc main_arg3) (ix2 t h)) (((trow A h t).l1 : ℝ) : EReal) := by
  refine (P.args.l1 t h).trans ?_
  show _ = ((A.l1 (Arrays.tok 4 _ _ _) _ : ℝ) : EReal); rw [tok_split]

theorem l3_val : @Eq EReal (W (Proc.devRef .tc main_arg5) (ix2 t h)) (((trow A h t).l3 : ℝ) : EReal) := by
  refine (P.args.l3 t h).trans ?_
  show _ = ((A.l3 (Arrays.tok 4 _ _ _) _ : ℝ) : EReal); rw [tok_split]

theorem o1_val (e : Fin 128) (hb : h.val * 128 + e.val < 1024) :
    @Eq EReal (W (Proc.devRef .tc main_arg2) (ix2 t ⟨h.val * 128 + e.val, hb⟩)) (((trow A h t).o1 e : ℝ) : EReal) := by
  refine (P.args.o1 t _).trans ?_
  show _ = ((A.o1 (Arrays.tok 4 _ _ _) _ : ℝ) : EReal); rw [tok_split]

theorem o3_val (e : Fin 128) (hb : h.val * 128 + e.val < 1024) :
    @Eq EReal (W (Proc.devRef .tc main_arg4) (ix2 t ⟨h.val * 128 + e.val, hb⟩)) (((trow A h t).o3 e : ℝ) : EReal) := by
  refine (P.args.o3 t _).trans ?_
  show _ = ((A.o3 (Arrays.tok 4 _ _ _) _ : ℝ) : EReal); rw [tok_split]

theorem top_val : @Eq EReal (@max EReal _ (@max EReal _ (W (Proc.devRef .tc main_arg3) (ix2 t h)) (W (Proc.devRef .tc main_v98) (ix2 t h))) (W (Proc.devRef .tc main_arg5) (ix2 t h)))
    (((trow A h t).top : ℝ) : EReal) := by
  rw [l1_val P, l3_val P, P.lse, max_real, max_real]; rfl

theorem w1_val : Ideal.exp (@HSub.hSub EReal EReal EReal _ (W (Proc.devRef .tc main_arg3) (ix2 t h)) (@max EReal _ (@max EReal _ (W (Proc.devRef .tc main_arg3) (ix2 t h)) (W (Proc.devRef .tc main_v98) (ix2 t h))) (W (Proc.devRef .tc main_arg5) (ix2 t h))))
    = (((trow A h t).w1 : ℝ) : EReal) := by
  rw [top_val P, l1_val P, ← EReal.coe_sub]; exact exp_real _

theorem w2_val : Ideal.exp (@HSub.hSub EReal EReal EReal _ (W (Proc.devRef .tc main_v98) (ix2 t h)) (@max EReal _ (@max EReal _ (W (Proc.devRef .tc main_arg3) (ix2 t h)) (W (Proc.devRef .tc main_v98) (ix2 t h))) (W (Proc.devRef .tc main_arg5) (ix2 t h))))
    = (((trow A h t).w2 : ℝ) : EReal) := by
  rw [top_val P, P.lse, ← EReal.coe_sub]; exact exp_real _

theorem w3_val : Ideal.exp (@HSub.hSub EReal EReal EReal _ (W (Proc.devRef .tc main_arg5) (ix2 t h)) (@max EReal _ (@max EReal _ (W (Proc.devRef .tc main_arg3) (ix2 t h)) (W (Proc.devRef .tc main_v98) (ix2 t h))) (W (Proc.devRef .tc main_arg5) (ix2 t h))))
    = (((trow A h t).w3 : ℝ) : EReal) := by
  rw [top_val P, l3_val P, ← EReal.coe_sub]; exact exp_real _

omit P in
theorem add3 {a b c : EReal} {x y z : ℝ} (ha : a = (x : EReal)) (hb : b = (y : EReal)) (hc : c = (z : EReal)) : a + b + c = ((x + y + z : ℝ) : EReal) := by
  rw [ha, hb, hc, ← EReal.coe_add, ← EReal.coe_add]

omit P in
theorem term_val {a b c : EReal} {x y z : ℝ} (hy : y ≠ 0) (ha : a = (x : EReal)) (hb : b = (y : EReal)) (hc : c = (z : EReal)) :
    Ideal.div a b * c = ((x / y * z : ℝ) : EReal) := by
  rw [ha, hb, hc, div_real hy, ← EReal.coe_mul]

theorem v129 : @Eq EReal (after lines3 W (Proc.devRef .tc main_v129) (ix2 t h)) (((trow A h t).ltot : ℝ) : EReal) := by
  simp only [lines3, hostOps0_2, List.drop_succ_cons, List.drop_zero]
  after_reads_at
  refine (congrArg₂ (@HAdd.hAdd EReal EReal EReal _) (top_val P t h) ((congrArg Ideal.log (add3 (w1_val P t h) (w2_val P t h) (w3_val P t h))).trans (log_real (Row.wsum_pos _)))).trans ?_
  exact (EReal.coe_add _ _).symm

theorem v124 (e : Fin 128) : @Eq EReal (after lines3 W (Proc.devRef .tc main_v124) (ix3 t h e)) (((trow A h t).mix e : ℝ) : EReal) := by
  simp only [lines3, hostOps0_2, List.drop_succ_cons, List.drop_zero]
  after_reads_at
  have hs := add3 (w1_val P t h) (w2_val P t h) (w3_val P t h)
  have h0 : (trow A h t).w1 + (trow A h t).w2 + (trow A h t).w3 ≠ 0 := (Row.wsum_pos (trow A h t)).ne'
  exact add3 (term_val h0 (w1_val P t h) hs (o1_val P t h e _)) (term_val h0 (w2_val P t h) hs (P.out t h e)) (term_val h0 (w3_val P t h) hs (o3_val P t h e _))

theorem v127 (e : Fin 128) : @Eq EReal (after lines3 W (Proc.devRef .tc main_v127) (ix3 t h e)) (((trow A h t).c e : ℝ) : EReal) := by
  simp only [lines3, hostOps0_2, List.drop_succ_cons, List.drop_zero]
  after_reads_at
  refine (P.args.c t _).trans ?_
  show _ = ((A.c (Arrays.tok 4 _ _ _) _ : ℝ) : EReal); rw [tok_split]

end merge

/-- The host lines after the merge. -/
abbrev last (W : Valuation τ sig (Elt Ideal)) : Valuation τ sig (Elt Ideal) :=
  after (hostOps0_6 (F := Ideal)) (after (hostOps0_5 (F := Ideal)) (after (hostOps0_4 (F := Ideal)) (after (hostOps0_3 (F := Ideal)) W)))

theorem v138 (W : Valuation τ sig (Elt Ideal)) (a : Fin 1024) (b : Fin 512) (hb : b.val % 128 < 8) :
    @Eq EReal (last W (Proc.devRef .tc main_v138) (ix2 a b)) (W (Proc.devRef .tc main_v129) (ix2 ⟨a.val * 4 + b.val / 128, by omega⟩ ⟨b.val % 128, hb⟩)) := by
  unfold last hostOps0_6 hostOps0_5 hostOps0_4 hostOps0_3
  after_reads_at
  exact dif_pos ⟨by omega, hb⟩

theorem v139 (W : Valuation τ sig (Elt Ideal)) (a : Fin 1024) (b : Fin 512) (hb : b.val % 128 < 8) :
    @Eq EReal (last W (Proc.devRef .tc main_v139) (ix2 a b))
      (@Finset.sum (Fin 128) EReal _ Finset.univ fun e => @HMul.hMul EReal EReal EReal _ (W (Proc.devRef .tc main_v127) (ix3 ⟨a.val * 4 + b.val / 128, by omega⟩ ⟨b.val % 128, hb⟩ e))
        (W (Proc.devRef .tc main_v124) (ix3 ⟨a.val * 4 + b.val / 128, by omega⟩ ⟨b.val % 128, hb⟩ e))) := by
  unfold last hostOps0_6 hostOps0_5 hostOps0_4 hostOps0_3
  after_reads_at
  exact dif_pos ⟨by omega, hb⟩

theorem v135 (W : Valuation τ sig (Elt Ideal)) (a : Fin 1024) (b : Fin 12288) :
    @Eq EReal (last W (Proc.devRef .tc main_v135) (ix2 a b)) (W (Proc.devRef .tc main_arg0) (ix2 ⟨a.val * 4 + b.val / 3072, by omega⟩ ⟨2048 + b.val % 3072, by omega⟩)) := by
  unfold last hostOps0_6 hostOps0_5 hostOps0_4 hostOps0_3
  after_reads_at

theorem v137 (W : Valuation τ sig (Elt Ideal)) (a : Fin 1024) (b : Fin 4096) :
    @Eq EReal (last W (Proc.devRef .tc main_v137) (ix2 a b)) (W (Proc.devRef .tc main_arg1) (ix2 ⟨a.val * 4 + b.val / 1024, by omega⟩ ⟨1024 + b.val % 1024, by omega⟩)) := by
  unfold last hostOps0_6 hostOps0_5 hostOps0_4 hostOps0_3
  after_reads_at

theorem args0 : last (after lines3 W) (Proc.devRef .tc main_arg0) = W (Proc.devRef .tc main_arg0) := by
  simp only [last, lines3, hostOps0_6, hostOps0_5, hostOps0_4, hostOps0_3, hostOps0_2, List.drop_succ_cons, List.drop_zero]
  after_reads_simp

theorem w0 : after lines3 W (Proc.devRef .tc main_arg0) = W (Proc.devRef .tc main_arg0) := by
  simp only [lines3, hostOps0_2, List.drop_succ_cons, List.drop_zero]
  after_reads_simp

theorem w1 : after lines3 W (Proc.devRef .tc main_arg1) = W (Proc.devRef .tc main_arg1) := by
  simp only [lines3, hostOps0_2, List.drop_succ_cons, List.drop_zero]
  after_reads_simp

section entry

variable {m : (ℓ : Loc nD τ sig) → Buf (Elt Ideal) ℓ} {c : Dev nD}

theorem V_eq (b : Ref sig .tc) : V m c b = last (after lines3 (after lines2 (after lines1 (after (hostOps0_1 (F := Ideal)) (after (hostOps0 (F := Ideal)) (fun b => m (c, b))))))) (Proc.devRef .tc b) := by
  rw [← split_lines]
  simp only [V, last, List.flatten_cons, List.flatten_nil, after_append, List.append_nil]

variable (H : Reads (fun b => m (c, b)) A)
include H

/-- The projection's rows as the call reads them: row `a` holds four tokens, each with its query, key and value columns. -/
theorem z_view (a : Fin 1024) (b : Fin 12288) :
    @Eq EReal (V m c main_v135 (ix2 a b)) ((A.z (a.val * 4 + b.val / 3072) (2048 + b.val % 3072) : ℝ) : EReal) := by
  rw [V_eq]
  refine (v135 _ a b).trans ?_
  rw [w0]
  exact (parts H).args.z _ _

/-- The gradient of the layer's rows as the call reads them. -/
theorem c_view (a : Fin 1024) (b : Fin 4096) :
    @Eq EReal (V m c main_v137 (ix2 a b)) ((A.c (a.val * 4 + b.val / 1024) (1024 + b.val % 1024) : ℝ) : EReal) := by
  rw [V_eq]
  refine (v137 _ a b).trans ?_
  rw [w1]
  exact (parts H).args.c _ _

/-- The log-sums over the three branches, head `h` in lane `h` of its token. -/
theorem l_view (a : Fin 1024) (b : Fin 512) (hb : b.val % 128 < 8) :
    @Eq EReal (V m c main_v138 (ix2 a b)) (((trow A (b.val % 128) (a.val * 4 + b.val / 128)).ltot : ℝ) : EReal) := by
  rw [V_eq]
  refine (v138 _ a b hb).trans ?_
  exact v129 (parts H) ⟨a.val * 4 + b.val / 128, by omega⟩ ⟨b.val % 128, hb⟩

/-- The products of the layer's gradient with the merged results, head `h` in lane `h` of its token. -/
theorem d_view (a : Fin 1024) (b : Fin 512) (hb : b.val % 128 < 8) :
    @Eq EReal (V m c main_v139 (ix2 a b)) (((trow A (b.val % 128) (a.val * 4 + b.val / 128)).delta : ℝ) : EReal) := by
  rw [V_eq]
  refine (v139 _ a b hb).trans ?_
  refine sum_real fun e => ?_
  refine (congrArg₂ (@HMul.hMul EReal EReal EReal _) (v127 (parts H) ⟨a.val * 4 + b.val / 128, by omega⟩ ⟨b.val % 128, hb⟩ e) (v124 (parts H) ⟨a.val * 4 + b.val / 128, by omega⟩ ⟨b.val % 128, hb⟩ e)).trans ?_
  exact (EReal.coe_mul _ _).symm

end entry

end Cert.KernelIdeal.Dil

end
-- ==== Proof.KerCell.lean ====
/- One entry of the call's three products over the reals: a masked score's probability and the gradient with respect to
   the score, as the call computes them from the blocks it holds. -/
module

public import proofs.«01_k».proof.Proof.Reals
public import proofs.«01_k».proof.KernelIdeal
public import Idealize.ShloMosaic.PureOps.IdealRules

@[expose] public section

set_option maxRecDepth 16384

noncomputable section

namespace Cert.KernelIdeal.Dil

open Idealize.ShloMosaic Idealize.ShloMosaic.TcCoe
open Cert.KernelIdeal
open _root_.Dil

open scoped Classical

theorem mask_val : Named.named (F := Ideal) κ "mask" (φ := .f32) 4048155338#32 = (⊥ : EReal) := by
  simp [Named.named, κ]

/-- A probability, where its row is there; zero where it is not. -/
theorem cell_prob (R : Row) (x : Fin 256) (P : Prop) [Decidable P] {c : BitVec 1} {S l : EReal} (s ll : ℝ) (hc : c = 1#1 ↔ P ∧ R.ok x)
    (hs : S = (s : EReal)) (hsR : P → R.ok x → s = R.s x) (hl : l = (ll : EReal)) (hlR : P → ll = R.ltot) :
    Ideal.exp (Scalar.select c S (Named.named (F := Ideal) κ "mask" (φ := .f32) 4048155338#32) - l) = ((if P then R.prob x else 0 : ℝ) : EReal) := by
  rw [mask_val, hs, hl]
  unfold Row.prob
  by_cases hP : P
  · rw [if_pos hP]
    by_cases hx : R.ok x
    · rw [if_pos hx, show Scalar.select c (s : EReal) ⊥ = (s : EReal) from if_pos (hc.mpr ⟨hP, hx⟩), ← EReal.coe_sub, hsR hP hx, hlR hP]
      exact exp_real _
    · rw [if_neg hx, show Scalar.select c (s : EReal) ⊥ = (⊥ : EReal) from if_neg fun h => hx (hc.mp h).2, EReal.bot_sub]
      exact exp_bot
  · rw [if_neg hP, show Scalar.select c (s : EReal) ⊥ = (⊥ : EReal) from if_neg fun h => hP (hc.mp h).1, EReal.bot_sub]
    exact exp_bot

/-- The gradient with respect to a score, where its row is there; zero where it is not. -/
theorem cell_ds (R : Row) (x : Fin 256) (P : Prop) [Decidable P] {p D l : EReal} (d ll : ℝ) (hp : p = ((if P then R.prob x else 0 : ℝ) : EReal))
    (hd : D = (d : EReal)) (hdR : P → R.ok x → d = ∑ e, R.c e * R.v x e) (hl : l = (ll : EReal)) (hlR : P → ll = R.delta) :
    p * (D - l) = ((if P then R.ds x else 0 : ℝ) : EReal) := by
  rw [hp, hd, hl, ← EReal.coe_sub, ← EReal.coe_mul]
  congr 1
  by_cases hP : P
  · rw [if_pos hP, if_pos hP, hlR hP]
    by_cases hx : R.ok x
    · rw [hdR hP hx]; rfl
    · rw [R.ds_of_not_ok x hx]; unfold Row.prob; rw [if_neg hx, zero_mul]
  · rw [if_neg hP, if_neg hP, zero_mul]

/-- The slopes the call multiplies the distances by. -/
theorem slope0 : Ideal.ofBits FTy.f32 1056964608#32 = ((_root_.Dil.slope 0 : ℝ) : EReal) := by
  unfold _root_.Dil.slope; simp [Ideal.ofBits, Ideal.ieee, -EReal.coe_mul]; norm_num
theorem slope1 : Ideal.ofBits FTy.f32 1048576000#32 = ((_root_.Dil.slope 1 : ℝ) : EReal) := by
  unfold _root_.Dil.slope; simp [Ideal.ofBits, Ideal.ieee, -EReal.coe_mul]; norm_num
theorem slope2 : Ideal.ofBits FTy.f32 1040187392#32 = ((_root_.Dil.slope 2 : ℝ) : EReal) := by
  unfold _root_.Dil.slope; simp [Ideal.ofBits, Ideal.ieee, -EReal.coe_mul]; norm_num
theorem slope3 : Ideal.ofBits FTy.f32 1031798784#32 = ((_root_.Dil.slope 3 : ℝ) : EReal) := by
  unfold _root_.Dil.slope; simp [Ideal.ofBits, Ideal.ieee, -EReal.coe_mul]; norm_num
theorem slope4 : Ideal.ofBits FTy.f32 1023410176#32 = ((_root_.Dil.slope 4 : ℝ) : EReal) := by
  unfold _root_.Dil.slope; simp [Ideal.ofBits, Ideal.ieee, -EReal.coe_mul]; norm_num
theorem slope5 : Ideal.ofBits FTy.f32 1015021568#32 = ((_root_.Dil.slope 5 : ℝ) : EReal) := by
  unfold _root_.Dil.slope; simp [Ideal.ofBits, Ideal.ieee, -EReal.coe_mul]; norm_num
theorem slope6 : Ideal.ofBits FTy.f32 1006632960#32 = ((_root_.Dil.slope 6 : ℝ) : EReal) := by
  unfold _root_.Dil.slope; simp [Ideal.ofBits, Ideal.ieee, -EReal.coe_mul]; norm_num
theorem slope7 : Ideal.ofBits FTy.f32 998244352#32 = ((_root_.Dil.slope 7 : ℝ) : EReal) := by
  unfold _root_.Dil.slope; simp [Ideal.ofBits, Ideal.ieee, -EReal.coe_mul]; norm_num

theorem sub_word (i j : ℕ) : IntOp.subi (BitVec.ofNat 32 i) (BitVec.ofNat 32 j) = BitVec.ofInt 32 ((i : ℤ) - (j : ℤ)) := by
  show BitVec.ofNat 32 i - BitVec.ofNat 32 j = _
  rw [sub_eq_add_neg (i : ℤ), BitVec.ofInt_add, BitVec.ofInt_neg, ← ofNat_ofInt, ← ofNat_ofInt, ← BitVec.sub_eq_add_neg]

theorem add_word (z : ℤ) : IntOp.addi (BitVec.ofInt 32 z) 128#32 = BitVec.ofInt 32 (z + 128) := by
  show BitVec.ofInt 32 z + 128#32 = _
  rw [BitVec.ofInt_add]; rfl

theorem dist_word (z : ℤ) (h1 : -1000 ≤ z) (h2 : z ≤ 1000) :
    (FloatOps.sitofp (F := Ideal) FTy.f32 (IntOp.muli (BitVec.ofInt 32 z) 4#32) : EReal) = (((z * (4 : ℕ) : ℤ) : ℝ) : EReal) := by
  show (((BitVec.ofInt 32 z * 4#32).toInt : ℝ) : EReal) = _
  rw [show (4#32 : BitVec 32) = BitVec.ofInt 32 4 from rfl, ← BitVec.ofInt_mul, toInt_small _ (by omega) (by omega)]
  rfl

theorem sge_word (i j : ℕ) (hi : i < 128) (hj : j < 128) :
    IntOp.cmpi CmpIPredicate.sge (IntOp.subi (BitVec.ofNat 32 i) (BitVec.ofNat 32 j)) 0#32 = 1#1 ↔ j ≤ i := by
  rw [sub_word]
  show BitVec.ofBool (BitVec.sle _ _) = 1#1 ↔ _
  rw [BitVec.sle_eq_decide, toInt_small _ (by omega) (by omega)]
  show BitVec.ofBool (decide ((0 : ℤ) ≤ _)) = 1#1 ↔ _
  by_cases a : j ≤ i
  · simp [a]
  · simp [a]

theorem sle_word (i j : ℕ) (hi : i < 128) (hj : j < 128) (P : Prop) {c : BitVec 1} (hc : c = 1#1 ↔ P) :
    IntOp.andi (IntOp.cmpi CmpIPredicate.sle (IntOp.subi (BitVec.ofNat 32 i) (BitVec.ofNat 32 j)) 0#32) c = 1#1 ↔ P ∧ i ≤ j := by
  rw [sub_word]
  have h : IntOp.cmpi CmpIPredicate.sle (BitVec.ofInt 32 ((i : ℤ) - (j : ℤ))) 0#32 = BitVec.ofBool (decide (i ≤ j)) := by
    show BitVec.ofBool (BitVec.sle _ _) = _
    rw [BitVec.sle_eq_decide, toInt_small _ (by omega) (by omega)]
    congr 1; rw [decide_eq_decide]; show _ ≤ (0 : ℤ) ↔ _; omega
  rw [h, ← hc]
  by_cases a : i ≤ j
  · rw [show BitVec.ofBool (decide (i ≤ j)) = 1#1 by simp [a]]
    show 1#1 &&& c = 1#1 ↔ _
    have : c = 0#1 ∨ c = 1#1 := (by decide : ∀ w : BitVec 1, w = 0#1 ∨ w = 1#1) c
    rcases this with rfl | rfl <;> simp [a]
  · rw [show BitVec.ofBool (decide (i ≤ j)) = 0#1 by simp [a]]
    show 0#1 &&& c = 1#1 ↔ _
    simp [a]

theorem before_word (n : ℕ) (hn : n < 8) : Scalar.cmpi CmpIPredicate.sgt (BitVec.ofNat 32 n) 0#32 = 1#1 ↔ 0 < n := by
  interval_cases n <;> decide

theorem after_word (n : ℕ) (hn : n < 8) : Scalar.cmpi CmpIPredicate.slt (BitVec.ofNat 32 n) 7#32 = 1#1 ↔ n < 7 := by
  interval_cases n <;> decide

variable {A : Arrays} {h r n : ℕ}

theorem score_real {g : Fin 128 → EReal} {S : ℝ} {sb dist : EReal} {z : ℤ} {sl : ℝ} (hg : ∑ e, g e = ((S : ℝ) : EReal))
    (hb : sb = ((sl : ℝ) : EReal)) (hd : dist = ((z : ℝ) : EReal)) :
    (∑ e, g e) * Ideal.ofBits FTy.f32 1035273459#32 - sb * dist = ((S * sc - sl * z : ℝ) : EReal) := by
  rw [hg, hb, hd, ofBits_sc, ← EReal.coe_mul, ← EReal.coe_mul, ← EReal.coe_sub]

theorem dot_real {a b : Fin 128 → EReal} {f g : ℕ → ℝ} (ha : ∀ e, a e = ((f e.val : ℝ) : EReal)) (hb : ∀ e, b e = ((g e.val : ℝ) : EReal)) :
    ∑ e, a e * b e = ((∑ e : Fin 128, f e.val * g e.val : ℝ) : EReal) :=
  sum_real fun e => by rw [ha, hb, ← EReal.coe_mul]

/-- A probability over a key of the query's own block. -/
theorem prob_own {i j : Fin 128} {a b : Fin 128 → EReal} {sb l : EReal}
    (ha : ∀ e, a e = ((A.q h (Arrays.tok 4 r n i) e.val : ℝ) : EReal)) (hb : ∀ e, b e = ((A.k h (Arrays.tok 4 r n j) e.val : ℝ) : EReal))
    (hsb : sb = ((_root_.Dil.slope h : ℝ) : EReal)) (hl : l = (((A.row 4 h r n i).ltot : ℝ) : EReal)) :
    Ideal.exp (Scalar.select (IntOp.cmpi CmpIPredicate.sge (IntOp.subi (BitVec.ofNat 32 i.val) (BitVec.ofNat 32 j.val)) 0#32)
      ((∑ e, a e * b e) * Ideal.ofBits FTy.f32 1035273459#32 - sb * FloatOps.sitofp (F := Ideal) FTy.f32 (IntOp.muli (IntOp.subi (BitVec.ofNat 32 i.val) (BitVec.ofNat 32 j.val)) 4#32))
      (Named.named (F := Ideal) κ "mask" (φ := .f32) 4048155338#32) - l)
    = (((A.row 4 h r n i).prob ⟨128 + j.val, by omega⟩ : ℝ) : EReal) := by
  refine (cell_prob (A.row 4 h r n i) ⟨128 + j.val, by omega⟩ True _ _ ?_ (score_real (dot_real ha hb) hsb (by rw [sub_word]; exact dist_word _ (by omega) (by omega))) ?_ hl fun _ => rfl).trans ?_
  · rw [sge_word _ _ i.isLt j.isLt, true_and]
    show _ ↔ Arrays.ok n i.val (128 + j.val)
    unfold Arrays.ok; omega
  · intro _ _
    show _ = (∑ e : Fin 128, A.q h (Arrays.tok 4 r n i) e * sc * A.kx 4 h r n (128 + j.val) e) + -_root_.Dil.slope h * (((128 + (i.val : ℤ) - ((128 + j.val : ℕ) : ℤ)) * (4 : ℕ) : ℤ) : ℝ)
    rw [show (128 + (i.val : ℤ) - ((128 + j.val : ℕ) : ℤ)) = (i.val : ℤ) - (j.val : ℤ) by push_cast; ring, Finset.sum_mul, sub_eq_add_neg, neg_mul]
    congr 1
    refine Finset.sum_congr rfl fun e _ => ?_
    unfold Arrays.kx
    rw [if_neg (by omega), show (n * 128 + (128 + j.val) - 128) * 4 + r = Arrays.tok 4 r n j.val by unfold Arrays.tok; omega]
    ring
  · rw [if_pos trivial]

/-- A probability over a key of the block before the query's, where there is one. -/
theorem prob_before {P : Prop} [Decidable P] {m t : ℕ} {i j : Fin 128} {c : BitVec 1} {a b : Fin 128 → EReal} {sb l : EReal} (R : Row)
    (hc : c = 1#1 ↔ P) (hn : P → 0 < n) (hm : P → m = n - 1) (ht : P → t = n) (hR : R = A.row 4 h r n i)
    (ha : ∀ e, a e = ((A.q h (Arrays.tok 4 r t i) e.val : ℝ) : EReal)) (hb : ∀ e, b e = ((A.k h (Arrays.tok 4 r m j) e.val : ℝ) : EReal))
    (hsb : sb = ((_root_.Dil.slope h : ℝ) : EReal)) (hl : l = (((A.row 4 h r t i).ltot : ℝ) : EReal)) :
    Ideal.exp (Scalar.select (IntOp.andi (IntOp.cmpi CmpIPredicate.sle (IntOp.subi (BitVec.ofNat 32 i.val) (BitVec.ofNat 32 j.val)) 0#32) c)
      ((∑ e, a e * b e) * Ideal.ofBits FTy.f32 1035273459#32 - sb * FloatOps.sitofp (F := Ideal) FTy.f32 (IntOp.muli (IntOp.addi (IntOp.subi (BitVec.ofNat 32 i.val) (BitVec.ofNat 32 j.val)) 128#32) 4#32))
      (Named.named (F := Ideal) κ "mask" (φ := .f32) 4048155338#32) - l)
    = ((if P then R.prob ⟨j.val, by omega⟩ else 0 : ℝ) : EReal) := by
  subst hR
  refine cell_prob (A.row 4 h r n i) ⟨j.val, by omega⟩ P _ _ ?_ (score_real (dot_real ha hb) hsb (by rw [sub_word, add_word]; exact dist_word _ (by omega) (by omega))) ?_ hl fun hP => by rw [ht hP]
  · rw [sle_word _ _ i.isLt j.isLt P hc]
    refine and_congr_right fun hP => ?_
    show _ ↔ Arrays.ok n i.val j.val
    have := hn hP
    unfold Arrays.ok; omega
  · intro hP _
    show _ = (∑ e : Fin 128, A.q h (Arrays.tok 4 r n i) e * sc * A.kx 4 h r n j.val e) + -_root_.Dil.slope h * (((128 + (i.val : ℤ) - (j.val : ℤ)) * (4 : ℕ) : ℤ) : ℝ)
    rw [show (128 + (i.val : ℤ) - (j.val : ℤ)) = (i.val : ℤ) - (j.val : ℤ) + 128 by ring, Finset.sum_mul, sub_eq_add_neg, neg_mul]
    congr 1
    refine Finset.sum_congr rfl fun e _ => ?_
    have := hn hP
    unfold Arrays.kx
    rw [if_neg (by omega), show (n * 128 + j.val - 128) * 4 + r = Arrays.tok 4 r (n - 1) j.val by unfold Arrays.tok; omega, hm hP, ht hP]
    ring

/-- The gradient with respect to a score over the query's own block. -/
theorem ds_own {i j : Fin 128} {c v : Fin 128 → EReal} {p l : EReal} (hp : p = (((A.row 4 h r n i).prob ⟨128 + j.val, by omega⟩ : ℝ) : EReal))
    (hc : ∀ e, c e = ((A.ct h (Arrays.tok 4 r n i) e.val : ℝ) : EReal)) (hv : ∀ e, v e = ((A.v h (Arrays.tok 4 r n j) e.val : ℝ) : EReal))
    (hl : l = (((A.row 4 h r n i).delta : ℝ) : EReal)) :
    p * ((∑ e, c e * v e) - l) = (((A.row 4 h r n i).ds ⟨128 + j.val, by omega⟩ : ℝ) : EReal) := by
  refine (cell_ds (A.row 4 h r n i) ⟨128 + j.val, by omega⟩ True _ _ (by rw [hp, if_pos trivial]) (dot_real hc hv) ?_ hl fun _ => rfl).trans (by rw [if_pos trivial])
  intro _ _
  refine Finset.sum_congr rfl fun e _ => ?_
  show _ = A.ct h (Arrays.tok 4 r n i) e * A.vx 4 h r n (128 + j.val) e
  unfold Arrays.vx
  rw [if_neg (by omega), show (n * 128 + (128 + j.val) - 128) * 4 + r = Arrays.tok 4 r n j.val by unfold Arrays.tok; omega]

/-- The gradient with respect to a score over the block before the query's, where there is one. -/
theorem ds_before {P : Prop} [Decidable P] {m t : ℕ} {i j : Fin 128} {c v : Fin 128 → EReal} {p l : EReal} (R : Row)
    (hn : P → 0 < n) (hm : P → m = n - 1) (ht : P → t = n) (hR : R = A.row 4 h r n i)
    (hp : p = ((if P then R.prob ⟨j.val, by omega⟩ else 0 : ℝ) : EReal))
    (hc : ∀ e, c e = ((A.ct h (Arrays.tok 4 r t i) e.val : ℝ) : EReal)) (hv : ∀ e, v e = ((A.v h (Arrays.tok 4 r m j) e.val : ℝ) : EReal))
    (hl : l = (((A.row 4 h r t i).delta : ℝ) : EReal)) :
    p * ((∑ e, c e * v e) - l) = ((if P then R.ds ⟨j.val, by omega⟩ else 0 : ℝ) : EReal) := by
  subst hR
  refine cell_ds (A.row 4 h r n i) ⟨j.val, by omega⟩ P _ _ hp (dot_real hc hv) ?_ hl fun hP => by rw [ht hP]
  intro hP _
  refine Finset.sum_congr rfl fun e _ => ?_
  show _ = A.ct h (Arrays.tok 4 r n i) e * A.vx 4 h r n j.val e
  have := hn hP
  unfold Arrays.vx
  rw [if_neg (by omega), show (n * 128 + j.val - 128) * 4 + r = Arrays.tok 4 r (n - 1) j.val by unfold Arrays.tok; omega, hm hP, ht hP]

end Cert.KernelIdeal.Dil

end
-- ==== Proof.KerBlock.lean ====
/- What the call's body leaves in its three blocks, over the reals: the gradients of the rows of one block of one
   subsequence, head by head. -/
module

public import proofs.«01_k».proof.Proof.KerCell
public import proofs.«01_k».proof.Proof.Gen.KernelIdeal.Value
public import Idealize.ShloMosaic.Lib.Pipeline.ValueKit

@[expose] public section

set_option maxRecDepth 16384

noncomputable section

namespace Cert.KernelIdeal.Dil

open Idealize.ShloMosaic Idealize.ShloMosaic.TcCoe Idealize.SL.Sem Idealize.ShloMosaic.StableHlo
open Cert.KernelIdeal Cert.KernelIdeal.Gen
open _root_.Dil

/-- The twelve blocks the body reads at a grid point, as the reals of `A`: block `n = i 1` of subsequence `r = i 0`, and
    the blocks before and after it (the first and the last stand for themselves where there is none). -/
structure Blk (A : Arrays) (i : grid0.Coords) (x0 x1 x2 x3 x4 x5 x6 x7 : Vec Ideal S128x1024 .bf16) (x8 x9 x10 x11 : Vec Ideal S128x128 .f32) : Prop where
  q : ∀ (h : ℕ) (a e : Fin 128) (b : Fin 1024), b.val = h * 128 + e.val → @Eq EReal (x0 (ix2 a b)) ((A.q h (Arrays.tok 4 (i 0).val (i 1).val a.val) e.val : ℝ) : EReal)
  qn : ∀ (h : ℕ) (a e : Fin 128) (b : Fin 1024), b.val = h * 128 + e.val → @Eq EReal (x1 (ix2 a b)) ((A.q h (Arrays.tok 4 (i 0).val (min ((i 1).val + 1) 7) a.val) e.val : ℝ) : EReal)
  kp : ∀ (h : ℕ) (a e : Fin 128) (b : Fin 1024), b.val = h * 128 + e.val → @Eq EReal (x2 (ix2 a b)) ((A.k h (Arrays.tok 4 (i 0).val ((i 1).val - 1) a.val) e.val : ℝ) : EReal)
  kc : ∀ (h : ℕ) (a e : Fin 128) (b : Fin 1024), b.val = h * 128 + e.val → @Eq EReal (x3 (ix2 a b)) ((A.k h (Arrays.tok 4 (i 0).val (i 1).val a.val) e.val : ℝ) : EReal)
  vp : ∀ (h : ℕ) (a e : Fin 128) (b : Fin 1024), b.val = h * 128 + e.val → @Eq EReal (x4 (ix2 a b)) ((A.v h (Arrays.tok 4 (i 0).val ((i 1).val - 1) a.val) e.val : ℝ) : EReal)
  vc : ∀ (h : ℕ) (a e : Fin 128) (b : Fin 1024), b.val = h * 128 + e.val → @Eq EReal (x5 (ix2 a b)) ((A.v h (Arrays.tok 4 (i 0).val (i 1).val a.val) e.val : ℝ) : EReal)
  d : ∀ (h : ℕ) (a e : Fin 128) (b : Fin 1024), b.val = h * 128 + e.val → @Eq EReal (x6 (ix2 a b)) ((A.ct h (Arrays.tok 4 (i 0).val (i 1).val a.val) e.val : ℝ) : EReal)
  dn : ∀ (h : ℕ) (a e : Fin 128) (b : Fin 1024), b.val = h * 128 + e.val → @Eq EReal (x7 (ix2 a b)) ((A.ct h (Arrays.tok 4 (i 0).val (min ((i 1).val + 1) 7) a.val) e.val : ℝ) : EReal)
  l : ∀ (h : ℕ) (a b : Fin 128), h < 8 → b.val = h → @Eq EReal (x8 (ix2 a b)) (((A.row 4 h (i 0).val (i 1).val a.val).ltot : ℝ) : EReal)
  ln : ∀ (h : ℕ) (a b : Fin 128), h < 8 → b.val = h → @Eq EReal (x9 (ix2 a b)) (((A.row 4 h (i 0).val (min ((i 1).val + 1) 7) a.val).ltot : ℝ) : EReal)
  dl : ∀ (h : ℕ) (a b : Fin 128), h < 8 → b.val = h → @Eq EReal (x10 (ix2 a b)) (((A.row 4 h (i 0).val (i 1).val a.val).delta : ℝ) : EReal)
  dln : ∀ (h : ℕ) (a b : Fin 128), h < 8 → b.val = h → @Eq EReal (x11 (ix2 a b)) (((A.row 4 h (i 0).val (min ((i 1).val + 1) 7) a.val).delta : ℝ) : EReal)

theorem split_sum (f : Fin 256 → ℝ) : ∑ x, f x = (∑ j : Fin 128, f ⟨128 + j.val, by omega⟩) + ∑ j : Fin 128, f ⟨j.val, by omega⟩ := by
  rw [add_comm]
  exact Fin.sum_univ_add (a := 128) (b := 128) f

theorem add_sums {f g : Fin 128 → EReal} {F G : Fin 128 → ℝ} (hf : ∀ j, f j = ((F j : ℝ) : EReal)) (hg : ∀ j, g j = ((G j : ℝ) : EReal)) :
    ∑ j, f j + ∑ j, g j = (((∑ j, F j) + ∑ j, G j : ℝ) : EReal) := by
  rw [sum_real hf, sum_real hg, EReal.coe_add]

theorem mul_val {a b : EReal} {x y : ℝ} (ha : a = ((x : ℝ) : EReal)) (hb : b = ((y : ℝ) : EReal)) : a * b = ((x * y : ℝ) : EReal) := by
  rw [ha, hb, EReal.coe_mul]

theorem dq_real (A : Arrays) (h r n i e : ℕ) :
    ((∑ j : Fin 128, (A.row 4 h r n i).ds ⟨128 + j.val, by omega⟩ * A.k h (Arrays.tok 4 r n j.val) e)
      + ∑ j : Fin 128, (if 0 < n then (A.row 4 h r n i).ds ⟨j.val, by omega⟩ else 0) * A.k h (Arrays.tok 4 r (n - 1) j.val) e) * sc = A.dq 4 h r n i e := by
  unfold Arrays.dq
  rw [split_sum]
  congr 2
  · refine Finset.sum_congr rfl fun j _ => ?_
    unfold Arrays.kx
    rw [if_neg (by simp), show (n * 128 + (128 + j.val) - 128) * 4 + r = Arrays.tok 4 r n j.val by unfold Arrays.tok; omega]
  · refine Finset.sum_congr rfl fun j _ => ?_
    by_cases hn : 0 < n
    · unfold Arrays.kx
      rw [if_pos hn, if_neg (by omega), show (n * 128 + j.val - 128) * 4 + r = Arrays.tok 4 r (n - 1) j.val by unfold Arrays.tok; omega]
    · rw [if_neg hn, zero_mul, Row.ds_of_not_ok _ _ fun hk : Arrays.ok n i j.val => hk.2.2 ⟨by omega, j.isLt⟩, zero_mul]

theorem dk_real (A : Arrays) (h r n i e : ℕ) (hi : i < 128) (hn : n < 8) :
    ((∑ y : Fin 128, (A.row 4 h r n y).ds ⟨128 + i, by omega⟩ * A.q h (Arrays.tok 4 r n y.val) e)
      + ∑ y : Fin 128, (if n < 7 then (A.row 4 h r (n + 1) y).ds ⟨i, by omega⟩ else 0) * A.q h (Arrays.tok 4 r (min (n + 1) 7) y.val) e) * sc = A.dk 4 8 h r n i e := by
  unfold Arrays.dk
  rw [add_mul, Finset.sum_mul]
  congr 1
  · refine Finset.sum_congr rfl fun y _ => ?_
    rw [mul_assoc]; congr 2; ext; show 128 + i = (128 + i) % 256; omega
  · by_cases hb : n < 7
    · rw [if_pos (by omega), Finset.sum_mul]
      refine Finset.sum_congr rfl fun y _ => ?_
      rw [if_pos hb, mul_assoc, min_eq_left (by omega)]; congr 2; ext; show i = i % 256; omega
    · rw [if_neg (by omega)]
      simp [hb]

theorem dv_real (A : Arrays) (h r n i e : ℕ) (hi : i < 128) (hn : n < 8) :
    (∑ y : Fin 128, (A.row 4 h r n y).prob ⟨128 + i, by omega⟩ * A.ct h (Arrays.tok 4 r n y.val) e)
      + ∑ y : Fin 128, (if n < 7 then (A.row 4 h r (n + 1) y).prob ⟨i, by omega⟩ else 0) * A.ct h (Arrays.tok 4 r (min (n + 1) 7) y.val) e = A.dv 4 8 h r n i e := by
  unfold Arrays.dv
  congr 1
  · refine Finset.sum_congr rfl fun y _ => ?_
    congr 2; ext; show 128 + i = (128 + i) % 256; omega
  · by_cases hb : n < 7
    · rw [if_pos (by omega)]
      refine Finset.sum_congr rfl fun y _ => ?_
      rw [if_pos hb, min_eq_left (by omega)]; congr 2; ext; show i = i % 256; omega
    · rw [if_neg (by omega)]
      simp [hb]

section body

variable {A : Arrays} {i : grid0.Coords} {x0 x1 x2 x3 x4 x5 x6 x7 : Vec Ideal S128x1024 .bf16} {x8 x9 x10 x11 : Vec Ideal S128x128 .f32}
  (B : Blk A i x0 x1 x2 x3 x4 x5 x6 x7 x8 x9 x10 x11) (h : ℕ) (hh : h < 8) {sb : EReal} (hsb : sb = ((_root_.Dil.slope h : ℝ) : EReal))
  (col : Fin 128 → Fin 1024) (hcol : ∀ e, (col e).val = h * 128 + e.val) (o : Fin 128) (ho : o.val = h) (x e : Fin 128)
include B hh hsb hcol ho

theorem prob_c (a b : Fin 128) :
    Ideal.exp (Scalar.select (IntOp.cmpi CmpIPredicate.sge (IntOp.subi (BitVec.ofNat 32 a.val) (BitVec.ofNat 32 b.val)) 0#32)
      ((@Finset.sum (Fin 128) EReal _ Finset.univ fun e => @HMul.hMul EReal EReal EReal _ (x0 (ix2 a (col e))) (x3 (ix2 b (col e)))) * Ideal.ofBits FTy.f32 1035273459#32 - sb * FloatOps.sitofp (F := Ideal) FTy.f32 (IntOp.muli (IntOp.subi (BitVec.ofNat 32 a.val) (BitVec.ofNat 32 b.val)) 4#32))
      (Named.named (F := Ideal) κ "mask" (φ := .f32) 4048155338#32) - x8 (ix2 a o))
    = (((A.row 4 h (i 0).val (i 1).val a).prob ⟨128 + b.val, by omega⟩ : ℝ) : EReal) :=
  prob_own (fun e => B.q h a e _ (hcol e)) (fun e => B.kc h b e _ (hcol e)) hsb (B.l h a o hh ho)

theorem prob_p (a b : Fin 128) :
    Ideal.exp (Scalar.select (IntOp.andi (IntOp.cmpi CmpIPredicate.sle (IntOp.subi (BitVec.ofNat 32 a.val) (BitVec.ofNat 32 b.val)) 0#32) (Scalar.cmpi CmpIPredicate.sgt (BitVec.ofNat 32 (i 1).val) 0#32))
      ((@Finset.sum (Fin 128) EReal _ Finset.univ fun e => @HMul.hMul EReal EReal EReal _ (x0 (ix2 a (col e))) (x2 (ix2 b (col e)))) * Ideal.ofBits FTy.f32 1035273459#32 - sb * FloatOps.sitofp (F := Ideal) FTy.f32 (IntOp.muli (IntOp.addi (IntOp.subi (BitVec.ofNat 32 a.val) (BitVec.ofNat 32 b.val)) 128#32) 4#32))
      (Named.named (F := Ideal) κ "mask" (φ := .f32) 4048155338#32) - x8 (ix2 a o))
    = ((if 0 < (i 1).val then (A.row 4 h (i 0).val (i 1).val a).prob ⟨b.val, by omega⟩ else 0 : ℝ) : EReal) :=
  prob_before _ (before_word _ (i 1).isLt) (fun hP => hP) (fun _ => rfl) (fun _ => rfl) rfl (fun e => B.q h a e _ (hcol e)) (fun e => B.kp h b e _ (hcol e)) hsb (B.l h a o hh ho)

theorem prob_n (a b : Fin 128) :
    Ideal.exp (Scalar.select (IntOp.andi (IntOp.cmpi CmpIPredicate.sle (IntOp.subi (BitVec.ofNat 32 a.val) (BitVec.ofNat 32 b.val)) 0#32) (Scalar.cmpi CmpIPredicate.slt (BitVec.ofNat 32 (i 1).val) 7#32))
      ((@Finset.sum (Fin 128) EReal _ Finset.univ fun e => @HMul.hMul EReal EReal EReal _ (x1 (ix2 a (col e))) (x3 (ix2 b (col e)))) * Ideal.ofBits FTy.f32 1035273459#32 - sb * FloatOps.sitofp (F := Ideal) FTy.f32 (IntOp.muli (IntOp.addi (IntOp.subi (BitVec.ofNat 32 a.val) (BitVec.ofNat 32 b.val)) 128#32) 4#32))
      (Named.named (F := Ideal) κ "mask" (φ := .f32) 4048155338#32) - x9 (ix2 a o))
    = ((if (i 1).val < 7 then (A.row 4 h (i 0).val ((i 1).val + 1) a).prob ⟨b.val, by omega⟩ else 0 : ℝ) : EReal) :=
  prob_before _ (after_word _ (i 1).isLt) (fun _ => Nat.succ_pos (i 1).val) (fun _ => rfl) (fun hP => min_eq_left (Nat.succ_le_of_lt hP)) rfl (fun e => B.qn h a e _ (hcol e)) (fun e => B.kc h b e _ (hcol e)) hsb (B.ln h a o hh ho)

theorem ds_c (a b : Fin 128) :
    @HMul.hMul EReal EReal EReal _ (Ideal.exp (Scalar.select (IntOp.cmpi CmpIPredicate.sge (IntOp.subi (BitVec.ofNat 32 a.val) (BitVec.ofNat 32 b.val)) 0#32)
      ((@Finset.sum (Fin 128) EReal _ Finset.univ fun e => @HMul.hMul EReal EReal EReal _ (x0 (ix2 a (col e))) (x3 (ix2 b (col e)))) * Ideal.ofBits FTy.f32 1035273459#32 - sb * FloatOps.sitofp (F := Ideal) FTy.f32 (IntOp.muli (IntOp.subi (BitVec.ofNat 32 a.val) (BitVec.ofNat 32 b.val)) 4#32))
      (Named.named (F := Ideal) κ "mask" (φ := .f32) 4048155338#32) - x8 (ix2 a o)))
      (@HSub.hSub EReal EReal EReal _ (@Finset.sum (Fin 128) EReal _ Finset.univ fun e => @HMul.hMul EReal EReal EReal _ (x6 (ix2 a (col e))) (x5 (ix2 b (col e)))) (x10 (ix2 a o)))
    = (((A.row 4 h (i 0).val (i 1).val a).ds ⟨128 + b.val, by omega⟩ : ℝ) : EReal) :=
  ds_own (prob_c B h hh hsb col hcol o ho a b) (fun e => B.d h a e _ (hcol e)) (fun e => B.vc h b e _ (hcol e)) (B.dl h a o hh ho)

theorem ds_p (a b : Fin 128) :
    @HMul.hMul EReal EReal EReal _ (Ideal.exp (Scalar.select (IntOp.andi (IntOp.cmpi CmpIPredicate.sle (IntOp.subi (BitVec.ofNat 32 a.val) (BitVec.ofNat 32 b.val)) 0#32) (Scalar.cmpi CmpIPredicate.sgt (BitVec.ofNat 32 (i 1).val) 0#32))
      ((@Finset.sum (Fin 128) EReal _ Finset.univ fun e => @HMul.hMul EReal EReal EReal _ (x0 (ix2 a (col e))) (x2 (ix2 b (col e)))) * Ideal.ofBits FTy.f32 1035273459#32 - sb * FloatOps.sitofp (F := Ideal) FTy.f32 (IntOp.muli (IntOp.addi (IntOp.subi (BitVec.ofNat 32 a.val) (BitVec.ofNat 32 b.val)) 128#32) 4#32))
      (Named.named (F := Ideal) κ "mask" (φ := .f32) 4048155338#32) - x8 (ix2 a o)))
      (@HSub.hSub EReal EReal EReal _ (@Finset.sum (Fin 128) EReal _ Finset.univ fun e => @HMul.hMul EReal EReal EReal _ (x6 (ix2 a (col e))) (x4 (ix2 b (col e)))) (x10 (ix2 a o)))
    = ((if 0 < (i 1).val then (A.row 4 h (i 0).val (i 1).val a).ds ⟨b.val, by omega⟩ else 0 : ℝ) : EReal) :=
  ds_before _ (fun hP => hP) (fun _ => rfl) (fun _ => rfl) rfl (prob_p B h hh hsb col hcol o ho a b) (fun e => B.d h a e _ (hcol e)) (fun e => B.vp h b e _ (hcol e)) (B.dl h a o hh ho)

theorem ds_n (a b : Fin 128) :
    @HMul.hMul EReal EReal EReal _ (Ideal.exp (Scalar.select (IntOp.andi (IntOp.cmpi CmpIPredicate.sle (IntOp.subi (BitVec.ofNat 32 a.val) (BitVec.ofNat 32 b.val)) 0#32) (Scalar.cmpi CmpIPredicate.slt (BitVec.ofNat 32 (i 1).val) 7#32))
      ((@Finset.sum (Fin 128) EReal _ Finset.univ fun e => @HMul.hMul EReal EReal EReal _ (x1 (ix2 a (col e))) (x3 (ix2 b (col e)))) * Ideal.ofBits FTy.f32 1035273459#32 - sb * FloatOps.sitofp (F := Ideal) FTy.f32 (IntOp.muli (IntOp.addi (IntOp.subi (BitVec.ofNat 32 a.val) (BitVec.ofNat 32 b.val)) 128#32) 4#32))
      (Named.named (F := Ideal) κ "mask" (φ := .f32) 4048155338#32) - x9 (ix2 a o)))
      (@HSub.hSub EReal EReal EReal _ (@Finset.sum (Fin 128) EReal _ Finset.univ fun e => @HMul.hMul EReal EReal EReal _ (x7 (ix2 a (col e))) (x5 (ix2 b (col e)))) (x11 (ix2 a o)))
    = ((if (i 1).val < 7 then (A.row 4 h (i 0).val ((i 1).val + 1) a).ds ⟨b.val, by omega⟩ else 0 : ℝ) : EReal) :=
  ds_before _ (fun _ => Nat.succ_pos (i 1).val) (fun _ => rfl) (fun hP => min_eq_left (Nat.succ_le_of_lt hP)) rfl (prob_n B h hh hsb col hcol o ho a b) (fun e => B.dn h a e _ (hcol e)) (fun e => B.vc h b e _ (hcol e)) (B.dln h a o hh ho)

theorem dq_piece :
    @HMul.hMul EReal EReal EReal _ (@HAdd.hAdd EReal EReal EReal _ (@Finset.sum (Fin 128) EReal _ Finset.univ fun j => @HMul.hMul EReal EReal EReal _ (@HMul.hMul EReal EReal EReal _ (Ideal.exp (Scalar.select (IntOp.cmpi CmpIPredicate.sge (IntOp.subi (BitVec.ofNat 32 x.val) (BitVec.ofNat 32 j.val)) 0#32)
      ((@Finset.sum (Fin 128) EReal _ Finset.univ fun e => @HMul.hMul EReal EReal EReal _ (x0 (ix2 x (col e))) (x3 (ix2 j (col e)))) * Ideal.ofBits FTy.f32 1035273459#32 - sb * FloatOps.sitofp (F := Ideal) FTy.f32 (IntOp.muli (IntOp.subi (BitVec.ofNat 32 x.val) (BitVec.ofNat 32 j.val)) 4#32))
      (Named.named (F := Ideal) κ "mask" (φ := .f32) 4048155338#32) - x8 (ix2 x o)))
      (@HSub.hSub EReal EReal EReal _ (@Finset.sum (Fin 128) EReal _ Finset.univ fun e => @HMul.hMul EReal EReal EReal _ (x6 (ix2 x (col e))) (x5 (ix2 j (col e)))) (x10 (ix2 x o)))) (x3 (ix2 j (col e))))
      (@Finset.sum (Fin 128) EReal _ Finset.univ fun j => @HMul.hMul EReal EReal EReal _ (@HMul.hMul EReal EReal EReal _ (Ideal.exp (Scalar.select (IntOp.andi (IntOp.cmpi CmpIPredicate.sle (IntOp.subi (BitVec.ofNat 32 x.val) (BitVec.ofNat 32 j.val)) 0#32) (Scalar.cmpi CmpIPredicate.sgt (BitVec.ofNat 32 (i 1).val) 0#32))
      ((@Finset.sum (Fin 128) EReal _ Finset.univ fun e => @HMul.hMul EReal EReal EReal _ (x0 (ix2 x (col e))) (x2 (ix2 j (col e)))) * Ideal.ofBits FTy.f32 1035273459#32 - sb * FloatOps.sitofp (F := Ideal) FTy.f32 (IntOp.muli (IntOp.addi (IntOp.subi (BitVec.ofNat 32 x.val) (BitVec.ofNat 32 j.val)) 128#32) 4#32))
      (Named.named (F := Ideal) κ "mask" (φ := .f32) 4048155338#32) - x8 (ix2 x o)))
      (@HSub.hSub EReal EReal EReal _ (@Finset.sum (Fin 128) EReal _ Finset.univ fun e => @HMul.hMul EReal EReal EReal _ (x6 (ix2 x (col e))) (x4 (ix2 j (col e)))) (x10 (ix2 x o)))) (x2 (ix2 j (col e))))) (Ideal.ofBits FTy.f32 1035273459#32)
    = ((A.dq 4 h (i 0).val (i 1).val x.val e.val : ℝ) : EReal) := by
  rw [← dq_real]
  refine mul_val (add_sums (fun j => ?_) fun j => ?_) ofBits_sc
  · exact mul_val (ds_c B h hh hsb col hcol o ho x j) (B.kc h j e _ (hcol e))
  · exact mul_val (ds_p B h hh hsb col hcol o ho x j) (B.kp h j e _ (hcol e))

theorem dk_piece :
    @HMul.hMul EReal EReal EReal _ (@HAdd.hAdd EReal EReal EReal _ (@Finset.sum (Fin 128) EReal _ Finset.univ fun j => @HMul.hMul EReal EReal EReal _ (@HMul.hMul EReal EReal EReal _ (Ideal.exp (Scalar.select (IntOp.cmpi CmpIPredicate.sge (IntOp.subi (BitVec.ofNat 32 j.val) (BitVec.ofNat 32 x.val)) 0#32)
      ((@Finset.sum (Fin 128) EReal _ Finset.univ fun e => @HMul.hMul EReal EReal EReal _ (x0 (ix2 j (col e))) (x3 (ix2 x (col e)))) * Ideal.ofBits FTy.f32 1035273459#32 - sb * FloatOps.sitofp (F := Ideal) FTy.f32 (IntOp.muli (IntOp.subi (BitVec.ofNat 32 j.val) (BitVec.ofNat 32 x.val)) 4#32))
      (Named.named (F := Ideal) κ "mask" (φ := .f32) 4048155338#32) - x8 (ix2 j o)))
      (@HSub.hSub EReal EReal EReal _ (@Finset.sum (Fin 128) EReal _ Finset.univ fun e => @HMul.hMul EReal EReal EReal _ (x6 (ix2 j (col e))) (x5 (ix2 x (col e)))) (x10 (ix2 j o)))) (x0 (ix2 j (col e))))
      (@Finset.sum (Fin 128) EReal _ Finset.univ fun j => @HMul.hMul EReal EReal EReal _ (@HMul.hMul EReal EReal EReal _ (Ideal.exp (Scalar.select (IntOp.andi (IntOp.cmpi CmpIPredicate.sle (IntOp.subi (BitVec.ofNat 32 j.val) (BitVec.ofNat 32 x.val)) 0#32) (Scalar.cmpi CmpIPredicate.slt (BitVec.ofNat 32 (i 1).val) 7#32))
      ((@Finset.sum (Fin 128) EReal _ Finset.univ fun e => @HMul.hMul EReal EReal EReal _ (x1 (ix2 j (col e))) (x3 (ix2 x (col e)))) * Ideal.ofBits FTy.f32 1035273459#32 - sb * FloatOps.sitofp (F := Ideal) FTy.f32 (IntOp.muli (IntOp.addi (IntOp.subi (BitVec.ofNat 32 j.val) (BitVec.ofNat 32 x.val)) 128#32) 4#32))
      (Named.named (F := Ideal) κ "mask" (φ := .f32) 4048155338#32) - x9 (ix2 j o)))
      (@HSub.hSub EReal EReal EReal _ (@Finset.sum (Fin 128) EReal _ Finset.univ fun e => @HMul.hMul EReal EReal EReal _ (x7 (ix2 j (col e))) (x5 (ix2 x (col e)))) (x11 (ix2 j o)))) (x1 (ix2 j (col e))))) (Ideal.ofBits FTy.f32 1035273459#32)
    = ((A.dk 4 8 h (i 0).val (i 1).val x.val e.val : ℝ) : EReal) := by
  rw [← dk_real _ _ _ _ _ _ x.isLt (i 1).isLt]
  refine mul_val (add_sums (fun j => ?_) fun j => ?_) ofBits_sc
  · exact mul_val (ds_c B h hh hsb col hcol o ho j x) (B.q h j e _ (hcol e))
  · exact mul_val (ds_n B h hh hsb col hcol o ho j x) (B.qn h j e _ (hcol e))

theorem dv_piece :
    @HAdd.hAdd EReal EReal EReal _ (@Finset.sum (Fin 128) EReal _ Finset.univ fun j => @HMul.hMul EReal EReal EReal _ (Ideal.exp (Scalar.select (IntOp.cmpi CmpIPredicate.sge (IntOp.subi (BitVec.ofNat 32 j.val) (BitVec.ofNat 32 x.val)) 0#32)
      ((@Finset.sum (Fin 128) EReal _ Finset.univ fun e => @HMul.hMul EReal EReal EReal _ (x0 (ix2 j (col e))) (x3 (ix2 x (col e)))) * Ideal.ofBits FTy.f32 1035273459#32 - sb * FloatOps.sitofp (F := Ideal) FTy.f32 (IntOp.muli (IntOp.subi (BitVec.ofNat 32 j.val) (BitVec.ofNat 32 x.val)) 4#32))
      (Named.named (F := Ideal) κ "mask" (φ := .f32) 4048155338#32) - x8 (ix2 j o))) (x6 (ix2 j (col e))))
      (@Finset.sum (Fin 128) EReal _ Finset.univ fun j => @HMul.hMul EReal EReal EReal _ (Ideal.exp (Scalar.select (IntOp.andi (IntOp.cmpi CmpIPredicate.sle (IntOp.subi (BitVec.ofNat 32 j.val) (BitVec.ofNat 32 x.val)) 0#32) (Scalar.cmpi CmpIPredicate.slt (BitVec.ofNat 32 (i 1).val) 7#32))
      ((@Finset.sum (Fin 128) EReal _ Finset.univ fun e => @HMul.hMul EReal EReal EReal _ (x1 (ix2 j (col e))) (x3 (ix2 x (col e)))) * Ideal.ofBits FTy.f32 1035273459#32 - sb * FloatOps.sitofp (F := Ideal) FTy.f32 (IntOp.muli (IntOp.addi (IntOp.subi (BitVec.ofNat 32 j.val) (BitVec.ofNat 32 x.val)) 128#32) 4#32))
      (Named.named (F := Ideal) κ "mask" (φ := .f32) 4048155338#32) - x9 (ix2 j o))) (x7 (ix2 j (col e))))
    = ((A.dv 4 8 h (i 0).val (i 1).val x.val e.val : ℝ) : EReal) := by
  rw [← dv_real _ _ _ _ _ _ x.isLt (i 1).isLt]
  refine add_sums (fun j => ?_) fun j => ?_
  · exact mul_val (prob_c B h hh hsb col hcol o ho j x) (B.d h j e _ (hcol e))
  · exact mul_val (prob_n B h hh hsb col hcol o ho j x) (B.dn h j e _ (hcol e))

end body

/-- The block of gradients of the queries. -/
theorem dq_block {A : Arrays} {i : grid0.Coords} {x0 x1 x2 x3 x4 x5 x6 x7 : Vec Ideal S128x1024 .bf16} {x8 x9 x10 x11 : Vec Ideal S128x128 .f32}
    (B : Blk A i x0 x1 x2 x3 x4 x5 x6 x7 x8 x9 x10 x11) (y : S128x1024.Idx) :
    @Eq EReal (out0_12 (F := Ideal) i x0 x1 x2 x3 x4 x5 x6 x7 x8 x9 x10 x11 y)
      ((A.dq 4 ((y 1).val / 128) (i 0).val (i 1).val (y 0).val ((y 1).val % 128) : ℝ) : EReal) := by
  unfold_out out0_12
  canon_tiles x h
  case piece0 =>
    rw [show (y 1).val / 128 = 7 by omega, show (y 1).val % 128 = (x 1).val by omega, show (y 0).val = (x 0).val by omega]
    open_payloads
    pointwise
    exact dq_piece B 7 (by omega) slope7 (fun e => ⟨896 + e.val, by omega⟩) (fun e => by dsimp only <;> omega) 7 rfl (x 0) (x 1)
  case piece1 =>
    rw [show (y 1).val / 128 = 6 by omega, show (y 1).val % 128 = (x 1).val by omega, show (y 0).val = (x 0).val by omega]
    open_payloads
    pointwise
    exact dq_piece B 6 (by omega) slope6 (fun e => ⟨768 + e.val, by omega⟩) (fun e => by dsimp only <;> omega) 6 rfl (x 0) (x 1)
  case piece2 =>
    rw [show (y 1).val / 128 = 5 by omega, show (y 1).val % 128 = (x 1).val by omega, show (y 0).val = (x 0).val by omega]
    open_payloads
    pointwise
    exact dq_piece B 5 (by omega) slope5 (fun e => ⟨640 + e.val, by omega⟩) (fun e => by dsimp only <;> omega) 5 rfl (x 0) (x 1)
  case piece3 =>
    rw [show (y 1).val / 128 = 4 by omega, show (y 1).val % 128 = (x 1).val by omega, show (y 0).val = (x 0).val by omega]
    open_payloads
    pointwise
    exact dq_piece B 4 (by omega) slope4 (fun e => ⟨512 + e.val, by omega⟩) (fun e => by dsimp only <;> omega) 4 rfl (x 0) (x 1)
  case piece4 =>
    rw [show (y 1).val / 128 = 3 by omega, show (y 1).val % 128 = (x 1).val by omega, show (y 0).val = (x 0).val by omega]
    open_payloads
    pointwise
    exact dq_piece B 3 (by omega) slope3 (fun e => ⟨384 + e.val, by omega⟩) (fun e => by dsimp only <;> omega) 3 rfl (x 0) (x 1)
  case piece5 =>
    rw [show (y 1).val / 128 = 2 by omega, show (y 1).val % 128 = (x 1).val by omega, show (y 0).val = (x 0).val by omega]
    open_payloads
    pointwise
    exact dq_piece B 2 (by omega) slope2 (fun e => ⟨256 + e.val, by omega⟩) (fun e => by dsimp only <;> omega) 2 rfl (x 0) (x 1)
  case piece6 =>
    rw [show (y 1).val / 128 = 1 by omega, show (y 1).val % 128 = (x 1).val by omega, show (y 0).val = (x 0).val by omega]
    open_payloads
    pointwise
    exact dq_piece B 1 (by omega) slope1 (fun e => ⟨128 + e.val, by omega⟩) (fun e => by dsimp only <;> omega) 1 rfl (x 0) (x 1)
  case piece7 =>
    rw [show (y 1).val / 128 = 0 by omega, show (y 1).val % 128 = (x 1).val by omega, show (y 0).val = (x 0).val by omega]
    open_payloads
    pointwise
    exact dq_piece B 0 (by omega) slope0 (fun e => ⟨e.val, by omega⟩) (fun e => by dsimp only <;> omega) 0 rfl (x 0) (x 1)

/-- The block of gradients of the keys. -/
theorem dk_block {A : Arrays} {i : grid0.Coords} {x0 x1 x2 x3 x4 x5 x6 x7 : Vec Ideal S128x1024 .bf16} {x8 x9 x10 x11 : Vec Ideal S128x128 .f32}
    (B : Blk A i x0 x1 x2 x3 x4 x5 x6 x7 x8 x9 x10 x11) (y : S128x1024.Idx) :
    @Eq EReal (out0_13 (F := Ideal) i x0 x1 x2 x3 x4 x5 x6 x7 x8 x9 x10 x11 y)
      ((A.dk 4 8 ((y 1).val / 128) (i 0).val (i 1).val (y 0).val ((y 1).val % 128) : ℝ) : EReal) := by
  unfold_out out0_13
  canon_tiles x h
  case piece0 =>
    rw [show (y 1).val / 128 = 7 by omega, show (y 1).val % 128 = (x 1).val by omega, show (y 0).val = (x 0).val by omega]
    open_payloads
    pointwise
    exact dk_piece B 7 (by omega) slope7 (fun e => ⟨896 + e.val, by omega⟩) (fun e => by dsimp only <;> omega) 7 rfl (x 0) (x 1)
  case piece1 =>
    rw [show (y 1).val / 128 = 6 by omega, show (y 1).val % 128 = (x 1).val by omega, show (y 0).val = (x 0).val by omega]
    open_payloads
    pointwise
    exact dk_piece B 6 (by omega) slope6 (fun e => ⟨768 + e.val, by omega⟩) (fun e => by dsimp only <;> omega) 6 rfl (x 0) (x 1)
  case piece2 =>
    rw [show (y 1).val / 128 = 5 by omega, show (y 1).val % 128 = (x 1).val by omega, show (y 0).val = (x 0).val by omega]
    open_payloads
    pointwise
    exact dk_piece B 5 (by omega) slope5 (fun e => ⟨640 + e.val, by omega⟩) (fun e => by dsimp only <;> omega) 5 rfl (x 0) (x 1)
  case piece3 =>
    rw [show (y 1).val / 128 = 4 by omega, show (y 1).val % 128 = (x 1).val by omega, show (y 0).val = (x 0).val by omega]
    open_payloads
    pointwise
    exact dk_piece B 4 (by omega) slope4 (fun e => ⟨512 + e.val, by omega⟩) (fun e => by dsimp only <;> omega) 4 rfl (x 0) (x 1)
  case piece4 =>
    rw [show (y 1).val / 128 = 3 by omega, show (y 1).val % 128 = (x 1).val by omega, show (y 0).val = (x 0).val by omega]
    open_payloads
    pointwise
    exact dk_piece B 3 (by omega) slope3 (fun e => ⟨384 + e.val, by omega⟩) (fun e => by dsimp only <;> omega) 3 rfl (x 0) (x 1)
  case piece5 =>
    rw [show (y 1).val / 128 = 2 by omega, show (y 1).val % 128 = (x 1).val by omega, show (y 0).val = (x 0).val by omega]
    open_payloads
    pointwise
    exact dk_piece B 2 (by omega) slope2 (fun e => ⟨256 + e.val, by omega⟩) (fun e => by dsimp only <;> omega) 2 rfl (x 0) (x 1)
  case piece6 =>
    rw [show (y 1).val / 128 = 1 by omega, show (y 1).val % 128 = (x 1).val by omega, show (y 0).val = (x 0).val by omega]
    open_payloads
    pointwise
    exact dk_piece B 1 (by omega) slope1 (fun e => ⟨128 + e.val, by omega⟩) (fun e => by dsimp only <;> omega) 1 rfl (x 0) (x 1)
  case piece7 =>
    rw [show (y 1).val / 128 = 0 by omega, show (y 1).val % 128 = (x 1).val by omega, show (y 0).val = (x 0).val by omega]
    open_payloads
    pointwise
    exact dk_piece B 0 (by omega) slope0 (fun e => ⟨e.val, by omega⟩) (fun e => by dsimp only <;> omega) 0 rfl (x 0) (x 1)

/-- The block of gradients of the values. -/
theorem dv_block {A : Arrays} {i : grid0.Coords} {x0 x1 x2 x3 x4 x5 x6 x7 : Vec Ideal S128x1024 .bf16} {x8 x9 x10 x11 : Vec Ideal S128x128 .f32}
    (B : Blk A i x0 x1 x2 x3 x4 x5 x6 x7 x8 x9 x10 x11) (y : S128x1024.Idx) :
    @Eq EReal (out0_14 (F := Ideal) i x0 x1 x2 x3 x4 x5 x6 x7 x8 x9 x10 x11 y)
      ((A.dv 4 8 ((y 1).val / 128) (i 0).val (i 1).val (y 0).val ((y 1).val % 128) : ℝ) : EReal) := by
  unfold_out out0_14
  canon_tiles x h
  case piece0 =>
    rw [show (y 1).val / 128 = 7 by omega, show (y 1).val % 128 = (x 1).val by omega, show (y 0).val = (x 0).val by omega]
    open_payloads
    pointwise
    exact dv_piece B 7 (by omega) slope7 (fun e => ⟨896 + e.val, by omega⟩) (fun e => by dsimp only <;> omega) 7 rfl (x 0) (x 1)
  case piece1 =>
    rw [show (y 1).val / 128 = 6 by omega, show (y 1).val % 128 = (x 1).val by omega, show (y 0).val = (x 0).val by omega]
    open_payloads
    pointwise
    exact dv_piece B 6 (by omega) slope6 (fun e => ⟨768 + e.val, by omega⟩) (fun e => by dsimp only <;> omega) 6 rfl (x 0) (x 1)
  case piece2 =>
    rw [show (y 1).val / 128 = 5 by omega, show (y 1).val % 128 = (x 1).val by omega, show (y 0).val = (x 0).val by omega]
    open_payloads
    pointwise
    exact dv_piece B 5 (by omega) slope5 (fun e => ⟨640 + e.val, by omega⟩) (fun e => by dsimp only <;> omega) 5 rfl (x 0) (x 1)
  case piece3 =>
    rw [show (y 1).val / 128 = 4 by omega, show (y 1).val % 128 = (x 1).val by omega, show (y 0).val = (x 0).val by omega]
    open_payloads
    pointwise
    exact dv_piece B 4 (by omega) slope4 (fun e => ⟨512 + e.val, by omega⟩) (fun e => by dsimp only <;> omega) 4 rfl (x 0) (x 1)
  case piece4 =>
    rw [show (y 1).val / 128 = 3 by omega, show (y 1).val % 128 = (x 1).val by omega, show (y 0).val = (x 0).val by omega]
    open_payloads
    pointwise
    exact dv_piece B 3 (by omega) slope3 (fun e => ⟨384 + e.val, by omega⟩) (fun e => by dsimp only <;> omega) 3 rfl (x 0) (x 1)
  case piece5 =>
    rw [show (y 1).val / 128 = 2 by omega, show (y 1).val % 128 = (x 1).val by omega, show (y 0).val = (x 0).val by omega]
    open_payloads
    pointwise
    exact dv_piece B 2 (by omega) slope2 (fun e => ⟨256 + e.val, by omega⟩) (fun e => by dsimp only <;> omega) 2 rfl (x 0) (x 1)
  case piece6 =>
    rw [show (y 1).val / 128 = 1 by omega, show (y 1).val % 128 = (x 1).val by omega, show (y 0).val = (x 0).val by omega]
    open_payloads
    pointwise
    exact dv_piece B 1 (by omega) slope1 (fun e => ⟨128 + e.val, by omega⟩) (fun e => by dsimp only <;> omega) 1 rfl (x 0) (x 1)
  case piece7 =>
    rw [show (y 1).val / 128 = 0 by omega, show (y 1).val % 128 = (x 1).val by omega, show (y 0).val = (x 0).val by omega]
    open_payloads
    pointwise
    exact dv_piece B 0 (by omega) slope0 (fun e => ⟨e.val, by omega⟩) (fun e => by dsimp only <;> omega) 0 rfl (x 0) (x 1)

end Cert.KernelIdeal.Dil

end
-- ==== Proof.KerOut.lean ====
/- The call's three results over the reals: each grid point's blocks read off the arrays the call is given, and the
   results put together from the blocks the points write. -/
module

public import proofs.«01_k».proof.Proof.KerMerge
public import proofs.«01_k».proof.Proof.KerBlock
public import proofs.«01_k».proof.Proof.Gen.KernelIdeal.Value
public import Idealize.ShloMosaic.Lib.Pipeline.ValueKit

@[expose] public section

set_option maxRecDepth 16384

noncomputable section

namespace Cert.KernelIdeal.Dil

open Idealize.ShloMosaic Idealize.ShloMosaic.TcCoe Idealize.SL.Sem Idealize.ShloMosaic.StableHlo
open Cert.KernelIdeal Cert.KernelIdeal.Gen
open _root_.Dil

open Idealize.ShloMosaic.Pipeline (Dat Window)
open Cert.ReferenceIdeal.Dil (trow trow_tok)

theorem idx0 : ∀ t : Fin cfg0.N, win0_0.index t = ![(grid0.coords t 1).val, (grid0.coords t 0).val * 3] :=
  (by decide +kernel : ∀ t : Fin grid0.N, _)
theorem idx1 : ∀ t : Fin cfg0.N, win0_1.index t = ![min ((grid0.coords t 1).val + 1) 7, (grid0.coords t 0).val * 3] :=
  (by decide +kernel : ∀ t : Fin grid0.N, _)
theorem idx2 : ∀ t : Fin cfg0.N, win0_2.index t = ![(grid0.coords t 1).val - 1, (grid0.coords t 0).val * 3 + 1] :=
  (by decide +kernel : ∀ t : Fin grid0.N, _)
theorem idx3 : ∀ t : Fin cfg0.N, win0_3.index t = ![(grid0.coords t 1).val, (grid0.coords t 0).val * 3 + 1] :=
  (by decide +kernel : ∀ t : Fin grid0.N, _)
theorem idx4 : ∀ t : Fin cfg0.N, win0_4.index t = ![(grid0.coords t 1).val - 1, (grid0.coords t 0).val * 3 + 2] :=
  (by decide +kernel : ∀ t : Fin grid0.N, _)
theorem idx5 : ∀ t : Fin cfg0.N, win0_5.index t = ![(grid0.coords t 1).val, (grid0.coords t 0).val * 3 + 2] :=
  (by decide +kernel : ∀ t : Fin grid0.N, _)
theorem idx6 : ∀ t : Fin cfg0.N, win0_6.index t = ![(grid0.coords t 1).val, (grid0.coords t 0).val] :=
  (by decide +kernel : ∀ t : Fin grid0.N, _)
theorem idx7 : ∀ t : Fin cfg0.N, win0_7.index t = ![min ((grid0.coords t 1).val + 1) 7, (grid0.coords t 0).val] :=
  (by decide +kernel : ∀ t : Fin grid0.N, _)
theorem idx8 : ∀ t : Fin cfg0.N, win0_8.index t = ![(grid0.coords t 1).val, (grid0.coords t 0).val] :=
  (by decide +kernel : ∀ t : Fin grid0.N, _)
theorem idx9 : ∀ t : Fin cfg0.N, win0_9.index t = ![min ((grid0.coords t 1).val + 1) 7, (grid0.coords t 0).val] :=
  (by decide +kernel : ∀ t : Fin grid0.N, _)
theorem idx10 : ∀ t : Fin cfg0.N, win0_10.index t = ![(grid0.coords t 1).val, (grid0.coords t 0).val] :=
  (by decide +kernel : ∀ t : Fin grid0.N, _)
theorem idx11 : ∀ t : Fin cfg0.N, win0_11.index t = ![min ((grid0.coords t 1).val + 1) 7, (grid0.coords t 0).val] :=
  (by decide +kernel : ∀ t : Fin grid0.N, _)
theorem idx12 : ∀ t : Fin cfg0.N, win0_12.index t = ![(grid0.coords t 1).val, (grid0.coords t 0).val] :=
  (by decide +kernel : ∀ t : Fin grid0.N, _)
theorem idx13 : ∀ t : Fin cfg0.N, win0_13.index t = ![(grid0.coords t 1).val, (grid0.coords t 0).val] :=
  (by decide +kernel : ∀ t : Fin grid0.N, _)
theorem idx14 : ∀ t : Fin cfg0.N, win0_14.index t = ![(grid0.coords t 1).val, (grid0.coords t 0).val] :=
  (by decide +kernel : ∀ t : Fin grid0.N, _)

theorem r_lt (t : Fin cfg0.N) : (grid0.coords t 0).val < 4 := (grid0.coords t 0).isLt
theorem n_lt (t : Fin cfg0.N) : (grid0.coords t 1).val < 8 := (grid0.coords t 1).isLt

variable {m : (ℓ : Loc nD τ sig) → Buf (Elt Ideal) ℓ} {c : Dev nD} {A : Arrays}

theorem blk0 (t : Fin cfg0.N) (a : Fin 128) (b : Fin 1024) :
    iblk m c 0 t (ix2 a b) = V m c main_v135 (ix2 ⟨((grid0.coords t 1).val) * 128 + a.val, by have := n_lt t; omega⟩ ⟨((grid0.coords t 0).val * 3) * 1024 + b.val, by have := r_lt t; omega⟩) := by
  blk_ext [iblk, idx0 t]
theorem blk1 (t : Fin cfg0.N) (a : Fin 128) (b : Fin 1024) :
    iblk m c 1 t (ix2 a b) = V m c main_v135 (ix2 ⟨(min ((grid0.coords t 1).val + 1) 7) * 128 + a.val, by have := n_lt t; omega⟩ ⟨((grid0.coords t 0).val * 3) * 1024 + b.val, by have := r_lt t; omega⟩) := by
  blk_ext [iblk, idx1 t]
theorem blk2 (t : Fin cfg0.N) (a : Fin 128) (b : Fin 1024) :
    iblk m c 2 t (ix2 a b) = V m c main_v135 (ix2 ⟨((grid0.coords t 1).val - 1) * 128 + a.val, by have := n_lt t; omega⟩ ⟨((grid0.coords t 0).val * 3 + 1) * 1024 + b.val, by have := r_lt t; omega⟩) := by
  blk_ext [iblk, idx2 t]
theorem blk3 (t : Fin cfg0.N) (a : Fin 128) (b : Fin 1024) :
    iblk m c 3 t (ix2 a b) = V m c main_v135 (ix2 ⟨((grid0.coords t 1).val) * 128 + a.val, by have := n_lt t; omega⟩ ⟨((grid0.coords t 0).val * 3 + 1) * 1024 + b.val, by have := r_lt t; omega⟩) := by
  blk_ext [iblk, idx3 t]
theorem blk4 (t : Fin cfg0.N) (a : Fin 128) (b : Fin 1024) :
    iblk m c 4 t (ix2 a b) = V m c main_v135 (ix2 ⟨((grid0.coords t 1).val - 1) * 128 + a.val, by have := n_lt t; omega⟩ ⟨((grid0.coords t 0).val * 3 + 2) * 1024 + b.val, by have := r_lt t; omega⟩) := by
  blk_ext [iblk, idx4 t]
theorem blk5 (t : Fin cfg0.N) (a : Fin 128) (b : Fin 1024) :
    iblk m c 5 t (ix2 a b) = V m c main_v135 (ix2 ⟨((grid0.coords t 1).val) * 128 + a.val, by have := n_lt t; omega⟩ ⟨((grid0.coords t 0).val * 3 + 2) * 1024 + b.val, by have := r_lt t; omega⟩) := by
  blk_ext [iblk, idx5 t]
theorem blk6 (t : Fin cfg0.N) (a : Fin 128) (b : Fin 1024) :
    iblk m c 6 t (ix2 a b) = V m c main_v137 (ix2 ⟨((grid0.coords t 1).val) * 128 + a.val, by have := n_lt t; omega⟩ ⟨((grid0.coords t 0).val) * 1024 + b.val, by have := r_lt t; omega⟩) := by
  blk_ext [iblk, idx6 t]
theorem blk7 (t : Fin cfg0.N) (a : Fin 128) (b : Fin 1024) :
    iblk m c 7 t (ix2 a b) = V m c main_v137 (ix2 ⟨(min ((grid0.coords t 1).val + 1) 7) * 128 + a.val, by have := n_lt t; omega⟩ ⟨((grid0.coords t 0).val) * 1024 + b.val, by have := r_lt t; omega⟩) := by
  blk_ext [iblk, idx7 t]
theorem blk8 (t : Fin cfg0.N) (a : Fin 128) (b : Fin 128) :
    iblk m c 8 t (ix2 a b) = V m c main_v138 (ix2 ⟨((grid0.coords t 1).val) * 128 + a.val, by have := n_lt t; omega⟩ ⟨((grid0.coords t 0).val) * 128 + b.val, by have := r_lt t; omega⟩) := by
  blk_ext [iblk, idx8 t]
theorem blk9 (t : Fin cfg0.N) (a : Fin 128) (b : Fin 128) :
    iblk m c 9 t (ix2 a b) = V m c main_v138 (ix2 ⟨(min ((grid0.coords t 1).val + 1) 7) * 128 + a.val, by have := n_lt t; omega⟩ ⟨((grid0.coords t 0).val) * 128 + b.val, by have := r_lt t; omega⟩) := by
  blk_ext [iblk, idx9 t]
theorem blk10 (t : Fin cfg0.N) (a : Fin 128) (b : Fin 128) :
    iblk m c 10 t (ix2 a b) = V m c main_v139 (ix2 ⟨((grid0.coords t 1).val) * 128 + a.val, by have := n_lt t; omega⟩ ⟨((grid0.coords t 0).val) * 128 + b.val, by have := r_lt t; omega⟩) := by
  blk_ext [iblk, idx10 t]
theorem blk11 (t : Fin cfg0.N) (a : Fin 128) (b : Fin 128) :
    iblk m c 11 t (ix2 a b) = V m c main_v139 (ix2 ⟨(min ((grid0.coords t 1).val + 1) 7) * 128 + a.val, by have := n_lt t; omega⟩ ⟨((grid0.coords t 0).val) * 128 + b.val, by have := r_lt t; omega⟩) := by
  blk_ext [iblk, idx11 t]
/-- The blocks a grid point reads. -/
theorem blk (H : Reads (fun b => m (c, b)) A) (t : Fin cfg0.N) :
    Blk A (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) where
  q := fun h a e b hb => by
      rw [blk0]
      refine (z_view H _ _).trans ?_
      have := r_lt t
      have := b.isLt
      unfold Arrays.q Arrays.tok
      congr 2
      · show (((grid0.coords t 1).val) * 128 + a.val) * 4 + (((grid0.coords t 0).val * 3) * 1024 + b.val) / 3072 = _; omega
      · show 2048 + (((grid0.coords t 0).val * 3) * 1024 + b.val) % 3072 = _; omega
  qn := fun h a e b hb => by
      rw [blk1]
      refine (z_view H _ _).trans ?_
      have := r_lt t
      have := b.isLt
      unfold Arrays.q Arrays.tok
      congr 2
      · show ((min ((grid0.coords t 1).val + 1) 7) * 128 + a.val) * 4 + (((grid0.coords t 0).val * 3) * 1024 + b.val) / 3072 = _; omega
      · show 2048 + (((grid0.coords t 0).val * 3) * 1024 + b.val) % 3072 = _; omega
  kp := fun h a e b hb => by
      rw [blk2]
      refine (z_view H _ _).trans ?_
      have := r_lt t
      have := b.isLt
      unfold Arrays.k Arrays.tok
      congr 2
      · show (((grid0.coords t 1).val - 1) * 128 + a.val) * 4 + (((grid0.coords t 0).val * 3 + 1) * 1024 + b.val) / 3072 = _; omega
      · show 2048 + (((grid0.coords t 0).val * 3 + 1) * 1024 + b.val) % 3072 = _; omega
  kc := fun h a e b hb => by
      rw [blk3]
      refine (z_view H _ _).trans ?_
      have := r_lt t
      have := b.isLt
      unfold Arrays.k Arrays.tok
      congr 2
      · show (((grid0.coords t 1).val) * 128 + a.val) * 4 + (((grid0.coords t 0).val * 3 + 1) * 1024 + b.val) / 3072 = _; omega
      · show 2048 + (((grid0.coords t 0).val * 3 + 1) * 1024 + b.val) % 3072 = _; omega
  vp := fun h a e b hb => by
      rw [blk4]
      refine (z_view H _ _).trans ?_
      have := r_lt t
      have := b.isLt
      unfold Arrays.v Arrays.tok
      congr 2
      · show (((grid0.coords t 1).val - 1) * 128 + a.val) * 4 + (((grid0.coords t 0).val * 3 + 2) * 1024 + b.val) / 3072 = _; omega
      · show 2048 + (((grid0.coords t 0).val * 3 + 2) * 1024 + b.val) % 3072 = _; omega
  vc := fun h a e b hb => by
      rw [blk5]
      refine (z_view H _ _).trans ?_
      have := r_lt t
      have := b.isLt
      unfold Arrays.v Arrays.tok
      congr 2
      · show (((grid0.coords t 1).val) * 128 + a.val) * 4 + (((grid0.coords t 0).val * 3 + 2) * 1024 + b.val) / 3072 = _; omega
      · show 2048 + (((grid0.coords t 0).val * 3 + 2) * 1024 + b.val) % 3072 = _; omega
  d := fun h a e b hb => by
      rw [blk6]
      refine (c_view H _ _).trans ?_
      have := b.isLt
      unfold Arrays.ct Arrays.tok
      congr 2
      · show (((grid0.coords t 1).val) * 128 + a.val) * 4 + (((grid0.coords t 0).val) * 1024 + b.val) / 1024 = _; omega
      · show 1024 + (((grid0.coords t 0).val) * 1024 + b.val) % 1024 = _; omega
  dn := fun h a e b hb => by
      rw [blk7]
      refine (c_view H _ _).trans ?_
      have := b.isLt
      unfold Arrays.ct Arrays.tok
      congr 2
      · show ((min ((grid0.coords t 1).val + 1) 7) * 128 + a.val) * 4 + (((grid0.coords t 0).val) * 1024 + b.val) / 1024 = _; omega
      · show 1024 + (((grid0.coords t 0).val) * 1024 + b.val) % 1024 = _; omega
  l := fun h a b hh hb => by
      rw [blk8]
      have hr := r_lt t
      refine (l_view H _ _ (show (((grid0.coords t 0).val) * 128 + b.val) % 128 < 8 by omega)).trans ?_
      show (((trow A ((((grid0.coords t 0).val) * 128 + b.val) % 128) ((((grid0.coords t 1).val) * 128 + a.val) * 4 + (((grid0.coords t 0).val) * 128 + b.val) / 128)).ltot : ℝ) : EReal) = _
      rw [show (((grid0.coords t 0).val) * 128 + b.val) % 128 = h by omega, show (((grid0.coords t 0).val) * 128 + b.val) / 128 = (grid0.coords t 0).val by omega, trow_tok _ _ _ _ _ hr a.isLt]
  ln := fun h a b hh hb => by
      rw [blk9]
      have hr := r_lt t
      refine (l_view H _ _ (show (((grid0.coords t 0).val) * 128 + b.val) % 128 < 8 by omega)).trans ?_
      show (((trow A ((((grid0.coords t 0).val) * 128 + b.val) % 128) (((min ((grid0.coords t 1).val + 1) 7) * 128 + a.val) * 4 + (((grid0.coords t 0).val) * 128 + b.val) / 128)).ltot : ℝ) : EReal) = _
      rw [show (((grid0.coords t 0).val) * 128 + b.val) % 128 = h by omega, show (((grid0.coords t 0).val) * 128 + b.val) / 128 = (grid0.coords t 0).val by omega, trow_tok _ _ _ _ _ hr a.isLt]
  dl := fun h a b hh hb => by
      rw [blk10]
      have hr := r_lt t
      refine (d_view H _ _ (show (((grid0.coords t 0).val) * 128 + b.val) % 128 < 8 by omega)).trans ?_
      show (((trow A ((((grid0.coords t 0).val) * 128 + b.val) % 128) ((((grid0.coords t 1).val) * 128 + a.val) * 4 + (((grid0.coords t 0).val) * 128 + b.val) / 128)).delta : ℝ) : EReal) = _
      rw [show (((grid0.coords t 0).val) * 128 + b.val) % 128 = h by omega, show (((grid0.coords t 0).val) * 128 + b.val) / 128 = (grid0.coords t 0).val by omega, trow_tok _ _ _ _ _ hr a.isLt]
  dln := fun h a b hh hb => by
      rw [blk11]
      have hr := r_lt t
      refine (d_view H _ _ (show (((grid0.coords t 0).val) * 128 + b.val) % 128 < 8 by omega)).trans ?_
      show (((trow A ((((grid0.coords t 0).val) * 128 + b.val) % 128) (((min ((grid0.coords t 1).val + 1) 7) * 128 + a.val) * 4 + (((grid0.coords t 0).val) * 128 + b.val) / 128)).delta : ℝ) : EReal) = _
      rw [show (((grid0.coords t 0).val) * 128 + b.val) % 128 = h by omega, show (((grid0.coords t 0).val) * 128 + b.val) / 128 = (grid0.coords t 0).val by omega, trow_tok _ _ _ _ _ hr a.isLt]

/-- The array of gradients of the queries after the run. -/
theorem final_dq (H : Reads (fun b => m (c, b)) A) : (dats m 0 c).arrAt 12 (cfgs 0).N
    = fun j : S1024x4096.Idx => ((A.dq 4 ((j 1).val / 128 % 8) ((j 1).val / 1024) ((j 0).val / 128) ((j 0).val % 128) ((j 1).val % 128) : ℝ) : EReal) := by
  refine (dats m 0 c).arrAt_eq_of_covers 12 _ (by decide +kernel) fun t _ y => ?_
  blk_simp
  rw [after0_12]
  refine (dq_block (blk H t) y).trans ?_
  have e0 : win0_12.index t 0 = (grid0.coords t 1).val := by rw [idx12 t]; rfl
  have e1 : win0_12.index t 1 = (grid0.coords t 0).val := by rw [idx12 t]; rfl
  have hr := r_lt t
  have h0 : (y 0).val < 128 := (y 0).isLt
  have h1 : (y 1).val < 1024 := (y 1).isLt
  rw [e0, e1]
  congr 2 <;> omega

/-- The array of gradients of the keys after the run. -/
theorem final_dk (H : Reads (fun b => m (c, b)) A) : (dats m 0 c).arrAt 13 (cfgs 0).N
    = fun j : S1024x4096.Idx => ((A.dk 4 8 ((j 1).val / 128 % 8) ((j 1).val / 1024) ((j 0).val / 128) ((j 0).val % 128) ((j 1).val % 128) : ℝ) : EReal) := by
  refine (dats m 0 c).arrAt_eq_of_covers 13 _ (by decide +kernel) fun t _ y => ?_
  blk_simp
  rw [after0_13]
  refine (dk_block (blk H t) y).trans ?_
  have e0 : win0_13.index t 0 = (grid0.coords t 1).val := by rw [idx13 t]; rfl
  have e1 : win0_13.index t 1 = (grid0.coords t 0).val := by rw [idx13 t]; rfl
  have hr := r_lt t
  have h0 : (y 0).val < 128 := (y 0).isLt
  have h1 : (y 1).val < 1024 := (y 1).isLt
  rw [e0, e1]
  congr 2 <;> omega

/-- The array of gradients of the values after the run. -/
theorem final_dv (H : Reads (fun b => m (c, b)) A) : (dats m 0 c).arrAt 14 (cfgs 0).N
    = fun j : S1024x4096.Idx => ((A.dv 4 8 ((j 1).val / 128 % 8) ((j 1).val / 1024) ((j 0).val / 128) ((j 0).val % 128) ((j 1).val % 128) : ℝ) : EReal) := by
  refine (dats m 0 c).arrAt_eq_of_covers 14 _ (by decide +kernel) fun t _ y => ?_
  blk_simp
  rw [after0_14]
  refine (dv_block (blk H t) y).trans ?_
  have e0 : win0_14.index t 0 = (grid0.coords t 1).val := by rw [idx14 t]; rfl
  have e1 : win0_14.index t 1 = (grid0.coords t 0).val := by rw [idx14 t]; rfl
  have hr := r_lt t
  have h0 : (y 0).val < 128 := (y 0).isLt
  have h1 : (y 1).val < 1024 := (y 1).isLt
  rw [e0, e1]
  congr 2 <;> omega

end Cert.KernelIdeal.Dil

end
-- ==== Proof.RefGrad.lean ====
/- The reference's gradients with respect to the scores and to the queries, keys and values, over the reals. -/
module

public import proofs.«01_k».proof.Proof.RefMerge

@[expose] public section

set_option maxRecDepth 16384

noncomputable section

namespace Cert.ReferenceIdeal.Dil

open Idealize.ShloMosaic Idealize.ShloMosaic.TcCoe Idealize.SL.Sem Idealize.ShloMosaic.StableHlo
open Cert.ReferenceIdeal Cert.ReferenceIdeal.Gen Cert.ReferenceIdeal.Value
open _root_.Dil

variable {V0 : Valuation τ sig (Elt Ideal)} {A : Arrays}

theorem v207 (H : Reads V0 A) (r : Fin 4) (h n : Fin 8) (i e : Fin 128) :
    @Eq EReal (res_main_v207 (F := Ideal) V0 (ix5 r h n i e))
      (((A.row 4 h r n i).w2 / (A.row 4 h r n i).wsum * (A.row 4 h r n i).c e / (A.row 4 h r n i).den : ℝ) : EReal) := by
  unfold res_main_v207; clean_types; pointwise
  rw [v196 H, v98 H, div_real (Row.den_pos _ (A.row_ok 4 h r n i)).ne']

theorem v209 (H : Reads V0 A) (r : Fin 4) (h n : Fin 8) (x : Fin 256) (e : Fin 128) :
    @Eq EReal (res_main_v209 (F := Ideal) V0 (ix5 r h n x e))
      ((∑ y : Fin 128, (A.row 4 h r n y).prob x * A.ct h (Arrays.tok 4 r n y) e : ℝ) : EReal) := by
  unfold res_main_v209; clean_types; pointwise
  refine sum_real fun y => ?_
  rw [v207 H, v96 H, ← EReal.coe_mul, ← Row.prob_eq _ (A.row_ok 4 h r n y)]
  congr 1
  show _ / _ * (A.row 4 h r n y).c e / _ * _ = _ / _ / _ * _ * (A.row 4 h r n y).c e
  ring

theorem inner (w num : FVec Ideal S4x8x8x128x128 .f32) (d : FVec Ideal S4x8x8x128x1 .f32) (r : Fin 4) (h n : Fin 8) (i : Fin 128) :
    @Eq EReal (Host.reduceAdd (mulf (mulf w (broadcastInDim S4x8x8x128x128 ![0, 1, 2, 3, 4] bcast_S4x8x8x128x1_S4x8x8x128x128_0_1_2_3_4 (Host.divf (broadcastInDim S4x8x8x128x1 ![] bcast_S_S4x8x8x128x1 (constant S_ .f32 0x3F800000#32)) (mulf d d)))) num) (constant S_ .f32 0x00000000#32) reducesTo_S4x8x8x128x128_S4x8x8x128_d4 h_S_ (ix4 r h n i))
      (∑ e : Fin 128, @HMul.hMul EReal EReal EReal _ (@HMul.hMul EReal EReal EReal _ (w (ix5 r h n i e))
        (Ideal.div 1 (@HMul.hMul EReal EReal EReal _ (d (ix5 r h n i 0)) (d (ix5 r h n i 0))))) (num (ix5 r h n i e))) := by
  clean_types; pointwise

theorem negate (g : FVec Ideal S4x8x8x128 .f32) (r : Fin 4) (h n : Fin 8) (i : Fin 128) (o : Fin 1) :
    @Eq EReal (Host.negf (shapeCast S4x8x8x128x1 g shapeCasts_S4x8x8x128_S4x8x8x128x1) (ix5 r h n i o))
      (-@id EReal (g (ix4 r h n i))) := by
  clean_types; pointwise; rfl

theorem middle (l d g : FVec Ideal S4x8x8x128x1 .f32) (r : Fin 4) (h n : Fin 8) (i : Fin 128) :
    @Eq EReal (Host.reduceAdd (addf (Host.divf l d) g) (constant S_ .f32 0x00000000#32) reducesTo_S4x8x8x128x1_S4x8x8x128_d4 h_S_ (ix4 r h n i))
      (@HAdd.hAdd EReal EReal EReal _ (Ideal.div (l (ix5 r h n i 0)) (d (ix5 r h n i 0))) (g (ix5 r h n i 0))) := by
  clean_types; pointwise
  rw [Fin.sum_univ_one]

theorem outer (w : FVec Ideal S4x8x8x128x128 .f32) (v : FVec Ideal S4x8x8x256x128 .f32) (g : FVec Ideal S4x8x8x128 .f32)
    (p : FVec Ideal S4x8x8x128x256 .f32) (r : Fin 4) (h n : Fin 8) (i : Fin 128) (x : Fin 256) :
    @Eq EReal (mulf (addf (Host.dotGeneral dot_S4x8x8x128x128_S4x8x8x256x128_S4x8x8x128x256_4_4_3_3_012_012 none w v) (broadcastInDim S4x8x8x128x256 ![0, 1, 2, 3] bcast_S4x8x8x128_S4x8x8x128x256_0_1_2_3 g)) p (ix5 r h n i x))
      (@HMul.hMul EReal EReal EReal _ (@HAdd.hAdd EReal EReal EReal _ (∑ e : Fin 128, @HMul.hMul EReal EReal EReal _ (w (ix5 r h n i e)) (v (ix5 r h n x e)))
        (g (ix4 r h n i))) (p (ix5 r h n i x))) := by
  clean_types; pointwise

theorem v214 (H : Reads V0 A) (r : Fin 4) (h n : Fin 8) (i : Fin 128) (x : Fin 256) :
    @Eq EReal (res_main_v214 (F := Ideal) V0 (ix5 r h n i x)) (((A.row 4 h r n i).dsHeld x : ℝ) : EReal) := by
  have hd := (A.row 4 h r n i).den_pos (A.row_ok 4 h r n i)
  have h197 := v197 H r h n i 0
  have h98 := v98 H r h n i 0
  have h96 := v96 H r h n i x
  have h207 := v207 H r h n i
  have h42 := v42 H r h n x
  have h196 := v196 H r h n i
  have h99 := v99 H r h n i
  unfold res_main_v214
  generalize res_main_v197 V0 = a197 at h197 ⊢
  generalize res_main_v98 V0 = a98 at h98 ⊢
  generalize res_main_v96 V0 = a96 at h96 ⊢
  generalize res_main_v207 V0 = a207 at h207 ⊢
  generalize res_main_v42 V0 = a42 at h42 ⊢
  generalize res_main_v196 V0 = a196 at h196 ⊢
  generalize res_main_v99 V0 = a99 at h99 ⊢
  clean_types
  rw [outer, middle, negate, inner, h197, h98, h96, div_real hd.ne', ← EReal.coe_mul, ← EReal.coe_one, div_real (mul_pos hd hd).ne',
    sum_real fun e => by rw [h207, h42, ← EReal.coe_mul], sum_real fun e => by rw [h196, h99, ← EReal.coe_mul, ← EReal.coe_mul],
    id, ← EReal.coe_neg, ← EReal.coe_add, ← EReal.coe_add, ← EReal.coe_mul]
  rfl

theorem v91_sum (H : Reads V0 A) (r : Fin 4) (h n : Fin 8) (i : Fin 128) :
    @Ne EReal (@Finset.sum (Fin 256) EReal _ Finset.univ fun x => res_main_v91 (F := Ideal) V0 (ix5 r h n i x)) 0 := by
  have e : ∀ x : Fin 256, @Eq EReal (res_main_v91 (F := Ideal) V0 (ix5 r h n i x))
      (if decide ((A.row 4 h r n i).mask x = ((A.row 4 h r n i).mu : EReal)) then 1 else 0) := fun x => by
    unfold res_main_v91; clean_types; pointwise
    rw [uitofp_flag, v86_0 H, v87 H]
  obtain ⟨a, ha⟩ := (A.row 4 h r n i).mu_attained (A.row_ok 4 h r n i)
  refine count_ne_zero _ a (fun x => ?_) ?_
  · rw [e]; split
    · exact zero_le_one
    · exact le_rfl
  · rw [e, if_pos (decide_eq_true ha)]

theorem v224 (H : Reads V0 A) (r : Fin 4) (h n : Fin 8) (i : Fin 128) (x : Fin 256) :
    @Eq EReal (res_main_v224 (F := Ideal) V0 (ix5 r h n i x)) (((A.row 4 h r n i).ds x : ℝ) : EReal) := by
  have hok := A.row_ok 4 h r n i
  unfold res_main_v224; clean_types; pointwise
  rw [select_ok (A := A), Fin.sum_univ_one, v197 H, v214 H, sum_real fun x => by rw [v214 H, ← EReal.coe_neg], ← EReal.coe_add,
    Row.through_max _ hok, EReal.coe_zero, Ideal.zero_div (v91_sum H r h n i), zero_mul, add_zero]
  split
  · rw [Row.dsHeld_eq _ hok]
  · rename_i hx; rw [Row.ds_of_not_ok _ _ hx]; rfl

theorem v225 (H : Reads V0 A) (r : Fin 4) (h n : Fin 8) (x : Fin 256) (e : Fin 128) :
    @Eq EReal (res_main_v225 (F := Ideal) V0 (ix5 r h n x e))
      ((∑ y : Fin 128, (A.row 4 h r n y).ds x * (A.q h (Arrays.tok 4 r n y) e * sc) : ℝ) : EReal) := by
  unfold res_main_v225; clean_types; pointwise
  exact sum_real fun y => by rw [v224 H, v24 H, ← EReal.coe_mul]

end Cert.ReferenceIdeal.Dil

end
-- ==== Proof.RefOut.lean ====
/- What a run of the reference leaves in its three results: the gradients of `Dil.Arrays`, element by element. -/
module

public import proofs.«01_k».proof.Proof.RefGrad

@[expose] public section

set_option maxRecDepth 16384

noncomputable section

namespace Cert.ReferenceIdeal.Dil

open Idealize.ShloMosaic Idealize.ShloMosaic.TcCoe Idealize.SL.Sem Idealize.ShloMosaic.StableHlo
open Cert.ReferenceIdeal Cert.ReferenceIdeal.Gen Cert.ReferenceIdeal.Value
open _root_.Dil

variable {V0 : Valuation τ sig (Elt Ideal)} {A : Arrays}

theorem dq_val (H : Reads V0 A) (r : Fin 4) (h n : Fin 8) (i e : Fin 128) :
    @Eq EReal (@HMul.hMul EReal EReal EReal _
      (@Finset.sum (Fin 256) EReal _ Finset.univ fun x =>
        @HMul.hMul EReal EReal EReal _ (res_main_v224 (F := Ideal) V0 (ix5 r h n i x)) (res_main_v36 (F := Ideal) V0 (ix5 r h n x e)))
      (Ideal.ofBits FTy.f32 1035273459#32)) ((A.dq 4 h r n i e : ℝ) : EReal) := by
  rw [sum_real fun x => by rw [v224 H, v36 H, ← EReal.coe_mul], ofBits_sc, ← EReal.coe_mul]; rfl

theorem dk_val (H : Reads V0 A) (r : Fin 4) (h n : Fin 8) (i e : Fin 128) :
    @Eq EReal (@HAdd.hAdd EReal EReal EReal _ (res_main_v225 (F := Ideal) V0 (ix5 r h n ⟨128 + i.val, by omega⟩ e))
      (if hn : n.val + 1 < 8 then res_main_v225 (F := Ideal) V0 (ix5 r h ⟨n.val + 1, hn⟩ ⟨i.val, by omega⟩ e) else (0 : EReal)))
      ((A.dk 4 8 h r n i e : ℝ) : EReal) := by
  have e1 : (⟨(128 + i.val) % 256, Nat.mod_lt _ (by norm_num)⟩ : Fin 256) = ⟨128 + i.val, by omega⟩ := Fin.ext (Nat.mod_eq_of_lt (by omega))
  have e2 : (⟨i.val % 256, Nat.mod_lt _ (by norm_num)⟩ : Fin 256) = ⟨i.val, by omega⟩ := Fin.ext (Nat.mod_eq_of_lt (by omega))
  unfold Arrays.dk
  rw [e1, e2, v225 H]
  by_cases hn : n.val + 1 < 8
  · rw [dif_pos hn, if_pos hn, v225 H, ← EReal.coe_add]
  · rw [dif_neg hn, if_neg hn, ← EReal.coe_zero, ← EReal.coe_add]

theorem dv_val (H : Reads V0 A) (r : Fin 4) (h n : Fin 8) (i e : Fin 128) :
    @Eq EReal (@HAdd.hAdd EReal EReal EReal _ (res_main_v209 (F := Ideal) V0 (ix5 r h n ⟨128 + i.val, by omega⟩ e))
      (if hn : n.val + 1 < 8 then res_main_v209 (F := Ideal) V0 (ix5 r h ⟨n.val + 1, hn⟩ ⟨i.val, by omega⟩ e) else (0 : EReal)))
      ((A.dv 4 8 h r n i e : ℝ) : EReal) := by
  have e1 : (⟨(128 + i.val) % 256, Nat.mod_lt _ (by norm_num)⟩ : Fin 256) = ⟨128 + i.val, by omega⟩ := Fin.ext (Nat.mod_eq_of_lt (by omega))
  have e2 : (⟨i.val % 256, Nat.mod_lt _ (by norm_num)⟩ : Fin 256) = ⟨i.val, by omega⟩ := Fin.ext (Nat.mod_eq_of_lt (by omega))
  unfold Arrays.dv
  rw [e1, e2, v209 H]
  by_cases hn : n.val + 1 < 8
  · rw [dif_pos hn, if_pos hn, v209 H, ← EReal.coe_add]
  · rw [dif_neg hn, if_neg hn, ← EReal.coe_zero, ← EReal.coe_add]

/-- An array by subsequences, read by rows of four tokens. -/
theorem unview (w : FVec Ideal S4x8x8x128x128 .f32) (a : Fin 1024) (b : Fin 4096) :
    @Eq EReal (truncf .bf16 (shapeCast S1024x4096 (shapeCast S4096x1024 (shapeCast S4096x8x128 (transpose S1024x4x8x128 [2, 0, 1, 3] (shapeCast S4x8x1024x128 w shapeCasts_S4x8x8x128x128_S4x8x1024x128) transposes_S4x8x1024x128_S1024x4x8x128_2_0_1_3) shapeCasts_S1024x4x8x128_S4096x8x128) shapeCasts_S4096x8x128_S4096x1024) shapeCasts_S4096x1024_S1024x4096) bitsLt_bf16_f32 (ix2 a b))
      (w (ix5 ⟨b / 1024, by omega⟩ ⟨b / 128 % 8, by omega⟩ ⟨a / 128, by omega⟩ ⟨a % 128, by omega⟩ ⟨b % 128, by omega⟩)) := by
  clean_types; pointwise

theorem scaled (w : FVec Ideal S4x8x8x128x128 .f32) (a : Fin 1024) (b : Fin 4096) :
    @Eq EReal (truncf .bf16 (shapeCast S1024x4096 (shapeCast S4096x1024 (mulf (shapeCast S4096x8x128 (transpose S1024x4x8x128 [2, 0, 1, 3] (shapeCast S4x8x1024x128 w shapeCasts_S4x8x8x128x128_S4x8x1024x128) transposes_S4x8x1024x128_S1024x4x8x128_2_0_1_3) shapeCasts_S1024x4x8x128_S4096x8x128) (broadcastInDim S4096x8x128 ![] bcast_S_S4096x8x128 (constant S_ .f32 0x3DB504F3#32))) shapeCasts_S4096x8x128_S4096x1024) shapeCasts_S4096x1024_S1024x4096) bitsLt_bf16_f32 (ix2 a b))
      (@HMul.hMul EReal EReal EReal _ (w (ix5 ⟨b / 1024, by omega⟩ ⟨b / 128 % 8, by omega⟩ ⟨a / 128, by omega⟩ ⟨a % 128, by omega⟩ ⟨b % 128, by omega⟩))
        (Ideal.ofBits FTy.f32 1035273459#32)) := by
  clean_types; pointwise
  simp only [show (a.val * 4 + b.val / 1024) % 4 = b.val / 1024 by omega]

theorem product (w : FVec Ideal S4x8x8x128x256 .f32) (k : FVec Ideal S4x8x8x256x128 .f32) (r : Fin 4) (h n : Fin 8) (i e : Fin 128) :
    @Eq EReal (Host.dotGeneral (φ₁ := .f32) (φ₂ := .f32) dot_S4x8x8x128x256_S4x8x8x256x128_S4x8x8x128x128_4_3_3_4_012_012 none w k (ix5 r h n i e))
      (@Finset.sum (Fin 256) EReal _ Finset.univ fun x => @HMul.hMul EReal EReal EReal _ (w (ix5 r h n i x)) (k (ix5 r h n x e))) := by
  clean_types; pointwise

/-- A block's own candidates, and the next block's that lie before it. -/
theorem window (w : FVec Ideal S4x8x8x256x128 .f32) (r : Fin 4) (h n : Fin 8) (i e : Fin 128) :
    @Eq EReal (addf (extractStridedSlice S4x8x8x128x128 ![0, 0, 0, 128, 0] w slices_S4x8x8x256x128_S4x8x8x128x128_0_0_0_128_0) (pad S4x8x8x128x128 ![0, 0, 0, 0, 0] ![0, 0, 1, 0, 0] ![0, 0, 0, 0, 0] (extractStridedSlice S4x8x7x128x128 ![0, 0, 1, 0, 0] (extractStridedSlice S4x8x8x128x128 ![0, 0, 0, 0, 0] w slices_S4x8x8x256x128_S4x8x8x128x128_0_0_0_0_0) slices_S4x8x8x128x128_S4x8x7x128x128_0_0_1_0_0) (constant S_ .f32 0x00000000#32) pads_S4x8x7x128x128_S4x8x8x128x128_000_000_010_000_000 h_S_) (ix5 r h n i e))
      (@HAdd.hAdd EReal EReal EReal _ (w (ix5 r h n ⟨128 + i.val, by omega⟩ e))
        (if hn : n.val + 1 < 8 then w (ix5 r h ⟨n.val + 1, hn⟩ ⟨i.val, by omega⟩ e) else (0 : EReal))) := by
  clean_types; pointwise
  congr 1
  split
  · rename_i hn
    rw [dif_pos (show n.val + 1 < 8 by omega)]
    simp only [Nat.add_comm 1 n.val]
  · rename_i hn
    rw [dif_neg (show ¬(n.val + 1 < 8) by omega)]

/-- The results, at row `a` and column `b`. -/
theorem run_values (m : (ℓ : Loc nD τ sig) → Buf (Elt Ideal) ℓ) (ρ : Dev nD → PrngReg) (A : Dev nD → Arrays)
    (H : ∀ c, Reads (launchContents m c) (A c)) :
    θ_run defs (onTc (τ := τ) (main (F := Ideal))) ⟨m, fun _ => 0, ρ⟩ fun r => ∀ c : Dev nD,
      (∀ (a : Fin 1024) (b : Fin 4096), @Eq EReal (r.2.mem ((c.tc : Thread nD τ).loc main_v254) (ix2 a b))
        (((A c).dq 4 (b / 128 % 8 : ℕ) (b / 1024 : ℕ) (a / 128 : ℕ) (a % 128 : ℕ) (b % 128 : ℕ) : ℝ) : EReal))
      ∧ (∀ (a : Fin 1024) (b : Fin 4096), @Eq EReal (r.2.mem ((c.tc : Thread nD τ).loc main_v256) (ix2 a b))
        (((A c).dk 4 8 (b / 128 % 8 : ℕ) (b / 1024 : ℕ) (a / 128 : ℕ) (a % 128 : ℕ) (b % 128 : ℕ) : ℝ) : EReal))
      ∧ (∀ (a : Fin 1024) (b : Fin 4096), @Eq EReal (r.2.mem ((c.tc : Thread nD τ).loc main_v258) (ix2 a b))
        (((A c).dv 4 8 (b / 128 % 8 : ℕ) (b / 1024 : ℕ) (a / 128 : ℕ) (a % 128 : ℕ) (b % 128 : ℕ) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h1, h2, h3, h4⟩ := h c
  have Hc := H c
  refine ⟨fun a b => ?_, fun a b => ?_, fun a b => ?_, h4⟩
  · rw [h1]; clear h h1 h2 h3 h4
    generalize launchContents m c = V0 at Hc ⊢
    exact (scaled _ a b).trans ((congrArg₂ (fun x y : EReal => x * y) (product _ _ _ _ _ _ _) rfl).trans (dq_val Hc ⟨b / 1024, by omega⟩ ⟨b / 128 % 8, by omega⟩ ⟨a / 128, by omega⟩ ⟨a % 128, by omega⟩ ⟨b % 128, by omega⟩))
  · rw [h2]; clear h h1 h2 h3 h4
    generalize launchContents m c = V0 at Hc ⊢
    exact (unview _ a b).trans ((window _ _ _ _ _ _).trans (dk_val Hc ⟨b / 1024, by omega⟩ ⟨b / 128 % 8, by omega⟩ ⟨a / 128, by omega⟩ ⟨a % 128, by omega⟩ ⟨b % 128, by omega⟩))
  · rw [h3]; clear h h1 h2 h3 h4
    generalize launchContents m c = V0 at Hc ⊢
    exact (unview _ a b).trans ((window _ _ _ _ _ _).trans (dv_val Hc ⟨b / 1024, by omega⟩ ⟨b / 128 % 8, by omega⟩ ⟨a / 128, by omega⟩ ⟨a % 128, by omega⟩ ⟨b % 128, by omega⟩))

end Cert.ReferenceIdeal.Dil

end
-- ==== Proof.Algebraic.lean ====
/- The two programs' results are the same reals: what each run leaves in its three result arrays is read over the reals
   of the arguments, entry by entry, and the two readings are one. -/
module

public import proofs.«01_k».proof.Defs
public import proofs.«01_k».proof.Proof.Finite
public import proofs.«01_k».proof.Proof.KerOut
public import proofs.«01_k».proof.Proof.RefOut

@[expose] public section

set_option maxHeartbeats 8000000

noncomputable section

namespace Cert.Algebraic

open Idealize.ShloMosaic Idealize.SL.Sem Idealize.ShloMosaic.StableHlo
open _root_.Dil

/-- An array of 1024 rows of 4096 entries read at the pair of its indices. -/
theorem at_pair {α : Type} (f : (⟨2, ![1024, 4096]⟩ : Shape).Idx → α) (g : ℕ → ℕ → α)
    (h : ∀ (a : Fin 1024) (b : Fin 4096), f (ix2 a b) = g a b) : f = fun j => g (j 0).val (j 1).val := by
  funext j
  have e : j = ix2 (j 0) (j 1) := by
    funext i; fin_cases i <;> rfl
  rw [e]; exact h (j 0) (j 1)

/-- The three gradients as arrays: entry `(a, b)` belongs to query or key `a % 128` of block `a / 128`, to residue
    `b / 1024`, head `b / 128 % 8` and component `b % 128`. -/
def dqs (A : Arrays) : (⟨2, ![1024, 4096]⟩ : Shape).Idx → EReal := fun j => ((A.dq 4 ((j 1).val / 128 % 8) ((j 1).val / 1024) ((j 0).val / 128) ((j 0).val % 128) ((j 1).val % 128) : ℝ) : EReal)
def dks (A : Arrays) : (⟨2, ![1024, 4096]⟩ : Shape).Idx → EReal := fun j => ((A.dk 4 8 ((j 1).val / 128 % 8) ((j 1).val / 1024) ((j 0).val / 128) ((j 0).val % 128) ((j 1).val % 128) : ℝ) : EReal)
def dvs (A : Arrays) : (⟨2, ![1024, 4096]⟩ : Shape).Idx → EReal := fun j => ((A.dv 4 8 ((j 1).val / 128 % 8) ((j 1).val / 1024) ((j 0).val / 128) ((j 0).val % 128) ((j 1).val % 128) : ℝ) : EReal)

/-- The kernel's run leaves them. -/
theorem kernel (m : (ℓ : Loc Cert.KernelIdeal.nD Cert.KernelIdeal.τ Cert.KernelIdeal.sig) → Buf (Elt Ideal) ℓ) (g : Dev Cert.KernelIdeal.nD → PrngReg) (A : Dev Cert.KernelIdeal.nD → Arrays)
    (H : ∀ c, Cert.KernelIdeal.Dil.Reads (fun b => m (c, b)) (A c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v140_0) = dqs (A c)
      ∧ r.2.mem ((c.tc : Thread Cert.KernelIdeal.nD Cert.KernelIdeal.τ).loc Cert.KernelIdeal.main_v140_1) = dks (A c)
      ∧ r.2.mem ((c.tc : Thread Cert.KernelIdeal.nD Cert.KernelIdeal.τ).loc Cert.KernelIdeal.main_v140_2) = dvs (A c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.KernelIdeal.Dil.final_dq (H c)), (h c).2.1.trans (Cert.KernelIdeal.Dil.final_dk (H c)),
    (h c).2.2.1.trans (Cert.KernelIdeal.Dil.final_dv (H c)), (h c).2.2.2⟩) (Cert.KernelIdeal.Value.run_blocks m g)

/-- The reference's run leaves them too. -/
theorem reference (m : (ℓ : Loc Cert.ReferenceIdeal.nD Cert.ReferenceIdeal.τ Cert.ReferenceIdeal.sig) → Buf (Elt Ideal) ℓ) (g : Dev Cert.ReferenceIdeal.nD → PrngReg) (A : Dev Cert.ReferenceIdeal.nD → Arrays)
    (H : ∀ c, Cert.ReferenceIdeal.Dil.Reads (launchContents m c) (A c)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v254) = dqs (A c)
      ∧ r.2.mem ((c.tc : Thread Cert.ReferenceIdeal.nD Cert.ReferenceIdeal.τ).loc Cert.ReferenceIdeal.main_v256) = dks (A c)
      ∧ r.2.mem ((c.tc : Thread Cert.ReferenceIdeal.nD Cert.ReferenceIdeal.τ).loc Cert.ReferenceIdeal.main_v258) = dvs (A c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run Cert.ReferenceIdeal.defs _ _).mono (fun _ h c => ⟨
    at_pair _ (fun a b => (((A c).dq 4 (b / 128 % 8) (b / 1024) (a / 128) (a % 128) (b % 128) : ℝ) : EReal)) (h c).1,
    at_pair _ (fun a b => (((A c).dk 4 8 (b / 128 % 8) (b / 1024) (a / 128) (a % 128) (b % 128) : ℝ) : EReal)) (h c).2.1,
    at_pair _ (fun a b => (((A c).dv 4 8 (b / 128 % 8) (b / 1024) (a / 128) (a % 128) (b % 128) : ℝ) : EReal)) (h c).2.2.1,
    (h c).2.2.2⟩) (Cert.ReferenceIdeal.Dil.run_values m g A H)

end Cert.Algebraic

end
-- ==== Proof.Product.lean ====
/- Products of arrays, entry by entry: the three ways the layer's calls take a product, and a long sum cut into runs of
   2048 terms. -/
module

public import proofs.«01_k».proof.Proof.Reals

@[expose] public section

noncomputable section

namespace Ffn

open Idealize.ShloMosaic

/-- An array of `r` rows of `c` entries. -/
abbrev Arr (r c : ℕ) : Type := (⟨2, ![r, c]⟩ : Shape).Idx → EReal

/-- Entry `(a, b)` of the product of `x` and `w`. -/
def dot {p q s : ℕ} (x : Arr p q) (w : Arr q s) (a : Fin p) (b : Fin s) : EReal := ∑ k : Fin q, x (ix2 a k) * w (ix2 k b)

/-- Entry `(a, b)` of the product of `x` and the transpose of `w`. -/
def dotT {p q s : ℕ} (x : Arr p q) (w : Arr s q) (a : Fin p) (b : Fin s) : EReal := ∑ k : Fin q, x (ix2 a k) * w (ix2 b k)

/-- Entry `(a, b)` of the product of the transpose of `x` and `w`. -/
def tdot {p q s : ℕ} (x : Arr q p) (w : Arr q s) (a : Fin p) (b : Fin s) : EReal := ∑ k : Fin q, x (ix2 k a) * w (ix2 k b)

/-- Each entry's square. -/
def sq {r c : ℕ} (x : Arr r c) : Arr r c := fun j => x j * x j

theorem mul_eq {a b c d : EReal} (h : a = c) (g : b = d) : a * b = c * d := by rw [h, g]

theorem add_eq {a b c d : EReal} (h : a = c) (g : b = d) : a + b = c + d := by rw [h, g]

/-- Run `i` of a sum cut into runs of 2048 terms. -/
def part {n : ℕ} (f : Fin n → EReal) (i : ℕ) (h : i * 2048 + 2048 ≤ n) : EReal := ∑ k : Fin 2048, f ⟨i * 2048 + k.val, by omega⟩

theorem sum_one (f : Fin 2048 → EReal) : ∑ k, f k = part f 0 (by omega) := by
  refine Finset.sum_congr rfl fun k _ => congrArg f (Fin.ext ?_)
  show k.val = 0 * 2048 + k.val
  omega

theorem sum_more {n : ℕ} (f : Fin ((n + 1) * 2048) → EReal) :
    ∑ k, f k = ∑ k : Fin (n * 2048), f ⟨k.val, by omega⟩ + part f n (by omega) := by
  have e : (n + 1) * 2048 = n * 2048 + 2048 := by omega
  rw [← Equiv.sum_comp (finCongr e.symm) f, Fin.sum_univ_add]
  rfl

/-- A sum of 4096 terms is its two runs, added in order. -/
theorem sum_two (f : Fin 4096 → EReal) : ∑ k, f k = part f 0 (by omega) + part f 1 (by omega) := by
  rw [show (∑ k, f k) = ∑ k : Fin (1 * 2048), f ⟨k.val, by omega⟩ + part f 1 (by omega) from sum_more (n := 1) f]
  exact congrArg (· + _) (sum_one _)

/-- A sum of 8192 terms is its four runs, added in order. -/
theorem sum_four (f : Fin 8192 → EReal) :
    ∑ k, f k = part f 0 (by omega) + part f 1 (by omega) + part f 2 (by omega) + part f 3 (by omega) := by
  rw [show (∑ k, f k) = ∑ k : Fin (3 * 2048), f ⟨k.val, by omega⟩ + part f 3 (by omega) from sum_more (n := 3) f,
    show (∑ k : Fin (3 * 2048), f ⟨k.val, by omega⟩)
      = ∑ k : Fin (2 * 2048), f ⟨k.val, by omega⟩ + part f 2 (by omega) from sum_more (n := 2) (fun k : Fin (3 * 2048) => f ⟨k.val, by omega⟩)]
  exact congrArg (· + _ + _) (sum_two fun k => f ⟨k.val, by omega⟩)

end Ffn

end
-- ==== Proof.Up.lean ====
/- The call that takes the layer's input to its hidden rows: a product, then the larger of each entry and zero. -/
module

public import proofs.«01_k».proof.Proof.Product
public import proofs.«01_k».proof.Proof.Gen.Kernel2Ideal.Value
public import proofs.«01_k».proof.Proof.Gen.Reference2Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Ffn

/-- The hidden rows: each entry of `h · w`, or zero where that is larger. -/
def up (h : Arr 4096 2048) (w : Arr 2048 8192) : Arr 4096 8192 := fun j => max (dot h w (j 0) (j 1)) 0

end Ffn

namespace Cert.Kernel2Ideal.Ffn

open Cert.Kernel2Ideal Cert.Kernel2Ideal.Gen
open _root_.Ffn
open Idealize.ShloMosaic.Pipeline (Dat Window)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

theorem i_lt (t : Fin cfg0.N) : (grid0.coords t 0).val < 4 := (grid0.coords t 0).isLt
theorem j_lt (t : Fin cfg0.N) : (grid0.coords t 1).val < 4 := (grid0.coords t 1).isLt

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨(grid0.coords t 0).val * 1024 + a.val, by have := i_lt t; omega⟩ k) := by
  blk_ext [iblk, idx0 t]

theorem blk1 (t : Fin cfg0.N) (k : Fin 2048) (b : Fin 2048) :
    iblk m c 1 t (ix2 k b) = V m c main_arg1 (ix2 k ⟨(grid0.coords t 1).val * 2048 + b.val, by have := j_lt t; omega⟩) := by
  blk_ext [iblk, idx1 t]

/-- What a grid point writes, from the two blocks it reads. -/
theorem block (x : Vec Ideal S1024x2048 .bf16) (w : Vec Ideal S2048x2048 .bf16) (y : S1024x2048.Idx) :
    @Eq EReal (out0_2 (F := Ideal) x w y) (max (dot x w (y 0) (y 1)) 0) := by
  unfold out0_2
  canon_tiles z hz
  open_payloads
  pointwise
  rw [show z 0 = y 0 from Fin.ext hz0.symm, show z 1 = y 1 from Fin.ext hz1.symm]
  rfl

/-- The array of hidden rows after the run. -/
theorem final : (dats m 0 c).arrAt 2 (cfgs 0).N = up (m ((c : Thread nD τ).loc main_arg0)) (m ((c : Thread nD τ).loc main_arg1)) := by
  refine (dats m 0 c).arrAt_eq_of_covers 2 _ (by decide +kernel) fun t _ y => ?_
  blk_simp
  rw [after0_2]
  refine (block _ _ y).trans ?_
  have e0 : win0_2.index t 0 = (grid0.coords t 0).val := by rw [idx2 t]; rfl
  have e1 : win0_2.index t 1 = (grid0.coords t 1).val := by rw [idx2 t]; rfl
  show max (dot _ _ _ _) 0 = max (dot _ _ _ _) 0
  refine congrArg (max · 0) (Finset.sum_congr rfl fun k _ => ?_)
  refine (mul_eq (blk0 t (y 0) k) (blk1 t k (y 1))).trans ?_
  rw [V_main_arg0, V_main_arg1]
  refine mul_eq (congrArg _ (congrArg (ix2 · k) (Fin.ext ?_))) (congrArg _ (congrArg (ix2 k ·) (Fin.ext ?_)))
  · show (grid0.coords t 0).val * 1024 + (y 0).val = win0_2.index t 0 * 1024 + 1 * (y 0).val
    rw [e0, Nat.one_mul]
  · show (grid0.coords t 1).val * 2048 + (y 1).val = win0_2.index t 1 * 2048 + 1 * (y 1).val
    rw [e1, Nat.one_mul]

end Cert.Kernel2Ideal.Ffn

namespace Cert.Reference2Ideal.Ffn

open Cert.Reference2Ideal Cert.Reference2Ideal.Gen
open _root_.Ffn

/-- The reference's entry. -/
theorem value (h : FVec Ideal S4096x2048 .bf16) (w : FVec Ideal S2048x8192 .bf16) :
    truncf .bf16 (maximumf (Host.dotGeneral dot_S4096x2048_S2048x8192_S4096x8192_1_0_0_1_n_n none (extf .f32 h bitsLt_bf16_f32) (extf .f32 w bitsLt_bf16_f32)) (broadcastInDim S4096x8192 ![] bcast_S_S4096x8192 (constant S_ .f32 0x00000000#32))) bitsLt_bf16_f32
      = up h w := by
  funext j
  clean_types; pointwise
  rfl

end Cert.Reference2Ideal.Ffn

end
-- ==== Proof.Da.lean ====
/- The call that takes the gradient of the layer's output to the gradient of its rows before the relu: a product with a
   transposed weight, scaled by twice the hidden row. -/
module

public import proofs.«01_k».proof.Proof.Product
public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Ffn

/-- The gradient of the rows before the relu: `dy · wᵀ`, each entry times twice the larger of `a`'s entry and zero. -/
def da (a : Arr 4096 8192) (w : Arr 8192 2048) (dy : Arr 4096 2048) : Arr 4096 8192 :=
  fun j => dotT dy w (j 0) (j 1) * (((2 : ℝ) : EReal) * max (a j) 0)

end Ffn

namespace Cert.Kernel7Ideal.Ffn

open Cert.Kernel7Ideal Cert.Kernel7Ideal.Gen
open _root_.Ffn
open Idealize.ShloMosaic.Pipeline (Dat Window)

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] := (by decide +kernel : ∀ t : Fin grid0.N, _)
theorem idx3 : ∀ t : Fin cfg0.N, win0_3.index t = ![(grid0.coords t 0).val, (grid0.coords t 1).val] := (by decide +kernel : ∀ t : Fin grid0.N, _)

theorem i_lt (t : Fin cfg0.N) : (grid0.coords t 0).val < 4 := (grid0.coords t 0).isLt
theorem j_lt (t : Fin cfg0.N) : (grid0.coords t 1).val < 4 := (grid0.coords t 1).isLt

variable {m : (ℓ : Loc nD τ sig) → Buf (Elt Ideal) ℓ} {c : Dev nD}

/-- The hidden rows the call is given. -/
theorem rows (j : S4096x8192.Idx) : @Eq EReal (V m c main_v3 j) (max (m ((c : Thread nD τ).loc main_arg0) j) (0 : EReal)) := by
  unfold V hostOps0
  rw [eq_ix2 j]
  after_reads_at

theorem blk0 (t : Fin cfg0.N) (a : Fin 1024) (k : Fin 2048) :
    iblk m c 0 t (ix2 a k) = V m c main_arg2 (ix2 ⟨(grid0.coords t 0).val * 1024 + a.val, by have := i_lt t; omega⟩ k) := by
  blk_ext [iblk, idx0 t]

theorem blk1 (t : Fin cfg0.N) (b : Fin 2048) (k : Fin 2048) :
    iblk m c 1 t (ix2 b k) = V m c main_arg1 (ix2 ⟨(grid0.coords t 1).val * 2048 + b.val, by have := j_lt t; omega⟩ k) := by
  blk_ext [iblk, idx1 t]

theorem blk2 (t : Fin cfg0.N) (a : Fin 1024) (b : Fin 2048) :
    iblk m c 2 t (ix2 a b) = V m c main_v3 (ix2 ⟨(grid0.coords t 0).val * 1024 + a.val, by have := i_lt t; omega⟩ ⟨(grid0.coords t 1).val * 2048 + b.val, by have := j_lt t; omega⟩) := by
  blk_ext [iblk, idx2 t]

/-- What a grid point writes, from the three blocks it reads. -/
theorem block (x : Vec Ideal S1024x2048 .bf16) (w : Vec Ideal S2048x2048 .bf16) (r : Vec Ideal S1024x2048 .bf16) (y : S1024x2048.Idx) :
    @Eq EReal (out0_3 (F := Ideal) x w r y) (dotT x w (y 0) (y 1) * (((2 : ℝ) : EReal) * r (ix2 (y 0) (y 1)))) := by
  unfold out0_3
  canon_tiles z hz
  obtain rfl : y = z := by
    funext i
    match i with
    | ⟨0, _⟩ => exact Fin.ext hz0
    | ⟨1, _⟩ => exact Fin.ext hz1
  open_payloads
  pointwise
  rw [Dil.ofBits_two]
  rfl

/-- The array of gradients after the run. -/
theorem final : (dats m 0 c).arrAt 3 (cfgs 0).N
    = da (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (block _ _ _ y).trans ?_
  have e0 : win0_3.index t 0 = (grid0.coords t 0).val := by rw [idx3 t]; rfl
  have e1 : win0_3.index t 1 = (grid0.coords t 1).val := by rw [idx3 t]; rfl
  have h0 : ((win0_3.blk t).view.emb y 0).val = (grid0.coords t 0).val * 1024 + (y 0).val := by
    show win0_3.index t 0 * 1024 + 1 * (y 0).val = _
    rw [e0, Nat.one_mul]
  have h1 : ((win0_3.blk t).view.emb y 1).val = (grid0.coords t 1).val * 2048 + (y 1).val := by
    show win0_3.index t 1 * 2048 + 1 * (y 1).val = _
    rw [e1, Nat.one_mul]
  refine mul_eq (Finset.sum_congr rfl fun k _ => ?_) (mul_eq rfl ?_)
  · refine (mul_eq (blk0 t (y 0) k) (blk1 t (y 1) k)).trans ?_
    rw [V_main_arg2, V_main_arg1]
    exact mul_eq (congrArg _ (congrArg (ix2 · k) (Fin.ext h0.symm))) (congrArg _ (congrArg (ix2 · k) (Fin.ext h1.symm)))
  · refine ((blk2 t (y 0) (y 1)).trans (rows _)).trans ?_
    refine congrArg (fun j => @max EReal _ (m ((c : Thread nD τ).loc main_arg0) j) 0) ?_
    funext i
    match i with
    | ⟨0, _⟩ => exact Fin.ext h0.symm
    | ⟨1, _⟩ => exact Fin.ext h1.symm

end Cert.Kernel7Ideal.Ffn

namespace Cert.Reference7Ideal.Ffn

open Cert.Reference7Ideal Cert.Reference7Ideal.Gen
open _root_.Ffn

/-- The reference's entry. -/
theorem value (a : FVec Ideal S4096x8192 .bf16) (w : FVec Ideal S8192x2048 .bf16) (dy : FVec Ideal S4096x2048 .bf16) :
    truncf .bf16 (select (cmpf .ogt (extf .f32 a bitsLt_bf16_f32) (broadcastInDim S4096x8192 ![] bcast_S_S4096x8192 (constant S_ .f32 0x00000000#32))) (mulf (Host.dotGeneral dot_S4096x2048_S8192x2048_S4096x8192_1_1_0_0_n_n none (extf .f32 dy bitsLt_bf16_f32) (extf .f32 w bitsLt_bf16_f32)) (mulf (broadcastInDim S4096x8192 ![] bcast_S_S4096x8192 (constant S_ .f32 0x40000000#32)) (maximumf (extf .f32 a bitsLt_bf16_f32) (broadcastInDim S4096x8192 ![] bcast_S_S4096x8192 (constant S_ .f32 0x00000000#32))))) (broadcastInDim S4096x8192 ![] bcast_S_S4096x8192 (constant S_ .f32 0x00000000#32))) bitsLt_bf16_f32
      = da a w dy := by
  funext j
  clean_types; pointwise
  rw [Dil.ofBits_two]
  unfold da dotT
  by_cases h : (0 : EReal) < a j
  · rw [if_pos h]
  · rw [if_neg h, max_eq_right (not_lt.mp h), mul_zero, mul_zero]

end Cert.Reference7Ideal.Ffn

end
-- ==== Proof.Dw2.lean ====
/- The gradient of the layer's second weights: the transposed squares of the hidden rows times `dy`, summed over the 4096 rows two runs of 2048 at a time. Two grid
   points fill a block: the first starts the running sum, the second adds its run's terms and writes the sum out. -/
module

public import proofs.«01_k».proof.Proof.Product
public import proofs.«01_k».proof.Proof.Gen.Kernel3Ideal.Value
public import proofs.«01_k».proof.Proof.Gen.Reference3Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Ffn

/-- The product of the rows' squares, transposed, and the output's gradient. -/
def dw2 (r : Arr 4096 8192) (dy : Arr 4096 2048) : Arr 8192 2048 := fun j => tdot (sq r) dy (j 0) (j 1)

end Ffn

namespace Cert.Kernel3Ideal.Ffn

open Cert.Kernel3Ideal Cert.Kernel3Ideal.Gen
open _root_.Ffn
open Idealize.ShloMosaic.Pipeline (Dat Window)

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem t_lt (t : Fin cfg0.N) : t.val < 16 := lt_of_lt_of_eq t.isLt N_0

theorem hz : (![0, 0] : Fin 2 → Nat) = fun _ => 0 := funext fun a => by fin_cases a <;> rfl

section Body

variable (c : Dev nD) (i : grid0.Coords) (a : Memref sig .tc .vmem S2048x1024 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a block leaves its product in the running sum. -/
theorem sum_A (h0 : cond0_0 i) (h1 : ¬cond0_1 i) (h2 : ¬cond0_2 i) (x : Vec Ideal S2048x1024 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x1024) hz, View.ld_unit_zero (S := S2048x2048) hz, shapeCast_self]

/-- The second point writes the running sum with its product added. -/
theorem out_B (h0 : ¬cond0_0 i) (h1 : cond0_1 i) (h2 : cond0_2 i) (x : Vec Ideal S2048x1024 .bf16) (w : Vec Ideal S2048x2048 .bf16) (r : Vec Ideal S1024x2048 .f32) :
    out0_B_2 (F := Ideal) c i a ha b hb o ho s hs h0 h1 h2 x w r = k0_pay3 (k0_pay2 r x w) := by
  unfold out0_B_2
  rw [View.read_writes_eq_canon _ _ _ (cover0_B_2 c i a ha b hb o ho s hs h0 h1 h2 x w r)]
  unfold kernelRun0_B
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x1024) hz, View.ld_unit_zero (S := S2048x2048) hz, shapeCast_self]

end Body

theorem pay1 (x : Vec Ideal S2048x1024 .bf16) (w : Vec Ideal S2048x2048 .bf16) (y : S1024x2048.Idx) :
    @Eq EReal (k0_pay1 (F := Ideal) x w y) (tdot (sq x) w (y 0) (y 1)) := by
  unfold k0_pay1
  pointwise
  rfl

theorem pay2 (r : Vec Ideal S1024x2048 .f32) (x : Vec Ideal S2048x1024 .bf16) (w : Vec Ideal S2048x2048 .bf16) (y : S1024x2048.Idx) :
    @Eq EReal (k0_pay2 (F := Ideal) r x w y) (@HAdd.hAdd EReal EReal EReal _ (r y) (tdot (sq x) w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem blk0 (t : Fin cfg0.N) (k : Fin 2048) (a : Fin 1024) :
    iblk m c 0 t (ix2 k a) = V m c main_arg0 (ix2 ⟨t.val % 2 * 2048 + k.val, by omega⟩ ⟨t.val / 2 * 1024 + a.val, by have := t_lt t; omega⟩) := by
  blk_ext [iblk, idx0 t]

theorem blk1 (t : Fin cfg0.N) (k : Fin 2048) (b : Fin 2048) :
    iblk m c 1 t (ix2 k b) = V m c main_arg1 (ix2 ⟨t.val % 2 * 2048 + k.val, by omega⟩ b) := by
  blk_ext [iblk, idx1 t]

/-- The terms of entry `(i, j)` of the product. -/
def term (m : (ℓ : Loc nD τ sig) → Buf (Elt Ideal) ℓ) (c : Dev nD) (i : Fin 8192) (j : Fin 2048) (k : Fin 4096) : EReal :=
  @HMul.hMul EReal EReal EReal _ (sq (m ((c : Thread nD τ).loc main_arg0)) (ix2 k i)) (m ((c : Thread nD τ).loc main_arg1) (ix2 k j))

/-- Point `q` of block `p` takes run `q` of the entry's terms. -/
theorem point (t : Fin cfg0.N) (p q : ℕ) (hp : p < 8) (hq : q < 2) (h : t.val = 2 * p + q) (y : S1024x2048.Idx) :
    tdot (sq (iblk m c 0 t)) (iblk m c 1 t) (y 0) (y 1)
      = part (term m c ⟨p * 1024 + (y 0).val, by have : (y 0).val < 1024 := (y 0).isLt; omega⟩ (y 1)) q (by omega) := by
  refine Finset.sum_congr rfl fun k _ => ?_
  refine (mul_eq (mul_eq (blk0 t k (y 0)) (blk0 t k (y 0))) (blk1 t k (y 1))).trans ?_
  rw [V_main_arg0, V_main_arg1]
  have e : t.val / 2 = p := by omega
  have g : t.val % 2 = q := by omega
  subst e
  subst g
  rfl

theorem first (t : Fin cfg0.N) (h : t.val % 2 = 0) (y : S1024x2048.Idx) :
    @Eq EReal ((outsAt0 m c t.val t.isLt).2 y) (tdot (sq (iblk m c 0 t)) (iblk m c 1 t) (y 0) (y 1)) := by
  rw [outsAt0_A m c t h (by omega) (by omega)]
  dsimp only
  rw [sum_A]
  exact pay1 _ _ y

theorem second (t : Fin cfg0.N) (h : t.val % 2 = 1) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (tdot (sq (iblk m c 0 t)) (iblk m c 1 t) (y 0) (y 1))) := by
  rw [outsAt0_B m c t (by omega) h h]
  dsimp only
  rw [out_B]
  exact (pay3 _ y).trans (pay2 _ _ _ y)

/-- The block the second point writes. -/
theorem block (t : Fin cfg0.N) (p : ℕ) (hp : p < 8) (h : t.val = 2 * p + 1) (y : S1024x2048.Idx) :
    @Eq EReal ((outsAt0 m c t.val t.isLt).1 y)
      (∑ k, term m c ⟨p * 1024 + (y 0).val, by have : (y 0).val < 1024 := (y 0).isLt; omega⟩ (y 1) k) := by
  have ht := t.isLt
  have l0 : t.val - 1 < cfg0.N := by omega
  rw [sum_two]
  refine (second t (by omega) y).trans (add_eq ?_ (point t p 1 hp (by omega) h y))
  exact (first ⟨t.val - 1, l0⟩ (by dsimp only; omega) y).trans (point ⟨t.val - 1, l0⟩ p 0 hp (by omega) (by dsimp only; omega) y)

/-- The array after the run. -/
theorem final : (dats m 0 c).arrAt 2 (cfgs 0).N
    = dw2 (m ((c : Thread nD τ).loc main_arg0)) (m ((c : Thread nD τ).loc main_arg1)) := by
  refine (dats m 0 c).arrAt_eq_of_covers 2 _ (by decide +kernel) fun t hf y => ?_
  blk_simp
  rw [after0_2]
  have h3 : t.val % 2 = 1 := (flush0_2 t).mp hf
  have ht := t_lt t
  refine (block t (t.val / 2) (by omega) (by omega) y).trans ?_
  have e0 : win0_2.index t 0 = t.val / 2 := by rw [idx2 t]; rfl
  have e1 : win0_2.index t 1 = 0 := by rw [idx2 t]; rfl
  have h0 : ((win0_2.blk t).view.emb y 0).val = t.val / 2 * 1024 + (y 0).val := by
    show win0_2.index t 0 * 1024 + 1 * (y 0).val = _
    rw [e0, Nat.one_mul]
  have h1 : ((win0_2.blk t).view.emb y 1).val = (y 1).val := by
    show win0_2.index t 1 * 2048 + 1 * (y 1).val = _
    rw [e1, Nat.one_mul, Nat.zero_mul, Nat.zero_add]
  unfold dw2 tdot
  refine Finset.sum_congr rfl fun k _ => ?_
  exact mul_eq (congrArg _ (congrArg (ix2 k ·) (Fin.ext h0.symm))) (congrArg _ (congrArg (ix2 k ·) (Fin.ext h1.symm)))

end Cert.Kernel3Ideal.Ffn

namespace Cert.Reference3Ideal.Ffn

open Cert.Reference3Ideal Cert.Reference3Ideal.Gen
open _root_.Ffn

/-- The reference's entry: the same products, each taken in the other order. -/
theorem value (r : FVec Ideal S4096x8192 .bf16) (dy : FVec Ideal S4096x2048 .bf16) :
    truncf .bf16 (transpose S8192x2048 [1, 0] (Host.dotGeneral dot_S4096x2048_S4096x8192_S2048x8192_0_0_1_1_n_n none (extf .f32 dy bitsLt_bf16_f32) (mulf (extf .f32 r bitsLt_bf16_f32) (extf .f32 r bitsLt_bf16_f32))) transposes_S2048x8192_S8192x2048_1_0) bitsLt_bf16_f32
      = dw2 r dy := by
  funext j
  clean_types; pointwise
  exact Finset.sum_congr rfl fun k _ => mul_comm _ _

end Cert.Reference3Ideal.Ffn

end
-- ==== Proof.Dh.lean ====
/- The gradient of the hidden state through the layer's first product: `da · w1ᵀ`, summed over the 8192 columns four runs of
   2048 at a time. A run of four grid points fills a block of rows: the first point starts the running sum, each later one
   adds its run's terms, and the last writes the sum out. -/
module

public import proofs.«01_k».proof.Proof.Product
public import proofs.«01_k».proof.Proof.Gen.Kernel4Ideal.Value
public import proofs.«01_k».proof.Proof.Gen.Reference4Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Ffn

/-- The product of the rows and the transposed weights. -/
def dh (a : Arr 4096 8192) (w : Arr 2048 8192) : Arr 4096 2048 := fun j => dotT a w (j 0) (j 1)

end Ffn

namespace Cert.Kernel4Ideal.Ffn

open Cert.Kernel4Ideal Cert.Kernel4Ideal.Gen
open _root_.Ffn
open Idealize.ShloMosaic.Pipeline (Dat Window)

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)

theorem t_lt (t : Fin cfg0.N) : t.val < 16 := lt_of_lt_of_eq t.isLt N_0

theorem hz : (![0, 0] : Fin 2 → Nat) = fun _ => 0 := funext fun a => by fin_cases a <;> rfl

section Body

variable (c : Dev nD) (i : grid0.Coords) (a : Memref sig .tc .vmem S1024x2048 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a run leaves its product in the running sum. -/
theorem sum_A (h0 : cond0_0 i) (h1 : ¬cond0_1 i) (h2 : ¬cond0_2 i) (x : Vec Ideal S1024x2048 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x2048) hz, shapeCast_self]

/-- A later point adds its product to the running sum. -/
theorem sum_B (h0 : ¬cond0_0 i) (h1 : cond0_1 i) (h2 : ¬cond0_2 i) (x : Vec Ideal S1024x2048 .bf16) (w : Vec Ideal S2048x2048 .bf16) (r : Vec Ideal S1024x2048 .f32) :
    sout0_B_0 (F := Ideal) c i a ha b hb o ho s hs h0 h1 h2 x w r = k0_pay2 r x w := by
  unfold sout0_B_0
  rw [View.read_writes_eq_canon _ _ _ (scover0_B_0 c i a ha b hb o ho s hs h0 h1 h2 x w r)]
  unfold kernelRun0_B
  dsimp only
  rw [View.canon_unit_zero hz]
  simp only [View.readAt_eq_ld, ha.read_unread, hb.read_unread, hs.read_unread, View.ld_unit_zero (S := S1024x2048) hz, View.ld_unit_zero (S := S2048x2048) hz, shapeCast_self]

/-- The last point writes the running sum with its product added. -/
theorem out_C (h0 : ¬cond0_0 i) (h1 : cond0_1 i) (h2 : cond0_2 i) (x : Vec Ideal S1024x2048 .bf16) (w : Vec Ideal S2048x2048 .bf16) (r : Vec Ideal S1024x2048 .f32) :
    out0_C_2 (F := Ideal) c i a ha b hb o ho s hs h0 h1 h2 x w r = k0_pay3 (k0_pay2 r x w) := by
  unfold out0_C_2
  rw [View.read_writes_eq_canon _ _ _ (cover0_C_2 c i a ha b hb o ho s hs h0 h1 h2 x w r)]
  unfold kernelRun0_C
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x2048) hz, shapeCast_self]

end Body

theorem pay1 (x : Vec Ideal S1024x2048 .bf16) (w : Vec Ideal S2048x2048 .bf16) (y : S1024x2048.Idx) :
    @Eq EReal (k0_pay1 (F := Ideal) x w y) (dotT x w (y 0) (y 1)) := by
  unfold k0_pay1
  pointwise
  rfl

theorem pay2 (r : Vec Ideal S1024x2048 .f32) (x : Vec Ideal S1024x2048 .bf16) (w : Vec Ideal S2048x2048 .bf16) (y : S1024x2048.Idx) :
    @Eq EReal (k0_pay2 (F := Ideal) r x w y) (@HAdd.hAdd EReal EReal EReal _ (r y) (dotT x w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨t.val / 4 * 1024 + a.val, by have := t_lt t; omega⟩ ⟨t.val % 4 * 2048 + k.val, by omega⟩) := by
  blk_ext [iblk, idx0 t]

theorem blk1 (t : Fin cfg0.N) (b : Fin 2048) (k : Fin 2048) :
    iblk m c 1 t (ix2 b k) = V m c main_arg1 (ix2 b ⟨t.val % 4 * 2048 + k.val, by omega⟩) := by
  blk_ext [iblk, idx1 t]

/-- The terms of entry `(i, j)` of the product. -/
def term (m : (ℓ : Loc nD τ sig) → Buf (Elt Ideal) ℓ) (c : Dev nD) (i : Fin 4096) (j : Fin 2048) (k : Fin 8192) : EReal :=
  @HMul.hMul EReal EReal EReal _ (m ((c : Thread nD τ).loc main_arg0) (ix2 i k)) (m ((c : Thread nD τ).loc main_arg1) (ix2 j k))

/-- Point `q` of run `p` takes run `q` of the entry's terms. -/
theorem point (t : Fin cfg0.N) (p q : ℕ) (hp : p < 4) (hq : q < 4) (h : t.val = 4 * p + q) (y : S1024x2048.Idx) :
    dotT (iblk m c 0 t) (iblk m c 1 t) (y 0) (y 1)
      = part (term m c ⟨p * 1024 + (y 0).val, by have : (y 0).val < 1024 := (y 0).isLt; omega⟩ (y 1)) q (by omega) := by
  refine Finset.sum_congr rfl fun k _ => ?_
  refine (mul_eq (blk0 t (y 0) k) (blk1 t (y 1) k)).trans ?_
  rw [V_main_arg0, V_main_arg1]
  have e : t.val / 4 = p := by omega
  have f : t.val % 4 = q := by omega
  subst e
  subst f
  rfl

theorem first (t : Fin cfg0.N) (h : t.val % 4 = 0) (y : S1024x2048.Idx) :
    @Eq EReal ((outsAt0 m c t.val t.isLt).2 y) (dotT (iblk m c 0 t) (iblk m c 1 t) (y 0) (y 1)) := by
  rw [outsAt0_A m c t h (by omega) (by omega)]
  dsimp only
  rw [sum_A]
  exact pay1 _ _ y

theorem later (t : Fin cfg0.N) (h : t.val % 4 = 1 ∨ t.val % 4 = 2) (y : S1024x2048.Idx) :
    @Eq EReal ((outsAt0 m c t.val t.isLt).2 y)
      (@HAdd.hAdd EReal EReal EReal _ ((outsAt0 m c (t.val - 1) (Nat.lt_of_le_of_lt (Nat.sub_le _ _) t.isLt)).2 y) (dotT (iblk m c 0 t) (iblk m c 1 t) (y 0) (y 1))) := by
  rw [outsAt0_B m c t (by omega) (by omega) (by omega)]
  dsimp only
  rw [sum_B]
  exact pay2 _ _ _ y

theorem last (t : Fin cfg0.N) (h : t.val % 4 = 3) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (dotT (iblk m c 0 t) (iblk m c 1 t) (y 0) (y 1))) := by
  rw [outsAt0_C m c t (by omega) (by omega) h]
  dsimp only
  rw [out_C]
  exact (pay3 _ y).trans (pay2 _ _ _ y)

/-- The block the last point of run `p` writes. -/
theorem block (t : Fin cfg0.N) (p : ℕ) (hp : p < 4) (h : t.val = 4 * p + 3) (y : S1024x2048.Idx) :
    @Eq EReal ((outsAt0 m c t.val t.isLt).1 y)
      (∑ k, term m c ⟨p * 1024 + (y 0).val, by have : (y 0).val < 1024 := (y 0).isLt; omega⟩ (y 1) k) := by
  have ht := t.isLt
  have l2 : t.val - 1 < cfg0.N := by omega
  have l1 : t.val - 1 - 1 < cfg0.N := by omega
  have l0 : t.val - 1 - 1 - 1 < cfg0.N := by omega
  rw [sum_four]
  refine (last t (by omega) y).trans (add_eq ?_ (point t p 3 hp (by omega) h y))
  refine (later ⟨t.val - 1, l2⟩ (by dsimp only; omega) y).trans (add_eq ?_ (point ⟨t.val - 1, l2⟩ p 2 hp (by omega) (by dsimp only; omega) y))
  refine (later ⟨t.val - 1 - 1, l1⟩ (by dsimp only; omega) y).trans (add_eq ?_ (point ⟨t.val - 1 - 1, l1⟩ p 1 hp (by omega) (by dsimp only; omega) y))
  exact (first ⟨t.val - 1 - 1 - 1, l0⟩ (by dsimp only; omega) y).trans (point ⟨t.val - 1 - 1 - 1, l0⟩ p 0 hp (by omega) (by dsimp only; omega) y)

/-- The array after the run. -/
theorem final : (dats m 0 c).arrAt 2 (cfgs 0).N
    = dh (m ((c : Thread nD τ).loc main_arg0)) (m ((c : Thread nD τ).loc main_arg1)) := by
  refine (dats m 0 c).arrAt_eq_of_covers 2 _ (by decide +kernel) fun t hf y => ?_
  blk_simp
  rw [after0_2]
  have h3 : t.val % 4 = 3 := (flush0_2 t).mp hf
  have ht := t_lt t
  refine (block t (t.val / 4) (by omega) (by omega) y).trans ?_
  have e0 : win0_2.index t 0 = t.val / 4 := by rw [idx2 t]; rfl
  have e1 : win0_2.index t 1 = 0 := by rw [idx2 t]; rfl
  have h0 : ((win0_2.blk t).view.emb y 0).val = t.val / 4 * 1024 + (y 0).val := by
    show win0_2.index t 0 * 1024 + 1 * (y 0).val = _
    rw [e0, Nat.one_mul]
  have h1 : ((win0_2.blk t).view.emb y 1).val = (y 1).val := by
    show win0_2.index t 1 * 2048 + 1 * (y 1).val = _
    rw [e1, Nat.one_mul, Nat.zero_mul, Nat.zero_add]
  unfold dh dotT
  refine Finset.sum_congr rfl fun k _ => ?_
  exact mul_eq (congrArg _ (congrArg (ix2 · k) (Fin.ext h0.symm))) (congrArg _ (congrArg (ix2 · k) (Fin.ext h1.symm)))

end Cert.Kernel4Ideal.Ffn

namespace Cert.Reference4Ideal.Ffn

open Cert.Reference4Ideal Cert.Reference4Ideal.Gen
open _root_.Ffn

/-- The reference's entry. -/
theorem value (a : FVec Ideal S4096x8192 .bf16) (w : FVec Ideal S2048x8192 .bf16) :
    truncf .bf16 (Host.dotGeneral dot_S4096x8192_S2048x8192_S4096x2048_1_1_0_0_n_n none (extf .f32 a bitsLt_bf16_f32) (extf .f32 w bitsLt_bf16_f32)) bitsLt_bf16_f32
      = dh a w := by
  funext j
  clean_types; pointwise
  rfl

end Cert.Reference4Ideal.Ffn

end
-- ==== Proof.Dw1.lean ====
/- The gradient of the layer's first weights: `hᵀ · da`, summed over the 4096 rows two runs of 2048 at a time. Two grid
   points fill a block: the first starts the running sum, the second adds its run's terms and writes the sum out. -/
module

public import proofs.«01_k».proof.Proof.Product
public import proofs.«01_k».proof.Proof.Gen.Kernel5Ideal.Value
public import proofs.«01_k».proof.Proof.Gen.Reference5Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Ffn

/-- The product of the transposed hidden state and the rows' gradient. -/
def dw1 (h : Arr 4096 2048) (a : Arr 4096 8192) : Arr 2048 8192 := fun j => tdot h a (j 0) (j 1)

end Ffn

namespace Cert.Kernel5Ideal.Ffn

open Cert.Kernel5Ideal Cert.Kernel5Ideal.Gen
open _root_.Ffn
open Idealize.ShloMosaic.Pipeline (Dat Window)

theorem idx0 : ∀ t : Fin cfg0.N, win0_0.index t = ![t.val % 2, t.val / 8] := (by decide +kernel : ∀ t : Fin grid0.N, _)
theorem idx1 : ∀ t : Fin cfg0.N, win0_1.index t = ![t.val % 2, t.val / 2 % 4] := (by decide +kernel : ∀ t : Fin grid0.N, _)
theorem idx2 : ∀ t : Fin cfg0.N, win0_2.index t = ![t.val / 8, t.val / 2 % 4] := (by decide +kernel : ∀ t : Fin grid0.N, _)

theorem t_lt (t : Fin cfg0.N) : t.val < 16 := lt_of_lt_of_eq t.isLt N_0

theorem hz : (![0, 0] : Fin 2 → Nat) = fun _ => 0 := funext fun a => by fin_cases a <;> rfl

section Body

variable (c : Dev nD) (i : grid0.Coords) (a : Memref sig .tc .vmem S2048x1024 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a block leaves its product in the running sum. -/
theorem sum_A (h0 : cond0_0 i) (h1 : ¬cond0_1 i) (h2 : ¬cond0_2 i) (x : Vec Ideal S2048x1024 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x1024) hz, View.ld_unit_zero (S := S2048x2048) hz, shapeCast_self]

/-- The second point writes the running sum with its product added. -/
theorem out_B (h0 : ¬cond0_0 i) (h1 : cond0_1 i) (h2 : cond0_2 i) (x : Vec Ideal S2048x1024 .bf16) (w : Vec Ideal S2048x2048 .bf16) (r : Vec Ideal S1024x2048 .f32) :
    out0_B_2 (F := Ideal) c i a ha b hb o ho s hs h0 h1 h2 x w r = k0_pay3 (k0_pay2 r x w) := by
  unfold out0_B_2
  rw [View.read_writes_eq_canon _ _ _ (cover0_B_2 c i a ha b hb o ho s hs h0 h1 h2 x w r)]
  unfold kernelRun0_B
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x1024) hz, View.ld_unit_zero (S := S2048x2048) hz, shapeCast_self]

end Body

theorem pay1 (x : Vec Ideal S2048x1024 .bf16) (w : Vec Ideal S2048x2048 .bf16) (y : S1024x2048.Idx) :
    @Eq EReal (k0_pay1 (F := Ideal) x w y) (tdot x w (y 0) (y 1)) := by
  unfold k0_pay1
  pointwise
  rfl

theorem pay2 (r : Vec Ideal S1024x2048 .f32) (x : Vec Ideal S2048x1024 .bf16) (w : Vec Ideal S2048x2048 .bf16) (y : S1024x2048.Idx) :
    @Eq EReal (k0_pay2 (F := Ideal) r x w y) (@HAdd.hAdd EReal EReal EReal _ (r y) (tdot x w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem blk0 (t : Fin cfg0.N) (k : Fin 2048) (a : Fin 1024) :
    iblk m c 0 t (ix2 k a) = V m c main_arg0 (ix2 ⟨t.val % 2 * 2048 + k.val, by omega⟩ ⟨t.val / 8 * 1024 + a.val, by have := t_lt t; omega⟩) := by
  blk_ext [iblk, idx0 t]

theorem blk1 (t : Fin cfg0.N) (k : Fin 2048) (b : Fin 2048) :
    iblk m c 1 t (ix2 k b) = V m c main_arg1 (ix2 ⟨t.val % 2 * 2048 + k.val, by omega⟩ ⟨t.val / 2 % 4 * 2048 + b.val, by omega⟩) := by
  blk_ext [iblk, idx1 t]

/-- The terms of entry `(i, j)` of the product. -/
def term (m : (ℓ : Loc nD τ sig) → Buf (Elt Ideal) ℓ) (c : Dev nD) (i : Fin 2048) (j : Fin 8192) (k : Fin 4096) : EReal :=
  @HMul.hMul EReal EReal EReal _ (m ((c : Thread nD τ).loc main_arg0) (ix2 k i)) (m ((c : Thread nD τ).loc main_arg1) (ix2 k j))

/-- Point `q` of block `(p, n)` takes run `q` of the entry's terms. -/
theorem point (t : Fin cfg0.N) (p n q : ℕ) (hp : p < 2) (hn : n < 4) (hq : q < 2) (h : t.val = 8 * p + 2 * n + q) (y : S1024x2048.Idx) :
    tdot (iblk m c 0 t) (iblk m c 1 t) (y 0) (y 1)
      = part (term m c ⟨p * 1024 + (y 0).val, by have : (y 0).val < 1024 := (y 0).isLt; omega⟩
          ⟨n * 2048 + (y 1).val, by have : (y 1).val < 2048 := (y 1).isLt; omega⟩) q (by omega) := by
  refine Finset.sum_congr rfl fun k _ => ?_
  refine (mul_eq (blk0 t k (y 0)) (blk1 t k (y 1))).trans ?_
  rw [V_main_arg0, V_main_arg1]
  have e : t.val / 8 = p := by omega
  have f : t.val / 2 % 4 = n := by omega
  have g : t.val % 2 = q := by omega
  subst e
  subst f
  subst g
  rfl

theorem first (t : Fin cfg0.N) (h : t.val % 2 = 0) (y : S1024x2048.Idx) :
    @Eq EReal ((outsAt0 m c t.val t.isLt).2 y) (tdot (iblk m c 0 t) (iblk m c 1 t) (y 0) (y 1)) := by
  rw [outsAt0_A m c t h (by omega) (by omega)]
  dsimp only
  rw [sum_A]
  exact pay1 _ _ y

theorem second (t : Fin cfg0.N) (h : t.val % 2 = 1) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (tdot (iblk m c 0 t) (iblk m c 1 t) (y 0) (y 1))) := by
  rw [outsAt0_B m c t (by omega) h h]
  dsimp only
  rw [out_B]
  exact (pay3 _ y).trans (pay2 _ _ _ y)

/-- The block the second point writes. -/
theorem block (t : Fin cfg0.N) (p n : ℕ) (hp : p < 2) (hn : n < 4) (h : t.val = 8 * p + 2 * n + 1) (y : S1024x2048.Idx) :
    @Eq EReal ((outsAt0 m c t.val t.isLt).1 y)
      (∑ k, term m c ⟨p * 1024 + (y 0).val, by have : (y 0).val < 1024 := (y 0).isLt; omega⟩
        ⟨n * 2048 + (y 1).val, by have : (y 1).val < 2048 := (y 1).isLt; omega⟩ k) := by
  have ht := t.isLt
  have l0 : t.val - 1 < cfg0.N := by omega
  rw [sum_two]
  refine (second t (by omega) y).trans (add_eq ?_ (point t p n 1 hp hn (by omega) h y))
  exact (first ⟨t.val - 1, l0⟩ (by dsimp only; omega) y).trans (point ⟨t.val - 1, l0⟩ p n 0 hp hn (by omega) (by dsimp only; omega) y)

/-- The array after the run. -/
theorem final : (dats m 0 c).arrAt 2 (cfgs 0).N
    = dw1 (m ((c : Thread nD τ).loc main_arg0)) (m ((c : Thread nD τ).loc main_arg1)) := by
  refine (dats m 0 c).arrAt_eq_of_covers 2 _ (by decide +kernel) fun t hf y => ?_
  blk_simp
  rw [after0_2]
  have h3 : t.val % 2 = 1 := (flush0_2 t).mp hf
  have ht := t_lt t
  refine (block t (t.val / 8) (t.val / 2 % 4) (by omega) (by omega) (by omega) y).trans ?_
  have e0 : win0_2.index t 0 = t.val / 8 := by rw [idx2 t]; rfl
  have e1 : win0_2.index t 1 = t.val / 2 % 4 := by rw [idx2 t]; rfl
  have h0 : ((win0_2.blk t).view.emb y 0).val = t.val / 8 * 1024 + (y 0).val := by
    show win0_2.index t 0 * 1024 + 1 * (y 0).val = _
    rw [e0, Nat.one_mul]
  have h1 : ((win0_2.blk t).view.emb y 1).val = t.val / 2 % 4 * 2048 + (y 1).val := by
    show win0_2.index t 1 * 2048 + 1 * (y 1).val = _
    rw [e1, Nat.one_mul]
  unfold dw1 tdot
  refine Finset.sum_congr rfl fun k _ => ?_
  exact mul_eq (congrArg _ (congrArg (ix2 k ·) (Fin.ext h0.symm))) (congrArg _ (congrArg (ix2 k ·) (Fin.ext h1.symm)))

end Cert.Kernel5Ideal.Ffn

namespace Cert.Reference5Ideal.Ffn

open Cert.Reference5Ideal Cert.Reference5Ideal.Gen
open _root_.Ffn

/-- The reference's entry: the same products, each taken in the other order. -/
theorem value (h : FVec Ideal S4096x2048 .bf16) (a : FVec Ideal S4096x8192 .bf16) :
    truncf .bf16 (transpose S2048x8192 [1, 0] (Host.dotGeneral dot_S4096x8192_S4096x2048_S8192x2048_0_0_1_1_n_n none (extf .f32 a bitsLt_bf16_f32) (extf .f32 h bitsLt_bf16_f32)) transposes_S8192x2048_S2048x8192_1_0) bitsLt_bf16_f32
      = dw1 h a := by
  funext j
  clean_types; pointwise
  exact Finset.sum_congr rfl fun k _ => mul_comm _ _

end Cert.Reference5Ideal.Ffn

end
-- ==== Proof.Down.lean ====
/- The layer's second product: the squares of the hidden rows times `w2`, summed over the 8192 columns four runs of 2048 at
   a time. A run of four grid points fills a block of rows: the first point starts the running sum, each later one
   adds its run's terms, and the last writes the sum out. -/
module

public import proofs.«01_k».proof.Proof.Product
public import proofs.«01_k».proof.Proof.Gen.Kernel6Ideal.Value
public import proofs.«01_k».proof.Proof.Gen.Reference6Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Ffn

/-- The product of the rows' squares and the weights. -/
def down (r : Arr 4096 8192) (w : Arr 8192 2048) : Arr 4096 2048 := fun j => dot (sq r) w (j 0) (j 1)

end Ffn

namespace Cert.Kernel6Ideal.Ffn

open Cert.Kernel6Ideal Cert.Kernel6Ideal.Gen
open _root_.Ffn
open Idealize.ShloMosaic.Pipeline (Dat Window)

theorem idx0 : ∀ t : Fin cfg0.N, win0_0.index t = ![t.val / 4, t.val % 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

theorem t_lt (t : Fin cfg0.N) : t.val < 16 := lt_of_lt_of_eq t.isLt N_0

theorem hz : (![0, 0] : Fin 2 → Nat) = fun _ => 0 := funext fun a => by fin_cases a <;> rfl

section Body

variable (c : Dev nD) (i : grid0.Coords) (a : Memref sig .tc .vmem S1024x2048 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a run leaves its product in the running sum. -/
theorem sum_A (h0 : cond0_0 i) (h1 : ¬cond0_1 i) (h2 : ¬cond0_2 i) (x : Vec Ideal S1024x2048 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x2048) hz, shapeCast_self]

/-- A later point adds its product to the running sum. -/
theorem sum_B (h0 : ¬cond0_0 i) (h1 : cond0_1 i) (h2 : ¬cond0_2 i) (x : Vec Ideal S1024x2048 .bf16) (w : Vec Ideal S2048x2048 .bf16) (r : Vec Ideal S1024x2048 .f32) :
    sout0_B_0 (F := Ideal) c i a ha b hb o ho s hs h0 h1 h2 x w r = k0_pay2 r x w := by
  unfold sout0_B_0
  rw [View.read_writes_eq_canon _ _ _ (scover0_B_0 c i a ha b hb o ho s hs h0 h1 h2 x w r)]
  unfold kernelRun0_B
  dsimp only
  rw [View.canon_unit_zero hz]
  simp only [View.readAt_eq_ld, ha.read_unread, hb.read_unread, hs.read_unread, View.ld_unit_zero (S := S1024x2048) hz, View.ld_unit_zero (S := S2048x2048) hz, shapeCast_self]

/-- The last point writes the running sum with its product added. -/
theorem out_C (h0 : ¬cond0_0 i) (h1 : cond0_1 i) (h2 : cond0_2 i) (x : Vec Ideal S1024x2048 .bf16) (w : Vec Ideal S2048x2048 .bf16) (r : Vec Ideal S1024x2048 .f32) :
    out0_C_2 (F := Ideal) c i a ha b hb o ho s hs h0 h1 h2 x w r = k0_pay3 (k0_pay2 r x w) := by
  unfold out0_C_2
  rw [View.read_writes_eq_canon _ _ _ (cover0_C_2 c i a ha b hb o ho s hs h0 h1 h2 x w r)]
  unfold kernelRun0_C
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x2048) hz, shapeCast_self]

end Body

theorem pay1 (x : Vec Ideal S1024x2048 .bf16) (w : Vec Ideal S2048x2048 .bf16) (y : S1024x2048.Idx) :
    @Eq EReal (k0_pay1 (F := Ideal) x w y) (dot (sq x) w (y 0) (y 1)) := by
  unfold k0_pay1
  pointwise
  rfl

theorem pay2 (r : Vec Ideal S1024x2048 .f32) (x : Vec Ideal S1024x2048 .bf16) (w : Vec Ideal S2048x2048 .bf16) (y : S1024x2048.Idx) :
    @Eq EReal (k0_pay2 (F := Ideal) r x w y) (@HAdd.hAdd EReal EReal EReal _ (r y) (dot (sq x) w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨t.val / 4 * 1024 + a.val, by have := t_lt t; omega⟩ ⟨t.val % 4 * 2048 + k.val, by omega⟩) := by
  blk_ext [iblk, idx0 t]

theorem blk1 (t : Fin cfg0.N) (k : Fin 2048) (b : Fin 2048) :
    iblk m c 1 t (ix2 k b) = V m c main_arg1 (ix2 ⟨t.val % 4 * 2048 + k.val, by omega⟩ b) := by
  blk_ext [iblk, idx1 t]

/-- The terms of entry `(i, j)` of the product. -/
def term (m : (ℓ : Loc nD τ sig) → Buf (Elt Ideal) ℓ) (c : Dev nD) (i : Fin 4096) (j : Fin 2048) (k : Fin 8192) : EReal :=
  @HMul.hMul EReal EReal EReal _ (sq (m ((c : Thread nD τ).loc main_arg0)) (ix2 i k)) (m ((c : Thread nD τ).loc main_arg1) (ix2 k j))

/-- Point `q` of run `p` takes run `q` of the entry's terms. -/
theorem point (t : Fin cfg0.N) (p q : ℕ) (hp : p < 4) (hq : q < 4) (h : t.val = 4 * p + q) (y : S1024x2048.Idx) :
    dot (sq (iblk m c 0 t)) (iblk m c 1 t) (y 0) (y 1)
      = part (term m c ⟨p * 1024 + (y 0).val, by have : (y 0).val < 1024 := (y 0).isLt; omega⟩ (y 1)) q (by omega) := by
  refine Finset.sum_congr rfl fun k _ => ?_
  refine (mul_eq (mul_eq (blk0 t (y 0) k) (blk0 t (y 0) k)) (blk1 t k (y 1))).trans ?_
  rw [V_main_arg0, V_main_arg1]
  have e : t.val / 4 = p := by omega
  have f : t.val % 4 = q := by omega
  subst e
  subst f
  rfl

theorem first (t : Fin cfg0.N) (h : t.val % 4 = 0) (y : S1024x2048.Idx) :
    @Eq EReal ((outsAt0 m c t.val t.isLt).2 y) (dot (sq (iblk m c 0 t)) (iblk m c 1 t) (y 0) (y 1)) := by
  rw [outsAt0_A m c t h (by omega) (by omega)]
  dsimp only
  rw [sum_A]
  exact pay1 _ _ y

theorem later (t : Fin cfg0.N) (h : t.val % 4 = 1 ∨ t.val % 4 = 2) (y : S1024x2048.Idx) :
    @Eq EReal ((outsAt0 m c t.val t.isLt).2 y)
      (@HAdd.hAdd EReal EReal EReal _ ((outsAt0 m c (t.val - 1) (Nat.lt_of_le_of_lt (Nat.sub_le _ _) t.isLt)).2 y) (dot (sq (iblk m c 0 t)) (iblk m c 1 t) (y 0) (y 1))) := by
  rw [outsAt0_B m c t (by omega) (by omega) (by omega)]
  dsimp only
  rw [sum_B]
  exact pay2 _ _ _ y

theorem last (t : Fin cfg0.N) (h : t.val % 4 = 3) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (dot (sq (iblk m c 0 t)) (iblk m c 1 t) (y 0) (y 1))) := by
  rw [outsAt0_C m c t (by omega) (by omega) h]
  dsimp only
  rw [out_C]
  exact (pay3 _ y).trans (pay2 _ _ _ y)

/-- The block the last point of run `p` writes. -/
theorem block (t : Fin cfg0.N) (p : ℕ) (hp : p < 4) (h : t.val = 4 * p + 3) (y : S1024x2048.Idx) :
    @Eq EReal ((outsAt0 m c t.val t.isLt).1 y)
      (∑ k, term m c ⟨p * 1024 + (y 0).val, by have : (y 0).val < 1024 := (y 0).isLt; omega⟩ (y 1) k) := by
  have ht := t.isLt
  have l2 : t.val - 1 < cfg0.N := by omega
  have l1 : t.val - 1 - 1 < cfg0.N := by omega
  have l0 : t.val - 1 - 1 - 1 < cfg0.N := by omega
  rw [sum_four]
  refine (last t (by omega) y).trans (add_eq ?_ (point t p 3 hp (by omega) h y))
  refine (later ⟨t.val - 1, l2⟩ (by dsimp only; omega) y).trans (add_eq ?_ (point ⟨t.val - 1, l2⟩ p 2 hp (by omega) (by dsimp only; omega) y))
  refine (later ⟨t.val - 1 - 1, l1⟩ (by dsimp only; omega) y).trans (add_eq ?_ (point ⟨t.val - 1 - 1, l1⟩ p 1 hp (by omega) (by dsimp only; omega) y))
  exact (first ⟨t.val - 1 - 1 - 1, l0⟩ (by dsimp only; omega) y).trans (point ⟨t.val - 1 - 1 - 1, l0⟩ p 0 hp (by omega) (by dsimp only; omega) y)

/-- The array after the run. -/
theorem final : (dats m 0 c).arrAt 2 (cfgs 0).N
    = down (m ((c : Thread nD τ).loc main_arg0)) (m ((c : Thread nD τ).loc main_arg1)) := by
  refine (dats m 0 c).arrAt_eq_of_covers 2 _ (by decide +kernel) fun t hf y => ?_
  blk_simp
  rw [after0_2]
  have h3 : t.val % 4 = 3 := (flush0_2 t).mp hf
  have ht := t_lt t
  refine (block t (t.val / 4) (by omega) (by omega) y).trans ?_
  have e0 : win0_2.index t 0 = t.val / 4 := by rw [idx2 t]; rfl
  have e1 : win0_2.index t 1 = 0 := by rw [idx2 t]; rfl
  have h0 : ((win0_2.blk t).view.emb y 0).val = t.val / 4 * 1024 + (y 0).val := by
    show win0_2.index t 0 * 1024 + 1 * (y 0).val = _
    rw [e0, Nat.one_mul]
  have h1 : ((win0_2.blk t).view.emb y 1).val = (y 1).val := by
    show win0_2.index t 1 * 2048 + 1 * (y 1).val = _
    rw [e1, Nat.one_mul, Nat.zero_mul, Nat.zero_add]
  unfold down dot
  refine Finset.sum_congr rfl fun k _ => ?_
  exact mul_eq (congrArg _ (congrArg (ix2 · k) (Fin.ext h0.symm))) (congrArg _ (congrArg (ix2 k ·) (Fin.ext h1.symm)))

end Cert.Kernel6Ideal.Ffn

namespace Cert.Reference6Ideal.Ffn

open Cert.Reference6Ideal Cert.Reference6Ideal.Gen
open _root_.Ffn

/-- The reference's entry. -/
theorem value (a : FVec Ideal S4096x8192 .bf16) (w : FVec Ideal S8192x2048 .bf16) :
    truncf .bf16 (Host.dotGeneral dot_S4096x8192_S8192x2048_S4096x2048_1_0_0_1_n_n none (mulf (extf .f32 a bitsLt_bf16_f32) (extf .f32 a bitsLt_bf16_f32)) (extf .f32 w bitsLt_bf16_f32)) bitsLt_bf16_f32
      = down a w := by
  funext j
  clean_types; pointwise
  rfl

end Cert.Reference6Ideal.Ffn

end
-- ==== Proof.Calls.lean ====
/- The claims about the six products of the layer with two weights: each call terminates, leaves its arguments and the counters
   as they were, and ends with the array its reference ends with. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Up
public import proofs.«01_k».proof.Proof.Da
public import proofs.«01_k».proof.Proof.Dw2
public import proofs.«01_k».proof.Proof.Dh
public import proofs.«01_k».proof.Proof.Dw1
public import proofs.«01_k».proof.Proof.Down
public import Idealize.ShloMosaic.Adequacy
public import Idealize.ShloMosaic.Init

@[expose] public section

set_option maxHeartbeats 8000000

noncomputable section

namespace Cert.Calls

open Idealize.ShloMosaic Idealize.SL.Sem Idealize.ShloMosaic.StableHlo

/-! The hidden rows. -/

theorem up_frame : Cert.quiescent_Kernel2 := fun m g _ => Cert.Kernel2.Gen.frame m g

theorem up_frame_ideal : Cert.quiescent_Kernel2Ideal := fun m g _ => Cert.Kernel2Ideal.Gen.frame m g

theorem up_frame_reference : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run m g)

theorem up_algebraic : Cert.algebraic_Kernel2Ideal_Reference2Ideal := by
  intro m g m' g' _ e
  exact ⟨fun c => Ffn.up (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun _ h c => ⟨(h c).1.trans Cert.Kernel2Ideal.Ffn.final, (h c).2⟩) (Cert.Kernel2Ideal.Value.run_blocks m g),
    (θ_run _ _ _).mono (fun _ h c => ⟨(h c).1.trans ((Cert.Reference2Ideal.Ffn.value _ _).trans (by rw [(e c).1, (e c).2])), (h c).2⟩)
      (Cert.Reference2Ideal.Value.run m' g')⟩

/-! The gradient of the rows before the relu. -/

theorem da_frame : Cert.quiescent_Kernel7 := fun m g _ => Cert.Kernel7.Gen.frame m g

theorem da_frame_ideal : Cert.quiescent_Kernel7Ideal := fun m g _ => Cert.Kernel7Ideal.Gen.frame m g

theorem da_frame_reference : Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run m g)

theorem da_algebraic : Cert.algebraic_Kernel7Ideal_Reference7Ideal := by
  intro m g m' g' _ e
  exact ⟨fun c => Ffn.da (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run _ _ _).mono (fun _ h c => ⟨(h c).1.trans Cert.Kernel7Ideal.Ffn.final, (h c).2⟩) (Cert.Kernel7Ideal.Value.run_blocks m g),
    (θ_run _ _ _).mono (fun _ h c => ⟨(h c).1.trans ((Cert.Reference7Ideal.Ffn.value _ _ _).trans (by rw [(e c).1, (e c).2.1, (e c).2.2])), (h c).2⟩)
      (Cert.Reference7Ideal.Value.run m' g')⟩

/-! The gradient of the second weights. -/

theorem dw2_frame : Cert.quiescent_Kernel3 := fun m g _ => Cert.Kernel3.Gen.frame m g

theorem dw2_frame_ideal : Cert.quiescent_Kernel3Ideal := fun m g _ => Cert.Kernel3Ideal.Gen.frame m g

theorem dw2_frame_reference : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run m g)

theorem dw2_algebraic : Cert.algebraic_Kernel3Ideal_Reference3Ideal := by
  intro m g m' g' _ e
  exact ⟨fun c => Ffn.dw2 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run _ _ _).mono (fun _ h c => ⟨(h c).1.trans Cert.Kernel3Ideal.Ffn.final, (h c).2⟩) (Cert.Kernel3Ideal.Value.run_blocks m g),
    (θ_run _ _ _).mono (fun _ h c => ⟨(h c).1.trans ((Cert.Reference3Ideal.Ffn.value _ _).trans (by rw [(e c).1, (e c).2])), (h c).2⟩)
      (Cert.Reference3Ideal.Value.run m' g')⟩

/-! The gradient of the hidden state. -/

theorem dh_frame : Cert.quiescent_Kernel4 := fun m g _ => Cert.Kernel4.Gen.frame m g

theorem dh_frame_ideal : Cert.quiescent_Kernel4Ideal := fun m g _ => Cert.Kernel4Ideal.Gen.frame m g

theorem dh_frame_reference : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run m g)

theorem dh_algebraic : Cert.algebraic_Kernel4Ideal_Reference4Ideal := by
  intro m g m' g' _ e
  exact ⟨fun c => Ffn.dh (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run _ _ _).mono (fun _ h c => ⟨(h c).1.trans Cert.Kernel4Ideal.Ffn.final, (h c).2⟩) (Cert.Kernel4Ideal.Value.run_blocks m g),
    (θ_run _ _ _).mono (fun _ h c => ⟨(h c).1.trans ((Cert.Reference4Ideal.Ffn.value _ _).trans (by rw [(e c).1, (e c).2])), (h c).2⟩)
      (Cert.Reference4Ideal.Value.run m' g')⟩

/-! The gradient of the first weights. -/

theorem dw1_frame : Cert.quiescent_Kernel5 := fun m g _ => Cert.Kernel5.Gen.frame m g

theorem dw1_frame_ideal : Cert.quiescent_Kernel5Ideal := fun m g _ => Cert.Kernel5Ideal.Gen.frame m g

theorem dw1_frame_reference : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run m g)

theorem dw1_algebraic : Cert.algebraic_Kernel5Ideal_Reference5Ideal := by
  intro m g m' g' _ e
  exact ⟨fun c => Ffn.dw1 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run _ _ _).mono (fun _ h c => ⟨(h c).1.trans Cert.Kernel5Ideal.Ffn.final, (h c).2⟩) (Cert.Kernel5Ideal.Value.run_blocks m g),
    (θ_run _ _ _).mono (fun _ h c => ⟨(h c).1.trans ((Cert.Reference5Ideal.Ffn.value _ _).trans (by rw [(e c).1, (e c).2])), (h c).2⟩)
      (Cert.Reference5Ideal.Value.run m' g')⟩

/-! The output. -/

theorem down_frame : Cert.quiescent_Kernel6 := fun m g _ => Cert.Kernel6.Gen.frame m g

theorem down_frame_ideal : Cert.quiescent_Kernel6Ideal := fun m g _ => Cert.Kernel6Ideal.Gen.frame m g

theorem down_frame_reference : Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Value.run m g)

theorem down_algebraic : Cert.algebraic_Kernel6Ideal_Reference6Ideal := by
  intro m g m' g' _ e
  exact ⟨fun c => Ffn.down (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run _ _ _).mono (fun _ h c => ⟨(h c).1.trans Cert.Kernel6Ideal.Ffn.final, (h c).2⟩) (Cert.Kernel6Ideal.Value.run_blocks m g),
    (θ_run _ _ _).mono (fun _ h c => ⟨(h c).1.trans ((Cert.Reference6Ideal.Ffn.value _ _).trans (by rw [(e c).1, (e c).2])), (h c).2⟩)
      (Cert.Reference6Ideal.Value.run m' g')⟩

end Cert.Calls

end
-- ==== Proof.Norm.lean ====
/- The backward pass of a root-mean-square norm, for one row: the kernel's closed form, the chain rule's, and that on
   reals they are the same; the gain's gradient, a sum over the rows, and how it is gathered from blocks of 256 rows. -/
module

public import proofs.«01_k».proof.Proof.Product

@[expose] public section

noncomputable section

namespace Norm

open Idealize.ShloMosaic
open _root_.Ffn

/-- A row's entries. -/
abbrev Row : Type := Fin 2048 → EReal

/-- Row `i` of an array. -/
def row {n : ℕ} (x : Arr n 2048) (i : Fin n) : Row := fun k => x (ix2 i k)

/-- The row's mean square with the norm's small constant added. -/
def meanSq (x : Row) : EReal := Ideal.div (∑ k, x k * x k) (Ideal.ofBits FTy.f32 1157627904#32) + Ideal.ofBits FTy.f32 897988541#32

/-- The row's scale. -/
def scale (x : Row) : EReal := Ideal.rsqrt (meanSq x)

/-- The row's gradient in the kernel's closed form: `e` is the gradient that reaches the row past the norm. -/
def closed (x g d : Row) (e : EReal) (j : Fin 2048) : EReal :=
  e + scale x * (d j * g j - x j * scale x * Ideal.div (∑ k, d k * g k * (x k * scale x)) (Ideal.ofBits FTy.f32 1157627904#32))

/-- The mean square's gradient, by the chain rule through the scale. -/
def slope (x g d : Row) : EReal :=
  ∑ _ : Fin 1, Ideal.div ((∑ k, x k * (d k * g k)) * (Ideal.ofBits FTy.f32 3204448256#32 * Ideal.div (scale x) (meanSq x))) (Ideal.ofBits FTy.f32 1157627904#32)

/-- The row's gradient by the chain rule: each of the square's two factors passes its part on. -/
def chain (x g d : Row) (e : EReal) (j : Fin 2048) : EReal :=
  e + d j * g j * scale x + x j * slope x g d + slope x g d * x j

/-- An entry of the gain's gradient: a sum over all rows. -/
def gainSum (x d : Arr 4096 2048) (j : Fin 2048) : EReal := ∑ i : Fin 4096, d (ix2 i j) * (x (ix2 i j) * scale (row x i))

theorem ofBits_width : Ideal.ofBits FTy.f32 1157627904#32 = ((2048 : ℝ) : EReal) := by
  simp [Ideal.ofBits, Ideal.ieee, -EReal.coe_mul]; norm_num

theorem ofBits_neg_half : Ideal.ofBits FTy.f32 3204448256#32 = ((-(1 / 2) : ℝ) : EReal) := by
  simp [Ideal.ofBits, Ideal.ieee, -EReal.coe_mul]; norm_num

/-- The small constant is a positive real. -/
theorem ofBits_eps : ∃ ε : ℝ, 0 < ε ∧ Ideal.ofBits FTy.f32 897988541#32 = (ε : EReal) := by
  refine ⟨(8796093 : ℝ) * (2 : ℝ) ^ (-43 : ℤ), by positivity, ?_⟩
  simp [Ideal.ofBits, Ideal.ieee, -EReal.coe_mul]

/-- A row of reals has a positive mean square, and its scale is the inverse square root. -/
theorem reals {x : Row} {a : Fin 2048 → ℝ} (h : ∀ k, x k = a k) : ∃ q : ℝ, 0 < q ∧ meanSq x = q ∧ scale x = ((√q)⁻¹ : ℝ) := by
  obtain ⟨ε, hε, e⟩ := ofBits_eps
  have hs : ∑ k, x k * x k = ((∑ k, a k * a k : ℝ) : EReal) := Dil.sum_real fun k => by rw [h k, EReal.coe_mul]
  have hq : 0 < (∑ k, a k * a k) / 2048 + ε := by
    have : 0 ≤ ∑ k, a k * a k := Finset.sum_nonneg fun k _ => mul_self_nonneg _
    positivity
  have hm : meanSq x = (((∑ k, a k * a k) / 2048 + ε : ℝ) : EReal) := by
    unfold meanSq
    rw [hs, e, ofBits_width, Dil.div_real (by norm_num), EReal.coe_add]
  refine ⟨_, hq, hm, ?_⟩
  unfold scale
  rw [hm, Ideal.rsqrt_coe, if_neg (not_lt.mpr hq.le), if_neg hq.ne']

/-- On reals the chain rule gives the closed form. -/
theorem chain_eq {x g d : Row} {a b c : Fin 2048 → ℝ} (hx : ∀ k, x k = a k) (hg : ∀ k, g k = b k) (hd : ∀ k, d k = c k)
    (e : EReal) (j : Fin 2048) : chain x g d e j = closed x g d e j := by
  obtain ⟨q, hq, hm, hr⟩ := reals hx
  have hs : (√q) ≠ 0 := (Real.sqrt_pos.mpr hq).ne'
  have hw : (2048 : ℝ) ≠ 0 := by norm_num
  have s1 : ∑ k, x k * (d k * g k) = ((∑ k, a k * (c k * b k) : ℝ) : EReal) :=
    Dil.sum_real fun k => by rw [hx k, hd k, hg k, EReal.coe_mul, EReal.coe_mul]
  have s2 : ∑ k, d k * g k * (x k * scale x) = (((∑ k, a k * (c k * b k)) * (√q)⁻¹ : ℝ) : EReal) := by
    rw [Finset.sum_mul]
    refine Dil.sum_real fun k => ?_
    rw [hx k, hd k, hg k, hr, ← EReal.coe_mul, ← EReal.coe_mul, ← EReal.coe_mul]
    exact congrArg _ (by ring)
  unfold chain closed slope
  rw [s1, s2, hm, hr, hx j, hg j, hd j, ofBits_width, ofBits_neg_half, Finset.sum_const, Finset.card_univ, Fintype.card_fin, one_smul,
    Dil.div_real hq.ne', Dil.div_real hw]
  rw [← EReal.coe_mul, ← EReal.coe_mul, ← EReal.coe_mul, ← EReal.coe_mul, Dil.div_real hw]
  simp only [← EReal.coe_mul, ← EReal.coe_sub, add_assoc, ← EReal.coe_add]
  refine congrArg (e + ·) (congrArg _ ?_)
  have h2 : √q * √q = q := Real.mul_self_sqrt hq.le
  generalize √q = r at hs h2 ⊢
  subst h2
  field_simp
  ring

/-- Run `i` of a sum cut into runs of 256 terms. -/
def run (f : ℕ → EReal) (i : ℕ) : EReal := ∑ k : Fin 256, f (i * 256 + k.val)

/-- Runs added one after another are the whole sum. -/
theorem sum_runs (f : ℕ → EReal) (n : ℕ) :
    ∑ k : Fin ((n + 1) * 256), f k.val = ∑ k : Fin (n * 256), f k.val + run f n := by
  rw [← Equiv.sum_comp (finCongr (show n * 256 + 256 = (n + 1) * 256 by omega)) fun k => f k.val, Fin.sum_univ_add]
  rfl

end Norm

end
-- ==== Proof.NormKer.lean ====
/- The backward pass of a root-mean-square norm on its rows, as the kernel computes it: blocks of 256 rows, one per grid
   point. Each point writes its rows' gradient, and adds its rows' part of the gain's gradient to a sum that the first
   point starts from zero and the last writes out. -/
module

public import proofs.«01_k».proof.Proof.Norm
public import proofs.«01_k».proof.Proof.Gen.Kernel8Ideal.Value
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel8Ideal.Norm

open Cert.Kernel8Ideal Cert.Kernel8Ideal.Gen
open _root_.Ffn _root_.Norm
open Idealize.ShloMosaic.Pipeline (Dat Window)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

theorem t_lt (t : Fin cfg0.N) : t.val < 16 := lt_of_lt_of_eq t.isLt N_0

theorem hz : (![0, 0] : Fin 2 → Nat) = fun _ => 0 := funext fun a => by fin_cases a <;> rfl

section Body

variable (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .bf16) (h3 : a3.IsWhole) (a4 : Memref sig .tc .vmem S256x2048 .f32) (h4 : a4.IsWhole)
    (a5 : Memref sig .tc .vmem S256x2048 .f32) (h5 : a5.IsWhole) (a6 : Memref sig .tc .vmem S1x2048 .f32) (h6 : a6.IsWhole)
    (x : Vec Ideal S256x2048 .f32) (g : Vec Ideal S1x2048 .f32) (d : Vec Ideal S256x2048 .bf16) (e : Vec Ideal S256x2048 .f32)

/-- The first point's rows' gradient. -/
theorem rows_A (hc : cond0_0 i) :
    out0_A_4 (F := Ideal) c i a1 h1 a2 h2 a3 h3 a4 h4 a5 h5 a6 h6 hc x g d e = k0_pay5 g x d e := by
  unfold out0_A_4
  rw [View.read_writes_eq_canon _ _ _ (cover0_A_4 c i a1 h1 a2 h2 a3 h3 a4 h4 a5 h5 a6 h6 hc x g d e)]
  unfold kernelRun0_A
  dsimp only
  rw [View.canon_unit_zero hz]
  simp only [View.readAt_eq_ld, h1.read_unread, h2.read_unread, h3.read_unread, h4.read_unread, View.ld_unit_zero (S := S256x2048) hz, View.ld_unit_zero (S := S1x2048) hz, shapeCast_self]

/-- The other points' rows' gradient. -/
theorem rows_B (hc : ¬cond0_0 i) (s : Vec Ideal S1x2048 .f32) :
    out0_B_4 (F := Ideal) c i a1 h1 a2 h2 a3 h3 a4 h4 a5 h5 a6 h6 hc x g d e s = k0_pay5 g x d e := by
  unfold out0_B_4
  rw [View.read_writes_eq_canon _ _ _ (cover0_B_4 c i a1 h1 a2 h2 a3 h3 a4 h4 a5 h5 a6 h6 hc x g d e s)]
  unfold kernelRun0_B
  dsimp only
  rw [View.canon_unit_zero hz]
  simp only [View.readAt_eq_ld, h1.read_unread, h2.read_unread, h3.read_unread, h4.read_unread, View.ld_unit_zero (S := S256x2048) hz, View.ld_unit_zero (S := S1x2048) hz, shapeCast_self]

/-- The first point leaves zero and its rows' part of the gain's gradient. -/
theorem gain_A (hc : cond0_0 i) :
    out0_A_5 (F := Ideal) c i a1 h1 a2 h2 a3 h3 a4 h4 a5 h5 a6 h6 hc x g d e = k0_pay1 (k0_pay6 x d) k0_pay7 := by
  unfold out0_A_5
  rw [View.read_writes_eq_canon _ _ _ (cover0_A_5 c i a1 h1 a2 h2 a3 h3 a4 h4 a5 h5 a6 h6 hc x g d e)]
  unfold kernelRun0_A
  dsimp only
  sl_unfold_words
  rw [View.canon_cons_unit_zero (S := S1x2048) hz, View.readCov_unit_zero (S := S1x2048) _ hz]
  unfold k0_pay8
  simp only [View.readAt_eq_ld, h1.read_unread, h3.read_unread, View.ld_unit_zero (S := S256x2048) hz, shapeCast_self]

/-- The other points add their rows' part. -/
theorem gain_B (hc : ¬cond0_0 i) (s : Vec Ideal S1x2048 .f32) :
    out0_B_5 (F := Ideal) c i a1 h1 a2 h2 a3 h3 a4 h4 a5 h5 a6 h6 hc x g d e s = k0_pay1 (k0_pay6 x d) s := by
  unfold out0_B_5
  rw [View.read_writes_eq_canon _ _ _ (cover0_B_5 c i a1 h1 a2 h2 a3 h3 a4 h4 a5 h5 a6 h6 hc x g d e s)]
  unfold kernelRun0_B
  dsimp only
  sl_unfold_words
  rw [View.canon_unit_zero hz]
  unfold k0_pay8
  simp only [View.readAt_eq_ld, h1.read_unread, h3.read_unread, h6.read_unread, View.ld_unit_zero (S := S256x2048) hz, View.ld_unit_zero (S := S1x2048) hz, shapeCast_self]

end Body

theorem pay5 (g : Vec Ideal S1x2048 .f32) (x : Vec Ideal S256x2048 .f32) (d : Vec Ideal S256x2048 .bf16) (e : Vec Ideal S256x2048 .f32) (y : S256x2048.Idx) :
    @Eq EReal (k0_pay5 (F := Ideal) g x d e y) (closed (row x (y 0)) (row g 0) (row d (y 0)) (e y) (y 1)) := by
  unfold k0_pay5 k0_pay4 k0_pay3 k0_pay2
  pointwise
  unfold closed scale meanSq row
  rw [← eq_ix2 y]

theorem pay6 (x : Vec Ideal S256x2048 .f32) (d : Vec Ideal S256x2048 .bf16) (y : S1x2048.Idx) :
    @Eq EReal (k0_pay6 (F := Ideal) x d y) (∑ k : Fin 256, row d k (y 1) * (row x k (y 1) * scale (row x k))) := by
  unfold k0_pay6 k0_pay4 k0_pay3 k0_pay2
  pointwise
  rfl

theorem pay1 (x s : Vec Ideal S1x2048 .f32) (y : S1x2048.Idx) :
    @Eq EReal (k0_pay1 (F := Ideal) x s y) (@HAdd.hAdd EReal EReal EReal _ (s y) (x y)) := by
  unfold k0_pay1
  pointwise

theorem pay7 (y : S1x2048.Idx) : @Eq EReal (k0_pay7 (F := Ideal) y) 0 := by
  unfold k0_pay7
  pointwise

variable {m : (ℓ : Loc nD τ sig) → Buf (Elt Ideal) ℓ} {c : Dev nD}

theorem blk0 (t : Fin cfg0.N) (a : Fin 256) (k : Fin 2048) :
    iblk m c 0 t (ix2 a k) = V m c main_arg0 (ix2 ⟨t.val * 256 + a.val, by have := t_lt t; omega⟩ k) := by
  blk_ext [iblk, idx0 t]

theorem blk1 (t : Fin cfg0.N) (k : Fin 2048) : iblk m c 1 t (ix2 0 k) = V m c main_arg1 (ix2 0 k) := by
  blk_ext [iblk, idx1 t]

theorem blk2 (t : Fin cfg0.N) (a : Fin 256) (k : Fin 2048) :
    iblk m c 2 t (ix2 a k) = V m c main_arg2 (ix2 ⟨t.val * 256 + a.val, by have := t_lt t; omega⟩ k) := by
  blk_ext [iblk, idx2 t]

theorem blk3 (t : Fin cfg0.N) (a : Fin 256) (k : Fin 2048) :
    iblk m c 3 t (ix2 a k) = V m c main_arg3 (ix2 ⟨t.val * 256 + a.val, by have := t_lt t; omega⟩ k) := by
  blk_ext [iblk, idx3 t]

theorem row0 (t : Fin cfg0.N) (a : Fin 256) (i : Fin 4096) (h : i.val = t.val * 256 + a.val) :
    row (iblk m c 0 t) a = row (m ((c : Thread nD τ).loc main_arg0)) i :=
  funext fun k => (blk0 t a k).trans (by rw [V_main_arg0]; exact congrArg _ (congrArg (ix2 · k) (Fin.ext h.symm)))

theorem row1 (t : Fin cfg0.N) : row (n := 1) (iblk m c 1 t) 0 = row (m ((c : Thread nD τ).loc main_arg1)) 0 :=
  funext fun k => (blk1 t k).trans (by rw [V_main_arg1]; rfl)

theorem row2 (t : Fin cfg0.N) (a : Fin 256) (i : Fin 4096) (h : i.val = t.val * 256 + a.val) :
    row (iblk m c 2 t) a = row (m ((c : Thread nD τ).loc main_arg2)) i :=
  funext fun k => (blk2 t a k).trans (by rw [V_main_arg2]; exact congrArg _ (congrArg (ix2 · k) (Fin.ext h.symm)))

theorem row3 (t : Fin cfg0.N) (a : Fin 256) (i : Fin 4096) (h : i.val = t.val * 256 + a.val) :
    row (iblk m c 3 t) a = row (m ((c : Thread nD τ).loc main_arg3)) i :=
  funext fun k => (blk3 t a k).trans (by rw [V_main_arg3]; exact congrArg _ (congrArg (ix2 · k) (Fin.ext h.symm)))

/-! ## The rows' gradient -/

/-- What a point leaves in its block of the rows' gradient. -/
theorem rows_at (t : Fin cfg0.N) :
    (outsAt0 m c t.val t.isLt).1 = k0_pay5 (iblk m c 1 t) (iblk m c 0 t) (iblk m c 2 t) (iblk m c 3 t) := by
  by_cases h : t.val % 16 = 0
  · rw [outsAt0_A m c t h]
    dsimp only
    rw [rows_A]
  · rw [outsAt0_B m c t h]
    dsimp only
    rw [rows_B]

/-- The array of rows' gradients. -/
def grads (x : Arr 4096 2048) (g : Arr 1 2048) (d e : Arr 4096 2048) : Arr 4096 2048 :=
  fun j => closed (row x (j 0)) (row g 0) (row d (j 0)) (row e (j 0) (j 1)) (j 1)

/-- The rows' gradient after the run. -/
theorem final4 : (dats m 0 c).arrAt 4 (cfgs 0).N
    = grads (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, rows_at t]
  refine (pay5 _ _ _ _ y).trans ?_
  have e0 : win0_4.index t 0 = t.val := by rw [idx4 t]; rfl
  have e1 : win0_4.index t 1 = 0 := by rw [idx4 t]; rfl
  have h0 : ((win0_4.blk t).view.emb y 0).val = t.val * 256 + (y 0).val := by
    show win0_4.index t 0 * 256 + 1 * (y 0).val = _
    rw [e0, Nat.one_mul]
  have h1 : (win0_4.blk t).view.emb y 1 = y 1 := Fin.ext (by
    show win0_4.index t 1 * 2048 + 1 * (y 1).val = _
    rw [e1]; omega)
  unfold grads
  rw [row0 t (y 0) ((win0_4.blk t).view.emb y 0) h0, row1 t, row2 t (y 0) ((win0_4.blk t).view.emb y 0) h0,
    ← row3 t (y 0) ((win0_4.blk t).view.emb y 0) h0, h1]
  exact congrArg (closed _ _ _ · _) (congrArg _ (eq_ix2 y))

/-! ## The gain's gradient -/

/-- The terms of entry `j` of the gain's gradient, row by row; none past the array. -/
def term (x d : Arr 4096 2048) (j : Fin 2048) (i : ℕ) : EReal :=
  if h : i < 4096 then d (ix2 ⟨i, h⟩ j) * (x (ix2 ⟨i, h⟩ j) * scale (row x ⟨i, h⟩)) else 0

theorem gain_eq (x d : Arr 4096 2048) (j : Fin 2048) (n : ℕ) (h : n = 15) :
    ∑ i : Fin ((n + 1) * 256), term x d j i.val = gainSum x d j := by
  subst h
  refine Finset.sum_congr rfl fun i _ => ?_
  unfold term
  rw [dif_pos (show i.val < 4096 from i.isLt)]

/-- A point's part. -/
theorem part_at (t : Fin cfg0.N) (y : S1x2048.Idx) :
    @Eq EReal (k0_pay6 (F := Ideal) (iblk m c 0 t) (iblk m c 2 t) y)
      (run (term (m ((c : Thread nD τ).loc main_arg0)) (m ((c : Thread nD τ).loc main_arg2)) (y 1)) t.val) := by
  refine (pay6 _ _ y).trans (Finset.sum_congr rfl fun k _ => ?_)
  have hk : t.val * 256 + k.val < 4096 := by have := t_lt t; omega
  rw [row0 t k ⟨_, hk⟩ rfl, row2 t k ⟨_, hk⟩ rfl]
  unfold term
  rw [dif_pos hk]
  rfl

/-- After point `n` the sum holds the first `n + 1` blocks' rows. -/
theorem gain_at (y : S1x2048.Idx) : ∀ (n : ℕ) (h : n < cfg0.N),
    @Eq EReal ((outsAt0 m c n h).2 y)
      (∑ i : Fin ((n + 1) * 256), term (m ((c : Thread nD τ).loc main_arg0)) (m ((c : Thread nD τ).loc main_arg2)) (y 1) i.val)
  | 0, h => by
    rw [outsAt0_A m c ⟨0, h⟩ rfl]
    dsimp only
    rw [gain_A]
    refine (pay1 _ _ y).trans ?_
    rw [sum_runs]
    refine add_eq ((pay7 y).trans ?_) (part_at ⟨0, h⟩ y)
    exact (Fin.sum_univ_zero fun i : Fin 0 => term (m ((c : Thread nD τ).loc main_arg0)) (m ((c : Thread nD τ).loc main_arg2)) (y 1) i.val).symm
  | n + 1, h => by
    have hN : n + 1 < 16 := lt_of_lt_of_eq h N_0
    rw [outsAt0_B m c ⟨n + 1, h⟩ (by dsimp only; omega)]
    dsimp only
    rw [gain_B]
    refine (pay1 _ _ y).trans ?_
    rw [sum_runs]
    exact add_eq (gain_at y n (Nat.lt_of_succ_lt h)) (part_at ⟨n + 1, h⟩ y)

/-- After the last point it holds all rows. -/
theorem gain_last (t : Fin cfg0.N) (h : t.val = 15) (y : S1x2048.Idx) :
    @Eq EReal ((outsAt0 m c t.val t.isLt).2 y) (gainSum (m ((c : Thread nD τ).loc main_arg0)) (m ((c : Thread nD τ).loc main_arg2)) (y 1)) := by
  exact (gain_at y t.val t.isLt).trans (gain_eq _ _ _ _ h)

/-- The gain's gradient as an array of one row. -/
def gains (x d : Arr 4096 2048) : Arr 1 2048 := fun j => gainSum x d (j 1)

/-- The gain's gradient after the run. -/
theorem final5 : (dats m 0 c).arrAt 5 (cfgs 0).N = gains (m ((c : Thread nD τ).loc main_arg0)) (m ((c : Thread nD τ).loc main_arg2)) := by
  refine (dats m 0 c).arrAt_eq_of_covers 5 _ (by decide +kernel) fun t hf y => ?_
  blk_simp
  rw [after0_5]
  have h15 : t.val = 15 := by have := (flush0_5 t).mp hf; have := t_lt t; omega
  refine (gain_last t h15 y).trans ?_
  have e1 : win0_5.index t 1 = 0 := by rw [idx5 t]; rfl
  have h1 : (win0_5.blk t).view.emb y 1 = y 1 := Fin.ext (by
    show win0_5.index t 1 * 2048 + 1 * (y 1).val = _
    rw [e1]; omega)
  unfold gains
  rw [h1]

end Cert.Kernel8Ideal.Norm

end
-- ==== Proof.NormRef.lean ====
/- The reference's two results, entry by entry. -/
module

public import proofs.«01_k».proof.Proof.Norm
public import proofs.«01_k».proof.Proof.Gen.Reference8Ideal.Run
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Reference8Ideal.Norm

open Cert.Reference8Ideal Cert.Reference8Ideal.Gen
open _root_.Ffn _root_.Norm

variable (x : FVec Ideal S4096x2048 .f32) (g : FVec Ideal S1x2048 .f32) (d : FVec Ideal S4096x2048 .bf16) (e : FVec Ideal S4096x2048 .f32)

/-- The rows' gradient is the chain rule's. -/
theorem rows (i : Fin 4096) (j : Fin 2048) : @Eq EReal ((addf (addf (addf e (mulf (mulf (extf .f32 d bitsLt_bf16_f32) (broadcastInDim S4096x2048 ![0, 1] bcast_S1x2048_S4096x2048_0_1 g)) (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))) (mulf x (broadcastInDim S4096x2048 ![0] bcast_S4096_S4096x2048_0 (Host.reduceAdd (Host.divf (mulf (shapeCast _ (Host.reduceAdd (mulf x (mulf (extf .f32 d bitsLt_bf16_f32) (broadcastInDim S4096x2048 ![0, 1] bcast_S1x2048_S4096x2048_0_1 g))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x (mulf (extf .f32 d bitsLt_bf16_f32) (broadcastInDim S4096x2048 ![0, 1] bcast_S1x2048_S4096x2048_0_1 g))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x)) (ix2 i j))
      (chain (row x i) (row g 0) (row d i) (e (ix2 i j)) j) := by
  clean_types; pointwise
  rfl

/-- The gain's gradient: the same terms, each product taken in the other order. -/
theorem gain (i : Fin 1) (j : Fin 2048) : @Eq EReal ((shapeCast _ (Host.reduceAdd (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (extf .f32 d bitsLt_bf16_f32)) (constant S_ .f32 0x00000000#32) reducesTo_S4096x2048_S2048_d0 h_S_) shapeCasts_S2048_S1x2048 : FVec Ideal S1x2048 .f32) (ix2 i j))
      (gainSum x d j) := by
  clean_types; pointwise
  unfold gainSum
  exact Finset.sum_congr rfl fun k _ => mul_comm _ _

end Cert.Reference8Ideal.Norm

end
-- ==== Proof.NormCall.lean ====
/- The first norm's backward pass: on finite arguments the kernel's closed form and the chain rule give the same rows'
   gradient, and on any arguments the same gradient of the gain. -/
module

public import proofs.«01_k».proof.Proof.Finite
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.NormKer
public import proofs.«01_k».proof.Proof.NormRef
public import Idealize.ShloMosaic.Adequacy
public import Idealize.ShloMosaic.Init

@[expose] public section

set_option maxHeartbeats 8000000

noncomputable section

namespace Cert.NormCall

open Idealize.ShloMosaic Idealize.SL.Sem Idealize.ShloMosaic.StableHlo

/-- The relations the printed precondition's broadcasts take. -/
theorem facts : Cert.Pre_finite_norm.Facts where
  bcast_S_S4096x2048 := by decide
  bcast_S_S1x2048 := by decide

attribute [local instance] facts

section
variable (x : FVec Ideal Cert.Pre_finite_norm.S4096x2048 .f32) (g : FVec Ideal Cert.Pre_finite_norm.S1x2048 .f32)
  (d : FVec Ideal Cert.Pre_finite_norm.S4096x2048 .bf16) (e : FVec Ideal Cert.Pre_finite_norm.S4096x2048 .f32)

theorem real0 (h : (Cert.Pre_finite_norm.fn (F := Ideal) x g d e).1 = fun _ => 1#1) (i : Cert.Pre_finite_norm.S4096x2048.Idx) :
    @Eq EReal (x i) ((EReal.toReal (x i) : ℝ) : EReal) := Cert.Finite.real_of Cert.Finite.f32_bot Cert.Finite.f32_top (congrFun h i)
theorem real1 (h : (Cert.Pre_finite_norm.fn (F := Ideal) x g d e).2.1 = fun _ => 1#1) (i : Cert.Pre_finite_norm.S1x2048.Idx) :
    @Eq EReal (g i) ((EReal.toReal (g i) : ℝ) : EReal) := Cert.Finite.real_of Cert.Finite.f32_bot Cert.Finite.f32_top (congrFun h i)
theorem real2 (h : (Cert.Pre_finite_norm.fn (F := Ideal) x g d e).2.2 = fun _ => 1#1) (i : Cert.Pre_finite_norm.S4096x2048.Idx) :
    @Eq EReal (d i) ((EReal.toReal (d i) : ℝ) : EReal) := Cert.Finite.real_of Cert.Finite.bf16_bot Cert.Finite.bf16_top (congrFun h i)

/-- On finite arguments the chain rule's array is the kernel's. -/
theorem grads_eq (h0 : (Cert.Pre_finite_norm.fn (F := Ideal) x g d e).1 = fun _ => 1#1) (h1 : (Cert.Pre_finite_norm.fn (F := Ideal) x g d e).2.1 = fun _ => 1#1)
    (h2 : (Cert.Pre_finite_norm.fn (F := Ideal) x g d e).2.2 = fun _ => 1#1) (i : Fin 4096) (j : Fin 2048) :
    _root_.Norm.chain (_root_.Norm.row x i) (_root_.Norm.row g 0) (_root_.Norm.row d i) (e (ix2 i j)) j
      = Cert.Kernel8Ideal.Norm.grads x g d e (ix2 i j) :=
  _root_.Norm.chain_eq (fun k => real0 x g d e h0 (ix2 i k)) (fun k => real1 x g d e h1 (ix2 0 k)) (fun k => real2 x g d e h2 (ix2 i k)) _ _
end

theorem frame : Cert.quiescent_Kernel8 := fun m g _ => Cert.Kernel8.Gen.frame m g

theorem frame_ideal : Cert.quiescent_Kernel8Ideal := fun m g _ => Cert.Kernel8Ideal.Gen.frame m g

theorem frame_ideal_finite : Cert.quiescent_Kernel8Ideal_pre_finite_norm := fun m g _ => Cert.Kernel8Ideal.Gen.frame m g

theorem frame_reference : Cert.quiescent_Reference8Ideal := fun m g _ =>
  (θ_run Cert.Reference8Ideal.defs _ _).mono (fun r h => ⟨fun c => (h c).2.2, Idealize.ShloMosaic.sem_eq_zero_of_no_sems (by decide) r.2⟩)
    (Cert.Reference8Ideal.Value.run m g)

theorem frame_reference_finite : Cert.quiescent_Reference8Ideal_pre_finite_norm := fun m g _ => frame_reference m g trivial

theorem algebraic : Cert.algebraic_Kernel8Ideal_Reference8Ideal_pre_finite_norm := by
  intro m g m' g' h e
  refine ⟨fun c => Cert.Kernel8Ideal.Norm.grads (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    fun c => Cert.Kernel8Ideal.Norm.gains (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg2)),
    (θ_run _ _ _).mono (fun _ h c => ⟨(h c).1.trans Cert.Kernel8Ideal.Norm.final4, (h c).2.1.trans Cert.Kernel8Ideal.Norm.final5, (h c).2.2⟩) (Cert.Kernel8Ideal.Value.run_blocks m g),
    (θ_run _ _ _).mono (fun _ r c => ⟨(r c).1.trans (funext fun j => ?_), (r c).2.1.trans (funext fun j => ?_), (r c).2.2⟩) (Cert.Reference8Ideal.Value.run m' g')⟩
  · obtain ⟨h0, h1, h2⟩ := h c
    obtain ⟨e0, e1, e2, e3⟩ := e c
    rw [eq_ix2 j]
    refine (Cert.Reference8Ideal.Norm.rows _ _ _ _ _ _).trans ?_
    rw [e0, e1, e2, e3]
    exact grads_eq _ _ _ _ h0 h1 h2 _ _
  · obtain ⟨e0, e1, e2, e3⟩ := e c
    rw [eq_ix2 j]
    refine (Cert.Reference8Ideal.Norm.gain _ _ _ _).trans ?_
    rw [e0, e2]
    rfl

end Cert.NormCall

end
-- ==== Proof.Adam.lean ====
/- One entry of an AdamW step: the two running moments and the change of the weight, from the weight, its gradient and the
   two moments before the step. -/
module

public import proofs.«01_k».proof.Proof.Product

@[expose] public section

noncomputable section

namespace Adam

open Idealize.ShloMosaic

/-- The running mean of the gradient after the step. -/
def mean (g m : EReal) : EReal := Ideal.ofBits FTy.f32 0x3F666666#32 * m + Ideal.ofBits FTy.f32 0x3DCCCCCD#32 * g

/-- The running mean of the gradient's square after the step. -/
def square (g v : EReal) : EReal := Ideal.ofBits FTy.f32 0x3F7FBE77#32 * v + Ideal.ofBits FTy.f32 0x3A83126F#32 * (g * g)

/-- The weight's change: the corrected mean over the corrected square's root, and the weight's decay. -/
def change (w g m v : EReal) : EReal :=
  Ideal.ofBits FTy.f32 0xBA83126F#32 *
    (Ideal.div (Ideal.div (mean g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

end Adam

end
-- ==== Proof.Step9.lean ====
/- The AdamW step on weights of 1 layer of 2048 rows and 1280 columns, entry by entry. -/
module

public import proofs.«01_k».proof.Proof.Adam
public import proofs.«01_k».proof.Proof.Gen.Kernel9Ideal.Value
public import proofs.«01_k».proof.Proof.Gen.Reference9Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel9Ideal.Step

open Cert.Kernel9Ideal Cert.Kernel9Ideal.Gen
open Idealize.ShloMosaic.Pipeline (Dat Window)

/-- All eight arrays are cut alike. -/
theorem idx : ∀ t : Fin cfg0.N, (win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0])
    ∧ win0_4.index t = ![(grid0.coords t 0).val, (grid0.coords t 1).val, 0] ∧ win0_5.index t = ![(grid0.coords t 0).val, (grid0.coords t 1).val, 0]
    ∧ win0_6.index t = ![(grid0.coords t 0).val, (grid0.coords t 1).val, 0] ∧ win0_7.index t = ![(grid0.coords t 0).val, (grid0.coords t 1).val, 0] :=
  (by decide +kernel : ∀ t : Fin grid0.N, _)

theorem i_lt (t : Fin cfg0.N) : (grid0.coords t 0).val < 1 := (grid0.coords t 0).isLt
theorem j_lt (t : Fin cfg0.N) : (grid0.coords t 1).val < 8 := (grid0.coords t 1).isLt

theorem hz : (![0, 0, 0] : Fin 3 → Nat) = fun _ => 0 := funext fun a => by fin_cases a <;> rfl

/-- The array index under index `y` of point `t`'s block. -/
def under (t : Fin cfg0.N) (y : S1x256x1280.Idx) : S1x2048x1280.Idx :=
  ix3 ⟨(grid0.coords t 0).val, i_lt t⟩ ⟨(grid0.coords t 1).val * 256 + (y 1).val, by have := j_lt t; have h : (y 1).val < 256 := (y 1).isLt; omega⟩ (y 2)

variable {m : (ℓ : Loc nD τ sig) → Buf (Elt Ideal) ℓ} {c : Dev nD}

theorem blk0 (t : Fin cfg0.N) (y : S1x256x1280.Idx) : iblk m c 0 t y = V m c main_arg0 (under t y) := by
  blk_ext [iblk, (idx t).1.1] <;> rfl
theorem blk1 (t : Fin cfg0.N) (y : S1x256x1280.Idx) : iblk m c 1 t y = V m c main_arg1 (under t y) := by
  blk_ext [iblk, (idx t).1.2.1] <;> rfl
theorem blk2 (t : Fin cfg0.N) (y : S1x256x1280.Idx) : iblk m c 2 t y = V m c main_arg2 (under t y) := by
  blk_ext [iblk, (idx t).1.2.2.1] <;> rfl
theorem blk3 (t : Fin cfg0.N) (y : S1x256x1280.Idx) : iblk m c 3 t y = V m c main_arg3 (under t y) := by
  blk_ext [iblk, (idx t).1.2.2.2] <;> rfl

section Block

variable (w g m v : Vec Ideal S1x256x1280 .f32) (y : S1x256x1280.Idx)

theorem block4 : @Eq EReal (out0_4 (F := Ideal) w g m v y) (g y) := by
  unfold out0_4
  rw [View.canon_unit_zero hz, View.ld_unit_zero (S := S1x256x1280) hz]
  unfold k0_pay5 k0_pay4
  pointwise

theorem block6 : @Eq EReal (out0_6 (F := Ideal) w g m v y) (Adam.mean (g y) (m y)) := by
  unfold out0_6
  rw [View.canon_unit_zero hz, View.ld_unit_zero (S := S1x256x1280) hz, View.ld_unit_zero (S := S1x256x1280) hz]
  unfold k0_pay2 k0_pay6 k0_pay4
  pointwise
  rfl

theorem block7 : @Eq EReal (out0_7 (F := Ideal) w g m v y) (Adam.square (g y) (v y)) := by
  unfold out0_7
  rw [View.canon_unit_zero hz, View.ld_unit_zero (S := S1x256x1280) hz, View.ld_unit_zero (S := S1x256x1280) hz]
  unfold k0_pay3 k0_pay7 k0_pay4
  pointwise
  rfl

theorem block5 : @Eq EReal (out0_5 (F := Ideal) w g m v y) (Adam.change (w y) (g y) (m y) (v y)) := by
  unfold out0_5
  rw [View.canon_unit_zero hz, View.ld_unit_zero (S := S1x256x1280) hz, View.ld_unit_zero (S := S1x256x1280) hz, View.ld_unit_zero (S := S1x256x1280) hz, View.ld_unit_zero (S := S1x256x1280) hz]
  unfold k0_pay1 k0_pay8 k0_pay7 k0_pay6 k0_pay4
  pointwise
  rfl

end Block

/-- An index map that cuts this way takes `y` to the index under it. -/
theorem under_val (t : Fin cfg0.N) (y : S1x256x1280.Idx) (p : Fin 3 → Nat) (h : p = ![(grid0.coords t 0).val, (grid0.coords t 1).val, 0]) (a : Fin 3) :
    (under t y a).val = p a * S1x256x1280.size a + 1 * (y a).val := by
  subst h
  fin_cases a
  · show (grid0.coords t 0).val = (grid0.coords t 0).val * 1 + 1 * (y 0).val
    have h : (y 0).val < 1 := (y 0).isLt
    omega
  · exact congrArg ((grid0.coords t 1).val * 256 + ·) (Nat.one_mul (y 1).val).symm
  · show (y 2).val = 0 * 1280 + 1 * (y 2).val
    omega

/-- The gradient, copied. -/
theorem final4 : (dats m 0 c).arrAt 4 (cfgs 0).N = fun j => m ((c : Thread nD τ).loc main_arg1) j := by
  refine (dats m 0 c).arrAt_eq_of_covers 4 _ (by decide +kernel) fun t _ y => ?_
  blk_simp
  have h : under t y = (win0_4.blk t).view.emb y := funext fun a => Fin.ext (under_val t y _ (idx t).2.1 a)
  rw [after0_4]
  refine (block4 _ _ _ _ y).trans ?_
  rw [blk1, V_main_arg1, h]

/-- The weights' change. -/
theorem final5 : (dats m 0 c).arrAt 5 (cfgs 0).N = fun j => Adam.change (m ((c : Thread nD τ).loc main_arg0) j) (m ((c : Thread nD τ).loc main_arg1) j) (m ((c : Thread nD τ).loc main_arg2) j) (m ((c : Thread nD τ).loc main_arg3) j) := by
  refine (dats m 0 c).arrAt_eq_of_covers 5 _ (by decide +kernel) fun t _ y => ?_
  blk_simp
  have h : under t y = (win0_5.blk t).view.emb y := funext fun a => Fin.ext (under_val t y _ (idx t).2.2.1 a)
  rw [after0_5]
  refine (block5 _ _ _ _ y).trans ?_
  rw [blk0, blk1, blk2, blk3, V_main_arg0, V_main_arg1, V_main_arg2, V_main_arg3, h]

/-- The new running means. -/
theorem final6 : (dats m 0 c).arrAt 6 (cfgs 0).N = fun j => Adam.mean (m ((c : Thread nD τ).loc main_arg1) j) (m ((c : Thread nD τ).loc main_arg2) j) := by
  refine (dats m 0 c).arrAt_eq_of_covers 6 _ (by decide +kernel) fun t _ y => ?_
  blk_simp
  have h : under t y = (win0_6.blk t).view.emb y := funext fun a => Fin.ext (under_val t y _ (idx t).2.2.2.1 a)
  rw [after0_6]
  refine (block6 _ _ _ _ y).trans ?_
  rw [blk1, blk2, V_main_arg1, V_main_arg2, h]

/-- The new running squares. -/
theorem final7 : (dats m 0 c).arrAt 7 (cfgs 0).N = fun j => Adam.square (m ((c : Thread nD τ).loc main_arg1) j) (m ((c : Thread nD τ).loc main_arg3) j) := by
  refine (dats m 0 c).arrAt_eq_of_covers 7 _ (by decide +kernel) fun t _ y => ?_
  blk_simp
  have h : under t y = (win0_7.blk t).view.emb y := funext fun a => Fin.ext (under_val t y _ (idx t).2.2.2.2 a)
  rw [after0_7]
  refine (block7 _ _ _ _ y).trans ?_
  rw [blk1, blk3, V_main_arg1, V_main_arg3, h]

end Cert.Kernel9Ideal.Step

namespace Cert.Reference9Ideal.Step

open Cert.Reference9Ideal Cert.Reference9Ideal.Gen

variable (w g p v : FVec Ideal S1x2048x1280 .f32) (j : S1x2048x1280.Idx)

theorem mean : @Eq EReal ((addf (mulf (broadcastInDim S1x2048x1280 ![] bcast_S_S1x2048x1280 (constant S_ .f32 0x3F666666#32)) p) (mulf (broadcastInDim S1x2048x1280 ![] bcast_S_S1x2048x1280 (constant S_ .f32 0x3DCCCCCD#32)) g)) j) (Adam.mean (g j) (p j)) := by
  clean_types; pointwise
  rfl

theorem square : @Eq EReal ((addf (mulf (broadcastInDim S1x2048x1280 ![] bcast_S_S1x2048x1280 (constant S_ .f32 0x3F7FBE77#32)) v) (mulf (broadcastInDim S1x2048x1280 ![] bcast_S_S1x2048x1280 (constant S_ .f32 0x3A83126F#32)) (mulf g g))) j) (Adam.square (g j) (v j)) := by
  clean_types; pointwise
  rfl

theorem change : @Eq EReal ((mulf (broadcastInDim S1x2048x1280 ![] bcast_S_S1x2048x1280 (constant S_ .f32 0xBA83126F#32)) (addf (Host.divf (Host.divf (addf (mulf (broadcastInDim S1x2048x1280 ![] bcast_S_S1x2048x1280 (constant S_ .f32 0x3F666666#32)) p) (mulf (broadcastInDim S1x2048x1280 ![] bcast_S_S1x2048x1280 (constant S_ .f32 0x3DCCCCCD#32)) g)) (broadcastInDim S1x2048x1280 ![] bcast_S_S1x2048x1280 (constant S_ .f32 0x3F26BD02#32))) (addf (Host.sqrt (Host.divf (addf (mulf (broadcastInDim S1x2048x1280 ![] bcast_S_S1x2048x1280 (constant S_ .f32 0x3F7FBE77#32)) v) (mulf (broadcastInDim S1x2048x1280 ![] bcast_S_S1x2048x1280 (constant S_ .f32 0x3A83126F#32)) (mulf g g))) (broadcastInDim S1x2048x1280 ![] bcast_S_S1x2048x1280 (constant S_ .f32 0x3C231ACC#32)))) (broadcastInDim S1x2048x1280 ![] bcast_S_S1x2048x1280 (constant S_ .f32 0x322BCC77#32)))) (mulf (broadcastInDim S1x2048x1280 ![] bcast_S_S1x2048x1280 (constant S_ .f32 0x3C23D70A#32)) w))) j) (Adam.change (w j) (g j) (p j) (v j)) := by
  clean_types; pointwise
  rfl

end Cert.Reference9Ideal.Step

end
-- ==== Proof.Step10.lean ====
/- The AdamW step on weights of 1 layer of 512 rows and 2048 columns, entry by entry. -/
module

public import proofs.«01_k».proof.Proof.Adam
public import proofs.«01_k».proof.Proof.Gen.Kernel10Ideal.Value
public import proofs.«01_k».proof.Proof.Gen.Reference10Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel10Ideal.Step

open Cert.Kernel10Ideal Cert.Kernel10Ideal.Gen
open Idealize.ShloMosaic.Pipeline (Dat Window)

/-- All eight arrays are cut alike. -/
theorem idx : ∀ t : Fin cfg0.N, (win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0])
    ∧ win0_4.index t = ![(grid0.coords t 0).val, (grid0.coords t 1).val, 0] ∧ win0_5.index t = ![(grid0.coords t 0).val, (grid0.coords t 1).val, 0]
    ∧ win0_6.index t = ![(grid0.coords t 0).val, (grid0.coords t 1).val, 0] ∧ win0_7.index t = ![(grid0.coords t 0).val, (grid0.coords t 1).val, 0] :=
  (by decide +kernel : ∀ t : Fin grid0.N, _)

theorem i_lt (t : Fin cfg0.N) : (grid0.coords t 0).val < 1 := (grid0.coords t 0).isLt
theorem j_lt (t : Fin cfg0.N) : (grid0.coords t 1).val < 2 := (grid0.coords t 1).isLt

theorem hz : (![0, 0, 0] : Fin 3 → Nat) = fun _ => 0 := funext fun a => by fin_cases a <;> rfl

/-- The array index under index `y` of point `t`'s block. -/
def under (t : Fin cfg0.N) (y : S1x256x2048.Idx) : S1x512x2048.Idx :=
  ix3 ⟨(grid0.coords t 0).val, i_lt t⟩ ⟨(grid0.coords t 1).val * 256 + (y 1).val, by have := j_lt t; have h : (y 1).val < 256 := (y 1).isLt; omega⟩ (y 2)

variable {m : (ℓ : Loc nD τ sig) → Buf (Elt Ideal) ℓ} {c : Dev nD}

theorem blk0 (t : Fin cfg0.N) (y : S1x256x2048.Idx) : iblk m c 0 t y = V m c main_arg0 (under t y) := by
  blk_ext [iblk, (idx t).1.1] <;> rfl
theorem blk1 (t : Fin cfg0.N) (y : S1x256x2048.Idx) : iblk m c 1 t y = V m c main_arg1 (under t y) := by
  blk_ext [iblk, (idx t).1.2.1] <;> rfl
theorem blk2 (t : Fin cfg0.N) (y : S1x256x2048.Idx) : iblk m c 2 t y = V m c main_arg2 (under t y) := by
  blk_ext [iblk, (idx t).1.2.2.1] <;> rfl
theorem blk3 (t : Fin cfg0.N) (y : S1x256x2048.Idx) : iblk m c 3 t y = V m c main_arg3 (under t y) := by
  blk_ext [iblk, (idx t).1.2.2.2] <;> rfl

section Block

variable (w g m v : Vec Ideal S1x256x2048 .f32) (y : S1x256x2048.Idx)

theorem block4 : @Eq EReal (out0_4 (F := Ideal) w g m v y) (g y) := by
  unfold out0_4
  rw [View.canon_unit_zero hz, View.ld_unit_zero (S := S1x256x2048) hz]
  unfold k0_pay5 k0_pay4
  pointwise

theorem block6 : @Eq EReal (out0_6 (F := Ideal) w g m v y) (Adam.mean (g y) (m y)) := by
  unfold out0_6
  rw [View.canon_unit_zero hz, View.ld_unit_zero (S := S1x256x2048) hz, View.ld_unit_zero (S := S1x256x2048) hz]
  unfold k0_pay2 k0_pay6 k0_pay4
  pointwise
  rfl

theorem block7 : @Eq EReal (out0_7 (F := Ideal) w g m v y) (Adam.square (g y) (v y)) := by
  unfold out0_7
  rw [View.canon_unit_zero hz, View.ld_unit_zero (S := S1x256x2048) hz, View.ld_unit_zero (S := S1x256x2048) hz]
  unfold k0_pay3 k0_pay7 k0_pay4
  pointwise
  rfl

theorem block5 : @Eq EReal (out0_5 (F := Ideal) w g m v y) (Adam.change (w y) (g y) (m y) (v y)) := by
  unfold out0_5
  rw [View.canon_unit_zero hz, View.ld_unit_zero (S := S1x256x2048) hz, View.ld_unit_zero (S := S1x256x2048) hz, View.ld_unit_zero (S := S1x256x2048) hz, View.ld_unit_zero (S := S1x256x2048) hz]
  unfold k0_pay1 k0_pay8 k0_pay7 k0_pay6 k0_pay4
  pointwise
  rfl

end Block

/-- An index map that cuts this way takes `y` to the index under it. -/
theorem under_val (t : Fin cfg0.N) (y : S1x256x2048.Idx) (p : Fin 3 → Nat) (h : p = ![(grid0.coords t 0).val, (grid0.coords t 1).val, 0]) (a : Fin 3) :
    (under t y a).val = p a * S1x256x2048.size a + 1 * (y a).val := by
  subst h
  fin_cases a
  · show (grid0.coords t 0).val = (grid0.coords t 0).val * 1 + 1 * (y 0).val
    have h : (y 0).val < 1 := (y 0).isLt
    omega
  · exact congrArg ((grid0.coords t 1).val * 256 + ·) (Nat.one_mul (y 1).val).symm
  · show (y 2).val = 0 * 2048 + 1 * (y 2).val
    omega

/-- The gradient, copied. -/
theorem final4 : (dats m 0 c).arrAt 4 (cfgs 0).N = fun j => m ((c : Thread nD τ).loc main_arg1) j := by
  refine (dats m 0 c).arrAt_eq_of_covers 4 _ (by decide +kernel) fun t _ y => ?_
  blk_simp
  have h : under t y = (win0_4.blk t).view.emb y := funext fun a => Fin.ext (under_val t y _ (idx t).2.1 a)
  rw [after0_4]
  refine (block4 _ _ _ _ y).trans ?_
  rw [blk1, V_main_arg1, h]

/-- The weights' change. -/
theorem final5 : (dats m 0 c).arrAt 5 (cfgs 0).N = fun j => Adam.change (m ((c : Thread nD τ).loc main_arg0) j) (m ((c : Thread nD τ).loc main_arg1) j) (m ((c : Thread nD τ).loc main_arg2) j) (m ((c : Thread nD τ).loc main_arg3) j) := by
  refine (dats m 0 c).arrAt_eq_of_covers 5 _ (by decide +kernel) fun t _ y => ?_
  blk_simp
  have h : under t y = (win0_5.blk t).view.emb y := funext fun a => Fin.ext (under_val t y _ (idx t).2.2.1 a)
  rw [after0_5]
  refine (block5 _ _ _ _ y).trans ?_
  rw [blk0, blk1, blk2, blk3, V_main_arg0, V_main_arg1, V_main_arg2, V_main_arg3, h]

/-- The new running means. -/
theorem final6 : (dats m 0 c).arrAt 6 (cfgs 0).N = fun j => Adam.mean (m ((c : Thread nD τ).loc main_arg1) j) (m ((c : Thread nD τ).loc main_arg2) j) := by
  refine (dats m 0 c).arrAt_eq_of_covers 6 _ (by decide +kernel) fun t _ y => ?_
  blk_simp
  have h : under t y = (win0_6.blk t).view.emb y := funext fun a => Fin.ext (under_val t y _ (idx t).2.2.2.1 a)
  rw [after0_6]
  refine (block6 _ _ _ _ y).trans ?_
  rw [blk1, blk2, V_main_arg1, V_main_arg2, h]

/-- The new running squares. -/
theorem final7 : (dats m 0 c).arrAt 7 (cfgs 0).N = fun j => Adam.square (m ((c : Thread nD τ).loc main_arg1) j) (m ((c : Thread nD τ).loc main_arg3) j) := by
  refine (dats m 0 c).arrAt_eq_of_covers 7 _ (by decide +kernel) fun t _ y => ?_
  blk_simp
  have h : under t y = (win0_7.blk t).view.emb y := funext fun a => Fin.ext (under_val t y _ (idx t).2.2.2.2 a)
  rw [after0_7]
  refine (block7 _ _ _ _ y).trans ?_
  rw [blk1, blk3, V_main_arg1, V_main_arg3, h]

end Cert.Kernel10Ideal.Step

namespace Cert.Reference10Ideal.Step

open Cert.Reference10Ideal Cert.Reference10Ideal.Gen

variable (w g p v : FVec Ideal S1x512x2048 .f32) (j : S1x512x2048.Idx)

theorem mean : @Eq EReal ((addf (mulf (broadcastInDim S1x512x2048 ![] bcast_S_S1x512x2048 (constant S_ .f32 0x3F666666#32)) p) (mulf (broadcastInDim S1x512x2048 ![] bcast_S_S1x512x2048 (constant S_ .f32 0x3DCCCCCD#32)) g)) j) (Adam.mean (g j) (p j)) := by
  clean_types; pointwise
  rfl

theorem square : @Eq EReal ((addf (mulf (broadcastInDim S1x512x2048 ![] bcast_S_S1x512x2048 (constant S_ .f32 0x3F7FBE77#32)) v) (mulf (broadcastInDim S1x512x2048 ![] bcast_S_S1x512x2048 (constant S_ .f32 0x3A83126F#32)) (mulf g g))) j) (Adam.square (g j) (v j)) := by
  clean_types; pointwise
  rfl

theorem change : @Eq EReal ((mulf (broadcastInDim S1x512x2048 ![] bcast_S_S1x512x2048 (constant S_ .f32 0xBA83126F#32)) (addf (Host.divf (Host.divf (addf (mulf (broadcastInDim S1x512x2048 ![] bcast_S_S1x512x2048 (constant S_ .f32 0x3F666666#32)) p) (mulf (broadcastInDim S1x512x2048 ![] bcast_S_S1x512x2048 (constant S_ .f32 0x3DCCCCCD#32)) g)) (broadcastInDim S1x512x2048 ![] bcast_S_S1x512x2048 (constant S_ .f32 0x3F26BD02#32))) (addf (Host.sqrt (Host.divf (addf (mulf (broadcastInDim S1x512x2048 ![] bcast_S_S1x512x2048 (constant S_ .f32 0x3F7FBE77#32)) v) (mulf (broadcastInDim S1x512x2048 ![] bcast_S_S1x512x2048 (constant S_ .f32 0x3A83126F#32)) (mulf g g))) (broadcastInDim S1x512x2048 ![] bcast_S_S1x512x2048 (constant S_ .f32 0x3C231ACC#32)))) (broadcastInDim S1x512x2048 ![] bcast_S_S1x512x2048 (constant S_ .f32 0x322BCC77#32)))) (mulf (broadcastInDim S1x512x2048 ![] bcast_S_S1x512x2048 (constant S_ .f32 0x3C23D70A#32)) w))) j) (Adam.change (w j) (g j) (p j) (v j)) := by
  clean_types; pointwise
  rfl

end Cert.Reference10Ideal.Step

end
-- ==== Proof.Step11.lean ====
/- The AdamW step on weights of 1 layer of 2048 rows and 1536 columns, entry by entry. -/
module

public import proofs.«01_k».proof.Proof.Adam
public import proofs.«01_k».proof.Proof.Gen.Kernel11Ideal.Value
public import proofs.«01_k».proof.Proof.Gen.Reference11Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel11Ideal.Step

open Cert.Kernel11Ideal Cert.Kernel11Ideal.Gen
open Idealize.ShloMosaic.Pipeline (Dat Window)

/-- All eight arrays are cut alike. -/
theorem idx : ∀ t : Fin cfg0.N, (win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0])
    ∧ win0_4.index t = ![(grid0.coords t 0).val, (grid0.coords t 1).val, 0] ∧ win0_5.index t = ![(grid0.coords t 0).val, (grid0.coords t 1).val, 0]
    ∧ win0_6.index t = ![(grid0.coords t 0).val, (grid0.coords t 1).val, 0] ∧ win0_7.index t = ![(grid0.coords t 0).val, (grid0.coords t 1).val, 0] :=
  (by decide +kernel : ∀ t : Fin grid0.N, _)

theorem i_lt (t : Fin cfg0.N) : (grid0.coords t 0).val < 1 := (grid0.coords t 0).isLt
theorem j_lt (t : Fin cfg0.N) : (grid0.coords t 1).val < 8 := (grid0.coords t 1).isLt

theorem hz : (![0, 0, 0] : Fin 3 → Nat) = fun _ => 0 := funext fun a => by fin_cases a <;> rfl

/-- The array index under index `y` of point `t`'s block. -/
def under (t : Fin cfg0.N) (y : S1x256x1536.Idx) : S1x2048x1536.Idx :=
  ix3 ⟨(grid0.coords t 0).val, i_lt t⟩ ⟨(grid0.coords t 1).val * 256 + (y 1).val, by have := j_lt t; have h : (y 1).val < 256 := (y 1).isLt; omega⟩ (y 2)

variable {m : (ℓ : Loc nD τ sig) → Buf (Elt Ideal) ℓ} {c : Dev nD}

theorem blk0 (t : Fin cfg0.N) (y : S1x256x1536.Idx) : iblk m c 0 t y = V m c main_arg0 (under t y) := by
  blk_ext [iblk, (idx t).1.1] <;> rfl
theorem blk1 (t : Fin cfg0.N) (y : S1x256x1536.Idx) : iblk m c 1 t y = V m c main_arg1 (under t y) := by
  blk_ext [iblk, (idx t).1.2.1] <;> rfl
theorem blk2 (t : Fin cfg0.N) (y : S1x256x1536.Idx) : iblk m c 2 t y = V m c main_arg2 (under t y) := by
  blk_ext [iblk, (idx t).1.2.2.1] <;> rfl
theorem blk3 (t : Fin cfg0.N) (y : S1x256x1536.Idx) : iblk m c 3 t y = V m c main_arg3 (under t y) := by
  blk_ext [iblk, (idx t).1.2.2.2] <;> rfl

section Block

variable (w g m v : Vec Ideal S1x256x1536 .f32) (y : S1x256x1536.Idx)

theorem block4 : @Eq EReal (out0_4 (F := Ideal) w g m v y) (g y) := by
  unfold out0_4
  rw [View.canon_unit_zero hz, View.ld_unit_zero (S := S1x256x1536) hz]
  unfold k0_pay5 k0_pay4
  pointwise

theorem block6 : @Eq EReal (out0_6 (F := Ideal) w g m v y) (Adam.mean (g y) (m y)) := by
  unfold out0_6
  rw [View.canon_unit_zero hz, View.ld_unit_zero (S := S1x256x1536) hz, View.ld_unit_zero (S := S1x256x1536) hz]
  unfold k0_pay2 k0_pay6 k0_pay4
  pointwise
  rfl

theorem block7 : @Eq EReal (out0_7 (F := Ideal) w g m v y) (Adam.square (g y) (v y)) := by
  unfold out0_7
  rw [View.canon_unit_zero hz, View.ld_unit_zero (S := S1x256x1536) hz, View.ld_unit_zero (S := S1x256x1536) hz]
  unfold k0_pay3 k0_pay7 k0_pay4
  pointwise
  rfl

theorem block5 : @Eq EReal (out0_5 (F := Ideal) w g m v y) (Adam.change (w y) (g y) (m y) (v y)) := by
  unfold out0_5
  rw [View.canon_unit_zero hz, View.ld_unit_zero (S := S1x256x1536) hz, View.ld_unit_zero (S := S1x256x1536) hz, View.ld_unit_zero (S := S1x256x1536) hz, View.ld_unit_zero (S := S1x256x1536) hz]
  unfold k0_pay1 k0_pay8 k0_pay7 k0_pay6 k0_pay4
  pointwise
  rfl

end Block

/-- An index map that cuts this way takes `y` to the index under it. -/
theorem under_val (t : Fin cfg0.N) (y : S1x256x1536.Idx) (p : Fin 3 → Nat) (h : p = ![(grid0.coords t 0).val, (grid0.coords t 1).val, 0]) (a : Fin 3) :
    (under t y a).val = p a * S1x256x1536.size a + 1 * (y a).val := by
  subst h
  fin_cases a
  · show (grid0.coords t 0).val = (grid0.coords t 0).val * 1 + 1 * (y 0).val
    have h : (y 0).val < 1 := (y 0).isLt
    omega
  · exact congrArg ((grid0.coords t 1).val * 256 + ·) (Nat.one_mul (y 1).val).symm
  · show (y 2).val = 0 * 1536 + 1 * (y 2).val
    omega

/-- The gradient, copied. -/
theorem final4 : (dats m 0 c).arrAt 4 (cfgs 0).N = fun j => m ((c : Thread nD τ).loc main_arg1) j := by
  refine (dats m 0 c).arrAt_eq_of_covers 4 _ (by decide +kernel) fun t _ y => ?_
  blk_simp
  have h : under t y = (win0_4.blk t).view.emb y := funext fun a => Fin.ext (under_val t y _ (idx t).2.1 a)
  rw [after0_4]
  refine (block4 _ _ _ _ y).trans ?_
  rw [blk1, V_main_arg1, h]

/-- The weights' change. -/
theorem final5 : (dats m 0 c).arrAt 5 (cfgs 0).N = fun j => Adam.change (m ((c : Thread nD τ).loc main_arg0) j) (m ((c : Thread nD τ).loc main_arg1) j) (m ((c : Thread nD τ).loc main_arg2) j) (m ((c : Thread nD τ).loc main_arg3) j) := by
  refine (dats m 0 c).arrAt_eq_of_covers 5 _ (by decide +kernel) fun t _ y => ?_
  blk_simp
  have h : under t y = (win0_5.blk t).view.emb y := funext fun a => Fin.ext (under_val t y _ (idx t).2.2.1 a)
  rw [after0_5]
  refine (block5 _ _ _ _ y).trans ?_
  rw [blk0, blk1, blk2, blk3, V_main_arg0, V_main_arg1, V_main_arg2, V_main_arg3, h]

/-- The new running means. -/
theorem final6 : (dats m 0 c).arrAt 6 (cfgs 0).N = fun j => Adam.mean (m ((c : Thread nD τ).loc main_arg1) j) (m ((c : Thread nD τ).loc main_arg2) j) := by
  refine (dats m 0 c).arrAt_eq_of_covers 6 _ (by decide +kernel) fun t _ y => ?_
  blk_simp
  have h : under t y = (win0_6.blk t).view.emb y := funext fun a => Fin.ext (under_val t y _ (idx t).2.2.2.1 a)
  rw [after0_6]
  refine (block6 _ _ _ _ y).trans ?_
  rw [blk1, blk2, V_main_arg1, V_main_arg2, h]

/-- The new running squares. -/
theorem final7 : (dats m 0 c).arrAt 7 (cfgs 0).N = fun j => Adam.square (m ((c : Thread nD τ).loc main_arg1) j) (m ((c : Thread nD τ).loc main_arg3) j) := by
  refine (dats m 0 c).arrAt_eq_of_covers 7 _ (by decide +kernel) fun t _ y => ?_
  blk_simp
  have h : under t y = (win0_7.blk t).view.emb y := funext fun a => Fin.ext (under_val t y _ (idx t).2.2.2.2 a)
  rw [after0_7]
  refine (block7 _ _ _ _ y).trans ?_
  rw [blk1, blk3, V_main_arg1, V_main_arg3, h]

end Cert.Kernel11Ideal.Step

namespace Cert.Reference11Ideal.Step

open Cert.Reference11Ideal Cert.Reference11Ideal.Gen

variable (w g p v : FVec Ideal S1x2048x1536 .f32) (j : S1x2048x1536.Idx)

theorem mean : @Eq EReal ((addf (mulf (broadcastInDim S1x2048x1536 ![] bcast_S_S1x2048x1536 (constant S_ .f32 0x3F666666#32)) p) (mulf (broadcastInDim S1x2048x1536 ![] bcast_S_S1x2048x1536 (constant S_ .f32 0x3DCCCCCD#32)) g)) j) (Adam.mean (g j) (p j)) := by
  clean_types; pointwise
  rfl

theorem square : @Eq EReal ((addf (mulf (broadcastInDim S1x2048x1536 ![] bcast_S_S1x2048x1536 (constant S_ .f32 0x3F7FBE77#32)) v) (mulf (broadcastInDim S1x2048x1536 ![] bcast_S_S1x2048x1536 (constant S_ .f32 0x3A83126F#32)) (mulf g g))) j) (Adam.square (g j) (v j)) := by
  clean_types; pointwise
  rfl

theorem change : @Eq EReal ((mulf (broadcastInDim S1x2048x1536 ![] bcast_S_S1x2048x1536 (constant S_ .f32 0xBA83126F#32)) (addf (Host.divf (Host.divf (addf (mulf (broadcastInDim S1x2048x1536 ![] bcast_S_S1x2048x1536 (constant S_ .f32 0x3F666666#32)) p) (mulf (broadcastInDim S1x2048x1536 ![] bcast_S_S1x2048x1536 (constant S_ .f32 0x3DCCCCCD#32)) g)) (broadcastInDim S1x2048x1536 ![] bcast_S_S1x2048x1536 (constant S_ .f32 0x3F26BD02#32))) (addf (Host.sqrt (Host.divf (addf (mulf (broadcastInDim S1x2048x1536 ![] bcast_S_S1x2048x1536 (constant S_ .f32 0x3F7FBE77#32)) v) (mulf (broadcastInDim S1x2048x1536 ![] bcast_S_S1x2048x1536 (constant S_ .f32 0x3A83126F#32)) (mulf g g))) (broadcastInDim S1x2048x1536 ![] bcast_S_S1x2048x1536 (constant S_ .f32 0x3C231ACC#32)))) (broadcastInDim S1x2048x1536 ![] bcast_S_S1x2048x1536 (constant S_ .f32 0x322BCC77#32)))) (mulf (broadcastInDim S1x2048x1536 ![] bcast_S_S1x2048x1536 (constant S_ .f32 0x3C23D70A#32)) w))) j) (Adam.change (w j) (g j) (p j) (v j)) := by
  clean_types; pointwise
  rfl

end Cert.Reference11Ideal.Step

end
-- ==== Proof.Step12.lean ====
/- The AdamW step on weights of 2 layers of 2048 rows and 2048 columns, entry by entry. -/
module

public import proofs.«01_k».proof.Proof.Adam
public import proofs.«01_k».proof.Proof.Gen.Kernel12Ideal.Value
public import proofs.«01_k».proof.Proof.Gen.Reference12Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel12Ideal.Step

open Cert.Kernel12Ideal Cert.Kernel12Ideal.Gen
open Idealize.ShloMosaic.Pipeline (Dat Window)

/-- All eight arrays are cut alike. -/
theorem idx : ∀ t : Fin cfg0.N, (win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0])
    ∧ win0_4.index t = ![(grid0.coords t 0).val, (grid0.coords t 1).val, 0] ∧ win0_5.index t = ![(grid0.coords t 0).val, (grid0.coords t 1).val, 0]
    ∧ win0_6.index t = ![(grid0.coords t 0).val, (grid0.coords t 1).val, 0] ∧ win0_7.index t = ![(grid0.coords t 0).val, (grid0.coords t 1).val, 0] :=
  (by decide +kernel : ∀ t : Fin grid0.N, _)

theorem i_lt (t : Fin cfg0.N) : (grid0.coords t 0).val < 2 := (grid0.coords t 0).isLt
theorem j_lt (t : Fin cfg0.N) : (grid0.coords t 1).val < 8 := (grid0.coords t 1).isLt

theorem hz : (![0, 0, 0] : Fin 3 → Nat) = fun _ => 0 := funext fun a => by fin_cases a <;> rfl

/-- The array index under index `y` of point `t`'s block. -/
def under (t : Fin cfg0.N) (y : S1x256x2048.Idx) : S2x2048x2048.Idx :=
  ix3 ⟨(grid0.coords t 0).val, i_lt t⟩ ⟨(grid0.coords t 1).val * 256 + (y 1).val, by have := j_lt t; have h : (y 1).val < 256 := (y 1).isLt; omega⟩ (y 2)

variable {m : (ℓ : Loc nD τ sig) → Buf (Elt Ideal) ℓ} {c : Dev nD}

theorem blk0 (t : Fin cfg0.N) (y : S1x256x2048.Idx) : iblk m c 0 t y = V m c main_arg0 (under t y) := by
  blk_ext [iblk, (idx t).1.1] <;> rfl
theorem blk1 (t : Fin cfg0.N) (y : S1x256x2048.Idx) : iblk m c 1 t y = V m c main_arg1 (under t y) := by
  blk_ext [iblk, (idx t).1.2.1] <;> rfl
theorem blk2 (t : Fin cfg0.N) (y : S1x256x2048.Idx) : iblk m c 2 t y = V m c main_arg2 (under t y) := by
  blk_ext [iblk, (idx t).1.2.2.1] <;> rfl
theorem blk3 (t : Fin cfg0.N) (y : S1x256x2048.Idx) : iblk m c 3 t y = V m c main_arg3 (under t y) := by
  blk_ext [iblk, (idx t).1.2.2.2] <;> rfl

section Block

variable (w g m v : Vec Ideal S1x256x2048 .f32) (y : S1x256x2048.Idx)

theorem block4 : @Eq EReal (out0_4 (F := Ideal) w g m v y) (g y) := by
  unfold out0_4
  rw [View.canon_unit_zero hz, View.ld_unit_zero (S := S1x256x2048) hz]
  unfold k0_pay5 k0_pay4
  pointwise

theorem block6 : @Eq EReal (out0_6 (F := Ideal) w g m v y) (Adam.mean (g y) (m y)) := by
  unfold out0_6
  rw [View.canon_unit_zero hz, View.ld_unit_zero (S := S1x256x2048) hz, View.ld_unit_zero (S := S1x256x2048) hz]
  unfold k0_pay2 k0_pay6 k0_pay4
  pointwise
  rfl

theorem block7 : @Eq EReal (out0_7 (F := Ideal) w g m v y) (Adam.square (g y) (v y)) := by
  unfold out0_7
  rw [View.canon_unit_zero hz, View.ld_unit_zero (S := S1x256x2048) hz, View.ld_unit_zero (S := S1x256x2048) hz]
  unfold k0_pay3 k0_pay7 k0_pay4
  pointwise
  rfl

theorem block5 : @Eq EReal (out0_5 (F := Ideal) w g m v y) (Adam.change (w y) (g y) (m y) (v y)) := by
  unfold out0_5
  rw [View.canon_unit_zero hz, View.ld_unit_zero (S := S1x256x2048) hz, View.ld_unit_zero (S := S1x256x2048) hz, View.ld_unit_zero (S := S1x256x2048) hz, View.ld_unit_zero (S := S1x256x2048) hz]
  unfold k0_pay1 k0_pay8 k0_pay7 k0_pay6 k0_pay4
  pointwise
  rfl

end Block

/-- An index map that cuts this way takes `y` to the index under it. -/
theorem under_val (t : Fin cfg0.N) (y : S1x256x2048.Idx) (p : Fin 3 → Nat) (h : p = ![(grid0.coords t 0).val, (grid0.coords t 1).val, 0]) (a : Fin 3) :
    (under t y a).val = p a * S1x256x2048.size a + 1 * (y a).val := by
  subst h
  fin_cases a
  · show (grid0.coords t 0).val = (grid0.coords t 0).val * 1 + 1 * (y 0).val
    have h : (y 0).val < 1 := (y 0).isLt
    omega
  · exact congrArg ((grid0.coords t 1).val * 256 + ·) (Nat.one_mul (y 1).val).symm
  · show (y 2).val = 0 * 2048 + 1 * (y 2).val
    omega

/-- The gradient, copied. -/
theorem final4 : (dats m 0 c).arrAt 4 (cfgs 0).N = fun j => m ((c : Thread nD τ).loc main_arg1) j := by
  refine (dats m 0 c).arrAt_eq_of_covers 4 _ (by decide +kernel) fun t _ y => ?_
  blk_simp
  have h : under t y = (win0_4.blk t).view.emb y := funext fun a => Fin.ext (under_val t y _ (idx t).2.1 a)
  rw [after0_4]
  refine (block4 _ _ _ _ y).trans ?_
  rw [blk1, V_main_arg1, h]

/-- The weights' change. -/
theorem final5 : (dats m 0 c).arrAt 5 (cfgs 0).N = fun j => Adam.change (m ((c : Thread nD τ).loc main_arg0) j) (m ((c : Thread nD τ).loc main_arg1) j) (m ((c : Thread nD τ).loc main_arg2) j) (m ((c : Thread nD τ).loc main_arg3) j) := by
  refine (dats m 0 c).arrAt_eq_of_covers 5 _ (by decide +kernel) fun t _ y => ?_
  blk_simp
  have h : under t y = (win0_5.blk t).view.emb y := funext fun a => Fin.ext (under_val t y _ (idx t).2.2.1 a)
  rw [after0_5]
  refine (block5 _ _ _ _ y).trans ?_
  rw [blk0, blk1, blk2, blk3, V_main_arg0, V_main_arg1, V_main_arg2, V_main_arg3, h]

/-- The new running means. -/
theorem final6 : (dats m 0 c).arrAt 6 (cfgs 0).N = fun j => Adam.mean (m ((c : Thread nD τ).loc main_arg1) j) (m ((c : Thread nD τ).loc main_arg2) j) := by
  refine (dats m 0 c).arrAt_eq_of_covers 6 _ (by decide +kernel) fun t _ y => ?_
  blk_simp
  have h : under t y = (win0_6.blk t).view.emb y := funext fun a => Fin.ext (under_val t y _ (idx t).2.2.2.1 a)
  rw [after0_6]
  refine (block6 _ _ _ _ y).trans ?_
  rw [blk1, blk2, V_main_arg1, V_main_arg2, h]

/-- The new running squares. -/
theorem final7 : (dats m 0 c).arrAt 7 (cfgs 0).N = fun j => Adam.square (m ((c : Thread nD τ).loc main_arg1) j) (m ((c : Thread nD τ).loc main_arg3) j) := by
  refine (dats m 0 c).arrAt_eq_of_covers 7 _ (by decide +kernel) fun t _ y => ?_
  blk_simp
  have h : under t y = (win0_7.blk t).view.emb y := funext fun a => Fin.ext (under_val t y _ (idx t).2.2.2.2 a)
  rw [after0_7]
  refine (block7 _ _ _ _ y).trans ?_
  rw [blk1, blk3, V_main_arg1, V_main_arg3, h]

end Cert.Kernel12Ideal.Step

namespace Cert.Reference12Ideal.Step

open Cert.Reference12Ideal Cert.Reference12Ideal.Gen

variable (w g p v : FVec Ideal S2x2048x2048 .f32) (j : S2x2048x2048.Idx)

theorem mean : @Eq EReal ((addf (mulf (broadcastInDim S2x2048x2048 ![] bcast_S_S2x2048x2048 (constant S_ .f32 0x3F666666#32)) p) (mulf (broadcastInDim S2x2048x2048 ![] bcast_S_S2x2048x2048 (constant S_ .f32 0x3DCCCCCD#32)) g)) j) (Adam.mean (g j) (p j)) := by
  clean_types; pointwise
  rfl

theorem square : @Eq EReal ((addf (mulf (broadcastInDim S2x2048x2048 ![] bcast_S_S2x2048x2048 (constant S_ .f32 0x3F7FBE77#32)) v) (mulf (broadcastInDim S2x2048x2048 ![] bcast_S_S2x2048x2048 (constant S_ .f32 0x3A83126F#32)) (mulf g g))) j) (Adam.square (g j) (v j)) := by
  clean_types; pointwise
  rfl

theorem change : @Eq EReal ((mulf (broadcastInDim S2x2048x2048 ![] bcast_S_S2x2048x2048 (constant S_ .f32 0xBA83126F#32)) (addf (Host.divf (Host.divf (addf (mulf (broadcastInDim S2x2048x2048 ![] bcast_S_S2x2048x2048 (constant S_ .f32 0x3F666666#32)) p) (mulf (broadcastInDim S2x2048x2048 ![] bcast_S_S2x2048x2048 (constant S_ .f32 0x3DCCCCCD#32)) g)) (broadcastInDim S2x2048x2048 ![] bcast_S_S2x2048x2048 (constant S_ .f32 0x3F26BD02#32))) (addf (Host.sqrt (Host.divf (addf (mulf (broadcastInDim S2x2048x2048 ![] bcast_S_S2x2048x2048 (constant S_ .f32 0x3F7FBE77#32)) v) (mulf (broadcastInDim S2x2048x2048 ![] bcast_S_S2x2048x2048 (constant S_ .f32 0x3A83126F#32)) (mulf g g))) (broadcastInDim S2x2048x2048 ![] bcast_S_S2x2048x2048 (constant S_ .f32 0x3C231ACC#32)))) (broadcastInDim S2x2048x2048 ![] bcast_S_S2x2048x2048 (constant S_ .f32 0x322BCC77#32)))) (mulf (broadcastInDim S2x2048x2048 ![] bcast_S_S2x2048x2048 (constant S_ .f32 0x3C23D70A#32)) w))) j) (Adam.change (w j) (g j) (p j) (v j)) := by
  clean_types; pointwise
  rfl

end Cert.Reference12Ideal.Step

end
-- ==== Proof.StepCalls.lean ====
/- The AdamW step's four calls: each leaves the reference's entries, with nothing assumed of its arguments. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Step9
public import proofs.«01_k».proof.Proof.Gen.Kernel10.Frame
public import proofs.«01_k».proof.Proof.Gen.Kernel10Ideal.Value
public import proofs.«01_k».proof.Proof.Gen.Reference10Ideal.Run
public import proofs.«01_k».proof.Proof.Step10
public import proofs.«01_k».proof.Proof.Gen.Kernel11.Frame
public import proofs.«01_k».proof.Proof.Gen.Kernel11Ideal.Value
public import proofs.«01_k».proof.Proof.Gen.Reference11Ideal.Run
public import proofs.«01_k».proof.Proof.Step11
public import proofs.«01_k».proof.Proof.Gen.Kernel12.Frame
public import proofs.«01_k».proof.Proof.Gen.Kernel12Ideal.Value
public import proofs.«01_k».proof.Proof.Gen.Reference12Ideal.Run
public import proofs.«01_k».proof.Proof.Step12
public import Idealize.ShloMosaic.Adequacy
public import Idealize.ShloMosaic.Init

@[expose] public section

set_option maxHeartbeats 8000000

noncomputable section

namespace Cert.StepCalls

open Idealize.ShloMosaic Idealize.SL.Sem Idealize.ShloMosaic.StableHlo

theorem frame9 : Cert.quiescent_Kernel9 := fun m g _ => Cert.Kernel9.Gen.frame m g

theorem frame_ideal9 : Cert.quiescent_Kernel9Ideal := fun m g _ => Cert.Kernel9Ideal.Gen.frame m g

theorem frame_reference9 : Cert.quiescent_Reference9Ideal := fun m g _ =>
  (θ_run Cert.Reference9Ideal.defs _ _).mono (fun r h => ⟨fun c => (h c).2.2.2.2, Idealize.ShloMosaic.sem_eq_zero_of_no_sems (by decide) r.2⟩)
    (Cert.Reference9Ideal.Value.run m g)

theorem algebraic9 : Cert.algebraic_Kernel9Ideal_Reference9Ideal := by
  intro m g m' g' _ e
  refine ⟨fun c j => m ((c.tc : Thread Cert.Kernel9Ideal.nD Cert.Kernel9Ideal.τ).loc Cert.Kernel9Ideal.main_arg1) j,
    fun c j => Adam.change (m ((c.tc : Thread Cert.Kernel9Ideal.nD Cert.Kernel9Ideal.τ).loc Cert.Kernel9Ideal.main_arg0) j) (m ((c.tc : Thread Cert.Kernel9Ideal.nD Cert.Kernel9Ideal.τ).loc Cert.Kernel9Ideal.main_arg1) j) (m ((c.tc : Thread Cert.Kernel9Ideal.nD Cert.Kernel9Ideal.τ).loc Cert.Kernel9Ideal.main_arg2) j) (m ((c.tc : Thread Cert.Kernel9Ideal.nD Cert.Kernel9Ideal.τ).loc Cert.Kernel9Ideal.main_arg3) j),
    fun c j => Adam.mean (m ((c.tc : Thread Cert.Kernel9Ideal.nD Cert.Kernel9Ideal.τ).loc Cert.Kernel9Ideal.main_arg1) j) (m ((c.tc : Thread Cert.Kernel9Ideal.nD Cert.Kernel9Ideal.τ).loc Cert.Kernel9Ideal.main_arg2) j),
    fun c j => Adam.square (m ((c.tc : Thread Cert.Kernel9Ideal.nD Cert.Kernel9Ideal.τ).loc Cert.Kernel9Ideal.main_arg1) j) (m ((c.tc : Thread Cert.Kernel9Ideal.nD Cert.Kernel9Ideal.τ).loc Cert.Kernel9Ideal.main_arg3) j),
    (θ_run _ _ _).mono (fun _ h c => ⟨(h c).1.trans Cert.Kernel9Ideal.Step.final4, (h c).2.1.trans Cert.Kernel9Ideal.Step.final5, (h c).2.2.1.trans Cert.Kernel9Ideal.Step.final6, (h c).2.2.2.1.trans Cert.Kernel9Ideal.Step.final7, (h c).2.2.2.2⟩) (Cert.Kernel9Ideal.Value.run_blocks m g),
    (θ_run _ _ _).mono (fun _ r c => ⟨(r c).1.trans (e c).2.1, (r c).2.1.trans (funext fun j => ?_), (r c).2.2.1.trans (funext fun j => ?_), (r c).2.2.2.1.trans (funext fun j => ?_), (r c).2.2.2.2⟩) (Cert.Reference9Ideal.Value.run m' g')⟩
  · obtain ⟨e0, e1, e2, e3⟩ := e c
    refine (Cert.Reference9Ideal.Step.change _ _ _ _ j).trans ?_
    rw [e0, e1, e2, e3]
  · obtain ⟨e0, e1, e2, e3⟩ := e c
    refine (Cert.Reference9Ideal.Step.mean _ _ j).trans ?_
    rw [e1, e2]
  · obtain ⟨e0, e1, e2, e3⟩ := e c
    refine (Cert.Reference9Ideal.Step.square _ _ j).trans ?_
    rw [e1, e3]

theorem frame10 : Cert.quiescent_Kernel10 := fun m g _ => Cert.Kernel10.Gen.frame m g

theorem frame_ideal10 : Cert.quiescent_Kernel10Ideal := fun m g _ => Cert.Kernel10Ideal.Gen.frame m g

theorem frame_reference10 : Cert.quiescent_Reference10Ideal := fun m g _ =>
  (θ_run Cert.Reference10Ideal.defs _ _).mono (fun r h => ⟨fun c => (h c).2.2.2.2, Idealize.ShloMosaic.sem_eq_zero_of_no_sems (by decide) r.2⟩)
    (Cert.Reference10Ideal.Value.run m g)

theorem algebraic10 : Cert.algebraic_Kernel10Ideal_Reference10Ideal := by
  intro m g m' g' _ e
  refine ⟨fun c j => m ((c.tc : Thread Cert.Kernel10Ideal.nD Cert.Kernel10Ideal.τ).loc Cert.Kernel10Ideal.main_arg1) j,
    fun c j => Adam.change (m ((c.tc : Thread Cert.Kernel10Ideal.nD Cert.Kernel10Ideal.τ).loc Cert.Kernel10Ideal.main_arg0) j) (m ((c.tc : Thread Cert.Kernel10Ideal.nD Cert.Kernel10Ideal.τ).loc Cert.Kernel10Ideal.main_arg1) j) (m ((c.tc : Thread Cert.Kernel10Ideal.nD Cert.Kernel10Ideal.τ).loc Cert.Kernel10Ideal.main_arg2) j) (m ((c.tc : Thread Cert.Kernel10Ideal.nD Cert.Kernel10Ideal.τ).loc Cert.Kernel10Ideal.main_arg3) j),
    fun c j => Adam.mean (m ((c.tc : Thread Cert.Kernel10Ideal.nD Cert.Kernel10Ideal.τ).loc Cert.Kernel10Ideal.main_arg1) j) (m ((c.tc : Thread Cert.Kernel10Ideal.nD Cert.Kernel10Ideal.τ).loc Cert.Kernel10Ideal.main_arg2) j),
    fun c j => Adam.square (m ((c.tc : Thread Cert.Kernel10Ideal.nD Cert.Kernel10Ideal.τ).loc Cert.Kernel10Ideal.main_arg1) j) (m ((c.tc : Thread Cert.Kernel10Ideal.nD Cert.Kernel10Ideal.τ).loc Cert.Kernel10Ideal.main_arg3) j),
    (θ_run _ _ _).mono (fun _ h c => ⟨(h c).1.trans Cert.Kernel10Ideal.Step.final4, (h c).2.1.trans Cert.Kernel10Ideal.Step.final5, (h c).2.2.1.trans Cert.Kernel10Ideal.Step.final6, (h c).2.2.2.1.trans Cert.Kernel10Ideal.Step.final7, (h c).2.2.2.2⟩) (Cert.Kernel10Ideal.Value.run_blocks m g),
    (θ_run _ _ _).mono (fun _ r c => ⟨(r c).1.trans (e c).2.1, (r c).2.1.trans (funext fun j => ?_), (r c).2.2.1.trans (funext fun j => ?_), (r c).2.2.2.1.trans (funext fun j => ?_), (r c).2.2.2.2⟩) (Cert.Reference10Ideal.Value.run m' g')⟩
  · obtain ⟨e0, e1, e2, e3⟩ := e c
    refine (Cert.Reference10Ideal.Step.change _ _ _ _ j).trans ?_
    rw [e0, e1, e2, e3]
  · obtain ⟨e0, e1, e2, e3⟩ := e c
    refine (Cert.Reference10Ideal.Step.mean _ _ j).trans ?_
    rw [e1, e2]
  · obtain ⟨e0, e1, e2, e3⟩ := e c
    refine (Cert.Reference10Ideal.Step.square _ _ j).trans ?_
    rw [e1, e3]

theorem frame11 : Cert.quiescent_Kernel11 := fun m g _ => Cert.Kernel11.Gen.frame m g

theorem frame_ideal11 : Cert.quiescent_Kernel11Ideal := fun m g _ => Cert.Kernel11Ideal.Gen.frame m g

theorem frame_reference11 : Cert.quiescent_Reference11Ideal := fun m g _ =>
  (θ_run Cert.Reference11Ideal.defs _ _).mono (fun r h => ⟨fun c => (h c).2.2.2.2, Idealize.ShloMosaic.sem_eq_zero_of_no_sems (by decide) r.2⟩)
    (Cert.Reference11Ideal.Value.run m g)

theorem algebraic11 : Cert.algebraic_Kernel11Ideal_Reference11Ideal := by
  intro m g m' g' _ e
  refine ⟨fun c j => m ((c.tc : Thread Cert.Kernel11Ideal.nD Cert.Kernel11Ideal.τ).loc Cert.Kernel11Ideal.main_arg1) j,
    fun c j => Adam.change (m ((c.tc : Thread Cert.Kernel11Ideal.nD Cert.Kernel11Ideal.τ).loc Cert.Kernel11Ideal.main_arg0) j) (m ((c.tc : Thread Cert.Kernel11Ideal.nD Cert.Kernel11Ideal.τ).loc Cert.Kernel11Ideal.main_arg1) j) (m ((c.tc : Thread Cert.Kernel11Ideal.nD Cert.Kernel11Ideal.τ).loc Cert.Kernel11Ideal.main_arg2) j) (m ((c.tc : Thread Cert.Kernel11Ideal.nD Cert.Kernel11Ideal.τ).loc Cert.Kernel11Ideal.main_arg3) j),
    fun c j => Adam.mean (m ((c.tc : Thread Cert.Kernel11Ideal.nD Cert.Kernel11Ideal.τ).loc Cert.Kernel11Ideal.main_arg1) j) (m ((c.tc : Thread Cert.Kernel11Ideal.nD Cert.Kernel11Ideal.τ).loc Cert.Kernel11Ideal.main_arg2) j),
    fun c j => Adam.square (m ((c.tc : Thread Cert.Kernel11Ideal.nD Cert.Kernel11Ideal.τ).loc Cert.Kernel11Ideal.main_arg1) j) (m ((c.tc : Thread Cert.Kernel11Ideal.nD Cert.Kernel11Ideal.τ).loc Cert.Kernel11Ideal.main_arg3) j),
    (θ_run _ _ _).mono (fun _ h c => ⟨(h c).1.trans Cert.Kernel11Ideal.Step.final4, (h c).2.1.trans Cert.Kernel11Ideal.Step.final5, (h c).2.2.1.trans Cert.Kernel11Ideal.Step.final6, (h c).2.2.2.1.trans Cert.Kernel11Ideal.Step.final7, (h c).2.2.2.2⟩) (Cert.Kernel11Ideal.Value.run_blocks m g),
    (θ_run _ _ _).mono (fun _ r c => ⟨(r c).1.trans (e c).2.1, (r c).2.1.trans (funext fun j => ?_), (r c).2.2.1.trans (funext fun j => ?_), (r c).2.2.2.1.trans (funext fun j => ?_), (r c).2.2.2.2⟩) (Cert.Reference11Ideal.Value.run m' g')⟩
  · obtain ⟨e0, e1, e2, e3⟩ := e c
    refine (Cert.Reference11Ideal.Step.change _ _ _ _ j).trans ?_
    rw [e0, e1, e2, e3]
  · obtain ⟨e0, e1, e2, e3⟩ := e c
    refine (Cert.Reference11Ideal.Step.mean _ _ j).trans ?_
    rw [e1, e2]
  · obtain ⟨e0, e1, e2, e3⟩ := e c
    refine (Cert.Reference11Ideal.Step.square _ _ j).trans ?_
    rw [e1, e3]

theorem frame12 : Cert.quiescent_Kernel12 := fun m g _ => Cert.Kernel12.Gen.frame m g

theorem frame_ideal12 : Cert.quiescent_Kernel12Ideal := fun m g _ => Cert.Kernel12Ideal.Gen.frame m g

theorem frame_reference12 : Cert.quiescent_Reference12Ideal := fun m g _ =>
  (θ_run Cert.Reference12Ideal.defs _ _).mono (fun r h => ⟨fun c => (h c).2.2.2.2, Idealize.ShloMosaic.sem_eq_zero_of_no_sems (by decide) r.2⟩)
    (Cert.Reference12Ideal.Value.run m g)

theorem algebraic12 : Cert.algebraic_Kernel12Ideal_Reference12Ideal := by
  intro m g m' g' _ e
  refine ⟨fun c j => m ((c.tc : Thread Cert.Kernel12Ideal.nD Cert.Kernel12Ideal.τ).loc Cert.Kernel12Ideal.main_arg1) j,
    fun c j => Adam.change (m ((c.tc : Thread Cert.Kernel12Ideal.nD Cert.Kernel12Ideal.τ).loc Cert.Kernel12Ideal.main_arg0) j) (m ((c.tc : Thread Cert.Kernel12Ideal.nD Cert.Kernel12Ideal.τ).loc Cert.Kernel12Ideal.main_arg1) j) (m ((c.tc : Thread Cert.Kernel12Ideal.nD Cert.Kernel12Ideal.τ).loc Cert.Kernel12Ideal.main_arg2) j) (m ((c.tc : Thread Cert.Kernel12Ideal.nD Cert.Kernel12Ideal.τ).loc Cert.Kernel12Ideal.main_arg3) j),
    fun c j => Adam.mean (m ((c.tc : Thread Cert.Kernel12Ideal.nD Cert.Kernel12Ideal.τ).loc Cert.Kernel12Ideal.main_arg1) j) (m ((c.tc : Thread Cert.Kernel12Ideal.nD Cert.Kernel12Ideal.τ).loc Cert.Kernel12Ideal.main_arg2) j),
    fun c j => Adam.square (m ((c.tc : Thread Cert.Kernel12Ideal.nD Cert.Kernel12Ideal.τ).loc Cert.Kernel12Ideal.main_arg1) j) (m ((c.tc : Thread Cert.Kernel12Ideal.nD Cert.Kernel12Ideal.τ).loc Cert.Kernel12Ideal.main_arg3) j),
    (θ_run _ _ _).mono (fun _ h c => ⟨(h c).1.trans Cert.Kernel12Ideal.Step.final4, (h c).2.1.trans Cert.Kernel12Ideal.Step.final5, (h c).2.2.1.trans Cert.Kernel12Ideal.Step.final6, (h c).2.2.2.1.trans Cert.Kernel12Ideal.Step.final7, (h c).2.2.2.2⟩) (Cert.Kernel12Ideal.Value.run_blocks m g),
    (θ_run _ _ _).mono (fun _ r c => ⟨(r c).1.trans (e c).2.1, (r c).2.1.trans (funext fun j => ?_), (r c).2.2.1.trans (funext fun j => ?_), (r c).2.2.2.1.trans (funext fun j => ?_), (r c).2.2.2.2⟩) (Cert.Reference12Ideal.Value.run m' g')⟩
  · obtain ⟨e0, e1, e2, e3⟩ := e c
    refine (Cert.Reference12Ideal.Step.change _ _ _ _ j).trans ?_
    rw [e0, e1, e2, e3]
  · obtain ⟨e0, e1, e2, e3⟩ := e c
    refine (Cert.Reference12Ideal.Step.mean _ _ j).trans ?_
    rw [e1, e2]
  · obtain ⟨e0, e1, e2, e3⟩ := e c
    refine (Cert.Reference12Ideal.Step.square _ _ j).trans ?_
    rw [e1, e3]

end Cert.StepCalls

end
-- ==== Proof.Small.lean ====
/- The AdamW step of the small parameters, entry by entry: the gradient is the sum of the eight devices' parts. -/
module

public import proofs.«01_k».proof.Proof.Adam
public import proofs.«01_k».proof.Proof.Gen.Kernel13Ideal.Value
public import proofs.«01_k».proof.Proof.Gen.Reference13Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Small

/-- The devices' parts of the gradient at one entry, added in order; `own` is the first device's. -/
def total (own : EReal) (parts : Fin 8 → EReal) : EReal :=
  own + parts 1 + parts 2 + parts 3 + parts 4 + parts 5 + parts 6 + parts 7

end Small

namespace Cert.Kernel13Ideal.Small

open Cert.Kernel13Ideal Cert.Kernel13Ideal.Gen
open Idealize.ShloMosaic.Pipeline (Dat Window)
open _root_.Small

theorem hz : (![0, 0] : Fin 2 → Nat) = fun _ => 0 := funext fun a => by fin_cases a <;> rfl

/-- The only point's blocks are whole arrays. -/
theorem idx : ∀ t : Fin cfg0.N, (win0_0.index t = ![0, 0] ∧ win0_1.index t = ![0, 0, 0] ∧ win0_2.index t = ![0, 0] ∧ win0_3.index t = ![0, 0] ∧ win0_4.index t = ![0, 0])
    ∧ win0_5.index t = ![0, 0] ∧ win0_6.index t = ![0, 0] ∧ win0_7.index t = ![0, 0] ∧ win0_8.index t = ![0, 0] :=
  (by decide +kernel : ∀ t : Fin grid0.N, _)

section Block

variable (o : Vec Ideal S1176x128 .f32) (p : Vec Ideal S8x1176x128 .f32) (w m v : Vec Ideal S1176x128 .f32) (i : Fin 1176) (j : Fin 128)

/-- The gradient's entry. -/
abbrev entry : EReal := total (o (ix2 i j)) fun k => p (ix3 k i j)

theorem block5 : @Eq EReal (out0_5 (F := Ideal) o p w m v (ix2 i j)) (entry o p i j) := by
  unfold out0_5
  rw [View.canon_unit_zero hz]
  unfold k0_pay8 k0_pay3 k0_pay2
  simp only [View.ld_unit_zero (S := S1176x128) hz]
  pointwise
  rfl

theorem block7 : @Eq EReal (out0_7 (F := Ideal) o p w m v (ix2 i j)) (Adam.mean (entry o p i j) (m (ix2 i j))) := by
  unfold out0_7
  rw [View.canon_unit_zero hz]
  unfold k0_pay8 k0_pay4 k0_pay3 k0_pay2
  simp only [View.ld_unit_zero (S := S1176x128) hz]
  pointwise
  rfl

theorem block8 : @Eq EReal (out0_8 (F := Ideal) o p w m v (ix2 i j)) (Adam.square (entry o p i j) (v (ix2 i j))) := by
  unfold out0_8
  rw [View.canon_unit_zero hz]
  unfold k0_pay9 k0_pay8 k0_pay5 k0_pay3 k0_pay2
  simp only [View.ld_unit_zero (S := S1176x128) hz]
  pointwise
  rfl

theorem block6 : @Eq EReal (out0_6 (F := Ideal) o p w m v (ix2 i j)) (Adam.change (w (ix2 i j)) (entry o p i j) (m (ix2 i j)) (v (ix2 i j))) := by
  unfold out0_6
  rw [View.canon_unit_zero hz]
  unfold k0_pay9 k0_pay8 k0_pay7 k0_pay6 k0_pay5 k0_pay4 k0_pay3 k0_pay2 k0_pay1
  simp only [View.ld_unit_zero (S := S1176x128) hz]
  pointwise
  rfl

end Block

variable {m : (ℓ : Loc nD τ sig) → Buf (Elt Ideal) ℓ} {c : Dev nD}

theorem blk0 (t : Fin cfg0.N) (i : Fin 1176) (j : Fin 128) : iblk m c 0 t (ix2 i j) = V m c main_arg0 (ix2 i j) := by
  blk_ext [iblk, (idx t).1.1]
theorem blk1 (t : Fin cfg0.N) (k : Fin 8) (i : Fin 1176) (j : Fin 128) : iblk m c 1 t (ix3 k i j) = V m c main_arg1 (ix3 k i j) := by
  blk_ext [iblk, (idx t).1.2.1]
theorem blk2 (t : Fin cfg0.N) (i : Fin 1176) (j : Fin 128) : iblk m c 2 t (ix2 i j) = V m c main_arg2 (ix2 i j) := by
  blk_ext [iblk, (idx t).1.2.2.1]
theorem blk3 (t : Fin cfg0.N) (i : Fin 1176) (j : Fin 128) : iblk m c 3 t (ix2 i j) = V m c main_arg3 (ix2 i j) := by
  blk_ext [iblk, (idx t).1.2.2.2.1]
theorem blk4 (t : Fin cfg0.N) (i : Fin 1176) (j : Fin 128) : iblk m c 4 t (ix2 i j) = V m c main_arg4 (ix2 i j) := by
  blk_ext [iblk, (idx t).1.2.2.2.2]

/-- The gradient's entry, read from the two blocks. -/
theorem entry_eq (t : Fin cfg0.N) (i : Fin 1176) (j : Fin 128) :
    entry (iblk m c 0 t) (iblk m c 1 t) i j = entry (V m c main_arg0) (V m c main_arg1) i j :=
  congrArg₂ total (blk0 t i j) (funext fun k => blk1 t k i j)

/-- An index map at zero leaves the index. -/
theorem same (y : S1176x128.Idx) (p : Fin 2 → Nat) (h : p = ![0, 0]) (a : Fin 2) : (y a).val = p a * S1176x128.size a + 1 * (y a).val := by
  subst h
  fin_cases a
  · show (y 0).val = 0 * 1176 + 1 * (y 0).val
    omega
  · show (y 1).val = 0 * 128 + 1 * (y 1).val
    omega

/-- The gradient, summed. -/
theorem final5 : (dats m 0 c).arrAt 5 (cfgs 0).N = fun j => entry (m ((c : Thread nD τ).loc main_arg0)) (m ((c : Thread nD τ).loc main_arg1)) (j 0) (j 1) := by
  refine (dats m 0 c).arrAt_eq_of_covers 5 _ (by decide +kernel) fun t _ y => ?_
  blk_simp
  have h : y = (win0_5.blk t).view.emb y := funext fun a => Fin.ext (same y _ (idx t).2.1 a)
  rw [after0_5, ← h]
  obtain ⟨i, j, rfl⟩ : ∃ i j, y = ix2 i j := ⟨_, _, eq_ix2 y⟩
  refine (block5 _ _ _ _ _ i j).trans ?_
  rw [entry_eq, V_main_arg0, V_main_arg1]
  rfl

/-- The parameters' change. -/
theorem final6 : (dats m 0 c).arrAt 6 (cfgs 0).N = fun j => Adam.change (m ((c : Thread nD τ).loc main_arg2) j) (entry (m ((c : Thread nD τ).loc main_arg0)) (m ((c : Thread nD τ).loc main_arg1)) (j 0) (j 1)) (m ((c : Thread nD τ).loc main_arg3) j) (m ((c : Thread nD τ).loc main_arg4) j) := by
  refine (dats m 0 c).arrAt_eq_of_covers 6 _ (by decide +kernel) fun t _ y => ?_
  blk_simp
  have h : y = (win0_6.blk t).view.emb y := funext fun a => Fin.ext (same y _ (idx t).2.2.1 a)
  rw [after0_6, ← h]
  obtain ⟨i, j, rfl⟩ : ∃ i j, y = ix2 i j := ⟨_, _, eq_ix2 y⟩
  refine (block6 _ _ _ _ _ i j).trans ?_
  rw [entry_eq, blk2, blk3, blk4, V_main_arg0, V_main_arg1, V_main_arg2, V_main_arg3, V_main_arg4]
  rfl

/-- The new running means. -/
theorem final7 : (dats m 0 c).arrAt 7 (cfgs 0).N = fun j => Adam.mean (entry (m ((c : Thread nD τ).loc main_arg0)) (m ((c : Thread nD τ).loc main_arg1)) (j 0) (j 1)) (m ((c : Thread nD τ).loc main_arg3) j) := by
  refine (dats m 0 c).arrAt_eq_of_covers 7 _ (by decide +kernel) fun t _ y => ?_
  blk_simp
  have h : y = (win0_7.blk t).view.emb y := funext fun a => Fin.ext (same y _ (idx t).2.2.2.1 a)
  rw [after0_7, ← h]
  obtain ⟨i, j, rfl⟩ : ∃ i j, y = ix2 i j := ⟨_, _, eq_ix2 y⟩
  refine (block7 _ _ _ _ _ i j).trans ?_
  rw [entry_eq, blk3, V_main_arg0, V_main_arg1, V_main_arg3]
  rfl

/-- The new running squares. -/
theorem final8 : (dats m 0 c).arrAt 8 (cfgs 0).N = fun j => Adam.square (entry (m ((c : Thread nD τ).loc main_arg0)) (m ((c : Thread nD τ).loc main_arg1)) (j 0) (j 1)) (m ((c : Thread nD τ).loc main_arg4) j) := by
  refine (dats m 0 c).arrAt_eq_of_covers 8 _ (by decide +kernel) fun t _ y => ?_
  blk_simp
  have h : y = (win0_8.blk t).view.emb y := funext fun a => Fin.ext (same y _ (idx t).2.2.2.2 a)
  rw [after0_8, ← h]
  obtain ⟨i, j, rfl⟩ : ∃ i j, y = ix2 i j := ⟨_, _, eq_ix2 y⟩
  refine (block8 _ _ _ _ _ i j).trans ?_
  rw [entry_eq, blk4, V_main_arg0, V_main_arg1, V_main_arg4]
  rfl

end Cert.Kernel13Ideal.Small

namespace Cert.Reference13Ideal.Small

open Cert.Reference13Ideal Cert.Reference13Ideal.Gen
open _root_.Small

variable (o : FVec Ideal S1176x128 .f32) (p : FVec Ideal S8x1176x128 .f32) (w m v : FVec Ideal S1176x128 .f32) (i : Fin 1176) (j : Fin 128)

/-- The reference's gradient. -/
abbrev grad : FVec Ideal S1176x128 .f32 :=
  addf o (Host.reduceAdd (extractStridedSlice S7x1176x128 ![1, 0, 0] p slices_S8x1176x128_S7x1176x128_1_0_0) (constant S_ .f32 0x00000000#32) reducesTo_S7x1176x128_S1176x128_d0 h_S_)

/-- The reference adds the seven other parts first. -/
theorem grad_eq : @Eq EReal (grad o p (ix2 i j)) (total (o (ix2 i j)) fun k => p (ix3 k i j)) := by
  unfold grad
  clean_types; pointwise
  rw [Fin.sum_univ_seven]
  unfold total
  simp only [← add_assoc]
  rfl

theorem mean : @Eq EReal ((addf (mulf (broadcastInDim S1176x128 ![] bcast_S_S1176x128 (constant S_ .f32 0x3F666666#32)) m) (mulf (broadcastInDim S1176x128 ![] bcast_S_S1176x128 (constant S_ .f32 0x3DCCCCCD#32)) (grad o p))) (ix2 i j)) (Adam.mean (total (o (ix2 i j)) fun k => p (ix3 k i j)) (m (ix2 i j))) := by
  refine Eq.trans (b := Adam.mean (grad o p (ix2 i j)) (m (ix2 i j))) ?_ (congrArg (fun g : EReal => Adam.mean g (m (ix2 i j))) (grad_eq o p i j))
  generalize grad o p = g
  clean_types; pointwise
  rfl

theorem square : @Eq EReal ((addf (mulf (broadcastInDim S1176x128 ![] bcast_S_S1176x128 (constant S_ .f32 0x3F7FBE77#32)) v) (mulf (broadcastInDim S1176x128 ![] bcast_S_S1176x128 (constant S_ .f32 0x3A83126F#32)) (mulf (grad o p) (grad o p)))) (ix2 i j)) (Adam.square (total (o (ix2 i j)) fun k => p (ix3 k i j)) (v (ix2 i j))) := by
  refine Eq.trans (b := Adam.square (grad o p (ix2 i j)) (v (ix2 i j))) ?_ (congrArg (fun g : EReal => Adam.square g (v (ix2 i j))) (grad_eq o p i j))
  generalize grad o p = g
  clean_types; pointwise
  rfl

theorem change : @Eq EReal ((mulf (broadcastInDim S1176x128 ![] bcast_S_S1176x128 (constant S_ .f32 0xBA83126F#32)) (addf (Host.divf (Host.divf (addf (mulf (broadcastInDim S1176x128 ![] bcast_S_S1176x128 (constant S_ .f32 0x3F666666#32)) m) (mulf (broadcastInDim S1176x128 ![] bcast_S_S1176x128 (constant S_ .f32 0x3DCCCCCD#32)) (grad o p))) (broadcastInDim S1176x128 ![] bcast_S_S1176x128 (constant S_ .f32 0x3F26BD02#32))) (addf (Host.sqrt (Host.divf (addf (mulf (broadcastInDim S1176x128 ![] bcast_S_S1176x128 (constant S_ .f32 0x3F7FBE77#32)) v) (mulf (broadcastInDim S1176x128 ![] bcast_S_S1176x128 (constant S_ .f32 0x3A83126F#32)) (mulf (grad o p) (grad o p)))) (broadcastInDim S1176x128 ![] bcast_S_S1176x128 (constant S_ .f32 0x3C231ACC#32)))) (broadcastInDim S1176x128 ![] bcast_S_S1176x128 (constant S_ .f32 0x322BCC77#32)))) (mulf (broadcastInDim S1176x128 ![] bcast_S_S1176x128 (constant S_ .f32 0x3C23D70A#32)) w))) (ix2 i j)) (Adam.change (w (ix2 i j)) (total (o (ix2 i j)) fun k => p (ix3 k i j)) (m (ix2 i j)) (v (ix2 i j))) := by
  refine Eq.trans (b := Adam.change (w (ix2 i j)) (grad o p (ix2 i j)) (m (ix2 i j)) (v (ix2 i j))) ?_ (congrArg (fun g : EReal => Adam.change (w (ix2 i j)) g (m (ix2 i j)) (v (ix2 i j))) (grad_eq o p i j))
  generalize grad o p = g
  clean_types; pointwise
  rfl

end Cert.Reference13Ideal.Small

end
-- ==== Proof.SmallCall.lean ====
/- The AdamW step of the small parameters: the call leaves the reference's entries, with nothing assumed of its arguments. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Small
public import Idealize.ShloMosaic.Adequacy
public import Idealize.ShloMosaic.Init

@[expose] public section

set_option maxHeartbeats 8000000

noncomputable section

namespace Cert.SmallCall

open Idealize.ShloMosaic Idealize.SL.Sem Idealize.ShloMosaic.StableHlo

theorem frame : Cert.quiescent_Kernel13 := fun m g _ => Cert.Kernel13.Gen.frame m g

theorem frame_ideal : Cert.quiescent_Kernel13Ideal := fun m g _ => Cert.Kernel13Ideal.Gen.frame m g

theorem frame_reference : Cert.quiescent_Reference13Ideal := fun m g _ =>
  (θ_run Cert.Reference13Ideal.defs _ _).mono (fun r h => ⟨fun c => (h c).2.2.2.2, Idealize.ShloMosaic.sem_eq_zero_of_no_sems (by decide) r.2⟩)
    (Cert.Reference13Ideal.Value.run m g)

theorem algebraic : Cert.algebraic_Kernel13Ideal_Reference13Ideal := by
  intro m g m' g' _ e
  refine ⟨fun c j => (Cert.Kernel13Ideal.Small.entry (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (j 0) (j 1)),
    fun c j => Adam.change (m ((c.tc : Thread Cert.Kernel13Ideal.nD Cert.Kernel13Ideal.τ).loc Cert.Kernel13Ideal.main_arg2) j) (Cert.Kernel13Ideal.Small.entry (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (j 0) (j 1)) (m ((c.tc : Thread Cert.Kernel13Ideal.nD Cert.Kernel13Ideal.τ).loc Cert.Kernel13Ideal.main_arg3) j) (m ((c.tc : Thread Cert.Kernel13Ideal.nD Cert.Kernel13Ideal.τ).loc Cert.Kernel13Ideal.main_arg4) j),
    fun c j => Adam.mean (Cert.Kernel13Ideal.Small.entry (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (j 0) (j 1)) (m ((c.tc : Thread Cert.Kernel13Ideal.nD Cert.Kernel13Ideal.τ).loc Cert.Kernel13Ideal.main_arg3) j),
    fun c j => Adam.square (Cert.Kernel13Ideal.Small.entry (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (j 0) (j 1)) (m ((c.tc : Thread Cert.Kernel13Ideal.nD Cert.Kernel13Ideal.τ).loc Cert.Kernel13Ideal.main_arg4) j),
    (θ_run _ _ _).mono (fun _ h c => ⟨(h c).1.trans Cert.Kernel13Ideal.Small.final5, (h c).2.1.trans Cert.Kernel13Ideal.Small.final6, (h c).2.2.1.trans Cert.Kernel13Ideal.Small.final7, (h c).2.2.2.1.trans Cert.Kernel13Ideal.Small.final8, (h c).2.2.2.2⟩) (Cert.Kernel13Ideal.Value.run_blocks m g),
    (θ_run _ _ _).mono (fun _ r c => ⟨(r c).1.trans (funext fun j => ?_), (r c).2.1.trans (funext fun j => ?_), (r c).2.2.1.trans (funext fun j => ?_), (r c).2.2.2.1.trans (funext fun j => ?_), (r c).2.2.2.2⟩) (Cert.Reference13Ideal.Value.run m' g')⟩
  all_goals obtain ⟨e0, e1, e2, e3, e4⟩ := e c
  all_goals rw [eq_ix2 j]
  · refine (Cert.Reference13Ideal.Small.grad_eq _ _ _ _).trans ?_
    rw [e0, e1]
    rfl
  · refine (Cert.Reference13Ideal.Small.change _ _ _ _ _ _ _).trans ?_
    rw [e0, e1, e2, e3, e4]
    rfl
  · refine (Cert.Reference13Ideal.Small.mean _ _ _ _ _).trans ?_
    rw [e0, e1, e3]
    rfl
  · refine (Cert.Reference13Ideal.Small.square _ _ _ _ _).trans ?_
    rw [e0, e1, e4]
    rfl

end Cert.SmallCall

end
-- ==== Proof.Runs.lean ====
/- Products whose long sum is cut into runs: the sum of the runs' products is the whole product. -/
module

public import proofs.«01_k».proof.Proof.Product

@[expose] public section

noncomputable section

namespace Ffn

open Idealize.ShloMosaic

/-- The array `x · y`. -/
def prod {p q s : ℕ} (x : Arr p q) (y : Arr q s) : Arr p s := fun j => dot x y (j 0) (j 1)

/-- The array `x · yᵀ`. -/
def prodT {p q s : ℕ} (x : Arr p q) (y : Arr s q) : Arr p s := fun j => dotT x y (j 0) (j 1)

/-- The array `xᵀ · y`. -/
def tprod {p q s : ℕ} (x : Arr q p) (y : Arr q s) : Arr p s := fun j => tdot x y (j 0) (j 1)

/-- Place `k` of run `q`, of `n` runs of `w` places. -/
def spot {n w N : ℕ} (h : n * w = N) (q : Fin n) (k : Fin w) : Fin N :=
  ⟨q.val * w + k.val, by
    have a : (q.val + 1) * w ≤ n * w := Nat.mul_le_mul_right w q.isLt
    rw [Nat.add_mul, Nat.one_mul] at a
    have := k.isLt
    omega⟩

theorem sum_runs {n w N : ℕ} (h : n * w = N) (f : Fin N → EReal) : ∑ q, ∑ k, f (spot h q k) = ∑ k, f k := by
  subst h
  rw [← Equiv.sum_comp finProdFinEquiv, Fintype.sum_prod_type]
  refine Finset.sum_congr rfl fun q _ => Finset.sum_congr rfl fun k _ => congrArg f (Fin.ext ?_)
  show q.val * w + k.val = k.val + w * q.val
  rw [Nat.mul_comm, Nat.add_comm]

variable {p s a b : ℕ} {i : Fin a} {j : Fin b} {i' : Fin p} {j' : Fin s}

/-- A block's product is the array's where the block's row and column are the array's. -/
theorem dot_block {q : ℕ} {x : Arr p q} {y : Arr q s} {x' : Arr a q} {y' : Arr q b} (hx : ∀ k, x' (ix2 i k) = x (ix2 i' k)) (hy : ∀ k, y' (ix2 k j) = y (ix2 k j')) :
    dot x' y' i j = dot x y i' j' :=
  Finset.sum_congr rfl fun k _ => mul_eq (hx k) (hy k)

theorem dotT_block {q : ℕ} {x : Arr p q} {y : Arr s q} {x' : Arr a q} {y' : Arr b q} (hx : ∀ k, x' (ix2 i k) = x (ix2 i' k)) (hy : ∀ k, y' (ix2 j k) = y (ix2 j' k)) :
    dotT x' y' i j = dotT x y i' j' :=
  Finset.sum_congr rfl fun k _ => mul_eq (hx k) (hy k)

/-- The runs' products add up to the whole product. -/
theorem tdot_runs {n w N : ℕ} (h : n * w = N) {x : Arr N p} {y : Arr N s} {xs : Fin n → Arr w a} {ys : Fin n → Arr w b}
    (hx : ∀ q k, xs q (ix2 k i) = x (ix2 (spot h q k) i')) (hy : ∀ q k, ys q (ix2 k j) = y (ix2 (spot h q k) j')) :
    ∑ q, tdot (xs q) (ys q) i j = tdot x y i' j' := by
  refine Eq.trans ?_ (sum_runs h fun k => x (ix2 k i') * y (ix2 k j'))
  exact Finset.sum_congr rfl fun q _ => Finset.sum_congr rfl fun k _ => mul_eq (hx q k) (hy q k)

theorem dotT_runs {n w N : ℕ} (h : n * w = N) {x : Arr p N} {y : Arr s N} {xs : Fin n → Arr a w} {ys : Fin n → Arr b w}
    (hx : ∀ q k, xs q (ix2 i k) = x (ix2 i' (spot h q k))) (hy : ∀ q k, ys q (ix2 j k) = y (ix2 j' (spot h q k))) :
    ∑ q, dotT (xs q) (ys q) i j = dotT x y i' j' := by
  refine Eq.trans ?_ (sum_runs h fun k => x (ix2 i' k) * y (ix2 j' k))
  exact Finset.sum_congr rfl fun q _ => Finset.sum_congr rfl fun k _ => mul_eq (hx q k) (hy q k)

end Ffn

end
-- ==== Proof.Proj14.lean ====
/- The first mixer's output projection: rows times weights, one block of 1024 rows at a grid point. -/
module

public import proofs.«01_k».proof.Proof.Runs
public import proofs.«01_k».proof.Proof.Gen.Kernel14Ideal.Value
public import proofs.«01_k».proof.Proof.Gen.Reference14Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel14Ideal.Proj

open Cert.Kernel14Ideal Cert.Kernel14Ideal.Gen
open _root_.Ffn
open Idealize.ShloMosaic.Pipeline (Dat Window)

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)

theorem i_lt (t : Fin cfg0.N) : (grid0.coords t 0).val < 4 := (grid0.coords t 0).isLt

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨(grid0.coords t 0).val * 1024 + a.val, by have := i_lt t; omega⟩ k) := by
  blk_ext [iblk, idx0 t]

theorem blk1 (t : Fin cfg0.N) (k : Fin 2048) (b : Fin 2048) : iblk m c 1 t (ix2 k b) = V m c main_arg1 (ix2 k b) := by
  blk_ext [iblk, idx1 t]

/-- What a grid point writes, from the two blocks it reads. -/
theorem block (x : Vec Ideal S1024x2048 .bf16) (w : Vec Ideal S2048x2048 .bf16) (y : S1024x2048.Idx) :
    @Eq EReal (out0_2 (F := Ideal) x w y) (dot x w (y 0) (y 1)) := by
  unfold out0_2
  canon_tiles z hz
  open_payloads
  pointwise
  rw [show z 0 = y 0 from Fin.ext hz0.symm, show z 1 = y 1 from Fin.ext hz1.symm]
  rfl

/-- The array after the run. -/
theorem final : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  refine (block _ _ y).trans ?_
  have e0 : win0_2.index t 0 = (grid0.coords t 0).val := by rw [idx2 t]; rfl
  have e1 : win0_2.index t 1 = 0 := by rw [idx2 t]; rfl
  refine dot_block (fun k => (blk0 t (y 0) k).trans ?_) fun k => (blk1 t k (y 1)).trans ?_
  · rw [V_main_arg0]
    refine congrArg _ (congrArg (ix2 · k) (Fin.ext ?_))
    show (grid0.coords t 0).val * 1024 + (y 0).val = win0_2.index t 0 * 1024 + 1 * (y 0).val
    rw [e0, Nat.one_mul]
  · rw [V_main_arg1]
    refine congrArg _ (congrArg (ix2 k ·) (Fin.ext ?_))
    show (y 1).val = win0_2.index t 1 * 2048 + 1 * (y 1).val
    rw [e1, Nat.one_mul, Nat.zero_mul, Nat.zero_add]

end Cert.Kernel14Ideal.Proj

namespace Cert.Reference14Ideal.Proj

open Cert.Reference14Ideal Cert.Reference14Ideal.Gen
open _root_.Ffn

/-- The reference's entry. -/
theorem value (x : FVec Ideal S4096x2048 .bf16) (w : FVec Ideal S2048x2048 .bf16) :
    truncf .bf16 (Host.dotGeneral dot_S4096x2048_S2048x2048_S4096x2048_1_0_0_1_n_n none (extf .f32 x bitsLt_bf16_f32) (extf .f32 w bitsLt_bf16_f32)) bitsLt_bf16_f32
      = prod x w := by
  funext j
  clean_types; pointwise
  rfl

end Cert.Reference14Ideal.Proj

end
-- ==== Proof.Proj15.lean ====
/- The gradient of the mixer's mixed rows: the output rows' gradient times the transposed weights, one block of 1024 rows at a grid point. -/
module

public import proofs.«01_k».proof.Proof.Runs
public import proofs.«01_k».proof.Proof.Gen.Kernel15Ideal.Value
public import proofs.«01_k».proof.Proof.Gen.Reference15Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel15Ideal.Proj

open Cert.Kernel15Ideal Cert.Kernel15Ideal.Gen
open _root_.Ffn
open Idealize.ShloMosaic.Pipeline (Dat Window)

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0] := (by decide +kernel : ∀ t : Fin grid0.N, _)

theorem i_lt (t : Fin cfg0.N) : (grid0.coords t 0).val < 4 := (grid0.coords t 0).isLt

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨(grid0.coords t 0).val * 1024 + a.val, by have := i_lt t; omega⟩ k) := by
  blk_ext [iblk, idx0 t]

theorem blk1 (t : Fin cfg0.N) (b : Fin 2048) (k : Fin 2048) : iblk m c 1 t (ix2 b k) = V m c main_arg1 (ix2 b k) := by
  blk_ext [iblk, idx1 t]

/-- What a grid point writes, from the two blocks it reads. -/
theorem block (x : Vec Ideal S1024x2048 .bf16) (w : Vec Ideal S2048x2048 .bf16) (y : S1024x2048.Idx) :
    @Eq EReal (out0_2 (F := Ideal) x w y) (dotT x w (y 0) (y 1)) := by
  unfold out0_2
  canon_tiles z hz
  open_payloads
  pointwise
  rw [show z 0 = y 0 from Fin.ext hz0.symm, show z 1 = y 1 from Fin.ext hz1.symm]
  rfl

/-- The array after the run. -/
theorem final : (dats m 0 c).arrAt 2 (cfgs 0).N = prodT (m ((c : Thread nD τ).loc main_arg0)) (m ((c : Thread nD τ).loc main_arg1)) := by
  refine (dats m 0 c).arrAt_eq_of_covers 2 _ (by decide +kernel) fun t _ y => ?_
  blk_simp
  rw [after0_2]
  refine (block _ _ y).trans ?_
  have e0 : win0_2.index t 0 = (grid0.coords t 0).val := by rw [idx2 t]; rfl
  have e1 : win0_2.index t 1 = 0 := by rw [idx2 t]; rfl
  refine dotT_block (fun k => (blk0 t (y 0) k).trans ?_) fun k => (blk1 t (y 1) k).trans ?_
  · rw [V_main_arg0]
    refine congrArg _ (congrArg (ix2 · k) (Fin.ext ?_))
    show (grid0.coords t 0).val * 1024 + (y 0).val = win0_2.index t 0 * 1024 + 1 * (y 0).val
    rw [e0, Nat.one_mul]
  · rw [V_main_arg1]
    refine congrArg _ (congrArg (ix2 · k) (Fin.ext ?_))
    show (y 1).val = win0_2.index t 1 * 2048 + 1 * (y 1).val
    rw [e1, Nat.one_mul, Nat.zero_mul, Nat.zero_add]

end Cert.Kernel15Ideal.Proj

namespace Cert.Reference15Ideal.Proj

open Cert.Reference15Ideal Cert.Reference15Ideal.Gen
open _root_.Ffn

/-- The reference's entry. -/
theorem value (x : FVec Ideal S4096x2048 .bf16) (w : FVec Ideal S2048x2048 .bf16) :
    truncf .bf16 (Host.dotGeneral dot_S4096x2048_S2048x2048_S4096x2048_1_1_0_0_n_n none (extf .f32 x bitsLt_bf16_f32) (extf .f32 w bitsLt_bf16_f32)) bitsLt_bf16_f32
      = prodT x w := by
  funext j
  clean_types; pointwise
  rfl

end Cert.Reference15Ideal.Proj

end
-- ==== Proof.Proj16.lean ====
/- The gradient of the first mixer's output weights: `xᵀ · dy`, summed over the 4096 rows two runs of 2048 at a time. Two grid
   points fill a block: the first starts the running sum, the second adds its run's terms and writes the sum out. -/
module

public import proofs.«01_k».proof.Proof.Runs
public import proofs.«01_k».proof.Proof.Gen.Kernel16Ideal.Value
public import proofs.«01_k».proof.Proof.Gen.Reference16Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel16Ideal.Proj

open Cert.Kernel16Ideal Cert.Kernel16Ideal.Gen
open _root_.Ffn
open Idealize.ShloMosaic.Pipeline (Dat Window)

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem hz : (![0, 0] : Fin 2 → Nat) = fun _ => 0 := funext fun a => by fin_cases a <;> rfl

section Body

variable (c : Dev nD) (i : grid0.Coords) (a : Memref sig .tc .vmem S2048x1024 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a block leaves its product in the running sum. -/
theorem sum_A (h0 : cond0_0 i) (h1 : ¬cond0_1 i) (h2 : ¬cond0_2 i) (x : Vec Ideal S2048x1024 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x1024) hz, View.ld_unit_zero (S := S2048x2048) hz, shapeCast_self]

/-- The second point writes the running sum with its product added. -/
theorem out_B (h0 : ¬cond0_0 i) (h1 : cond0_1 i) (h2 : cond0_2 i) (x : Vec Ideal S2048x1024 .bf16) (w : Vec Ideal S2048x2048 .bf16) (r : Vec Ideal S1024x2048 .f32) :
    out0_B_2 (F := Ideal) c i a ha b hb o ho s hs h0 h1 h2 x w r = k0_pay3 (k0_pay2 r x w) := by
  unfold out0_B_2
  rw [View.read_writes_eq_canon _ _ _ (cover0_B_2 c i a ha b hb o ho s hs h0 h1 h2 x w r)]
  unfold kernelRun0_B
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x1024) hz, View.ld_unit_zero (S := S2048x2048) hz, shapeCast_self]

end Body

theorem pay1 (x : Vec Ideal S2048x1024 .bf16) (w : Vec Ideal S2048x2048 .bf16) (y : S1024x2048.Idx) :
    @Eq EReal (k0_pay1 (F := Ideal) x w y) (tdot x w (y 0) (y 1)) := by
  unfold k0_pay1
  pointwise
  rfl

theorem pay2 (r : Vec Ideal S1024x2048 .f32) (x : Vec Ideal S2048x1024 .bf16) (w : Vec Ideal S2048x2048 .bf16) (y : S1024x2048.Idx) :
    @Eq EReal (k0_pay2 (F := Ideal) r x w y) (@HAdd.hAdd EReal EReal EReal _ (r y) (tdot x w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem runs : 2 * 2048 = 4096 := rfl

theorem blk0 (t : Fin cfg0.N) (q : Fin 2) (h : t.val % 2 = q.val) (k : Fin 2048) (a : Fin 1024) (i : Fin 2048) (hi : t.val / 2 * 1024 + a.val = i.val) :
    iblk m c 0 t (ix2 k a) = m ((c : Thread nD τ).loc main_arg0) (ix2 (spot runs q k) i) := by
  have e : iblk m c 0 t (ix2 k a) = V m c main_arg0 (ix2 ⟨t.val % 2 * 2048 + k.val, by omega⟩ ⟨t.val / 2 * 1024 + a.val, by omega⟩) := by
    blk_ext [iblk, idx0 t]
  rw [show spot runs q k = ⟨t.val % 2 * 2048 + k.val, by omega⟩ from Fin.ext (congrArg (· * 2048 + k.val) h.symm), show i = ⟨t.val / 2 * 1024 + a.val, by omega⟩ from Fin.ext hi.symm, e, V_main_arg0]

theorem blk1 (t : Fin cfg0.N) (q : Fin 2) (h : t.val % 2 = q.val) (k : Fin 2048) (b : Fin 2048) :
    iblk m c 1 t (ix2 k b) = m ((c : Thread nD τ).loc main_arg1) (ix2 (spot runs q k) b) := by
  have e : iblk m c 1 t (ix2 k b) = V m c main_arg1 (ix2 ⟨t.val % 2 * 2048 + k.val, by omega⟩ b) := by
    blk_ext [iblk, idx1 t]
  rw [show spot runs q k = ⟨t.val % 2 * 2048 + k.val, by omega⟩ from Fin.ext (congrArg (· * 2048 + k.val) h.symm), e, V_main_arg1]

theorem first (t : Fin cfg0.N) (h : t.val % 2 = 0) (y : S1024x2048.Idx) :
    @Eq EReal ((outsAt0 m c t.val t.isLt).2 y) (tdot (iblk m c 0 t) (iblk m c 1 t) (y 0) (y 1)) := by
  rw [outsAt0_A m c t h (by omega) (by omega)]
  dsimp only
  rw [sum_A]
  exact pay1 _ _ y

theorem second (t : Fin cfg0.N) (h : t.val % 2 = 1) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (tdot (iblk m c 0 t) (iblk m c 1 t) (y 0) (y 1))) := by
  rw [outsAt0_B m c t (by omega) h h]
  dsimp only
  rw [out_B]
  exact (pay3 _ y).trans (pay2 _ _ _ y)

/-- The block the second point writes. -/
theorem block (t : Fin cfg0.N) (h : t.val % 2 = 1) (y : S1024x2048.Idx) (i : Fin 2048) (hi : t.val / 2 * 1024 + (y 0).val = i.val) :
    @Eq EReal ((outsAt0 m c t.val t.isLt).1 y) (tdot (m ((c : Thread nD τ).loc main_arg0)) (m ((c : Thread nD τ).loc main_arg1)) i (y 1)) := by
  have l : t.val - 1 < cfg0.N := Nat.lt_of_le_of_lt (Nat.sub_le _ _) t.isLt
  have e : (t.val - 1) / 2 = t.val / 2 := by omega
  refine (second t h y).trans ((add_eq (first ⟨t.val - 1, l⟩ (by dsimp only; omega) y) rfl).trans ((Fin.sum_univ_two _).symm.trans
    (tdot_runs runs (xs := ![iblk m c 0 ⟨t.val - 1, l⟩, iblk m c 0 t]) (ys := ![iblk m c 1 ⟨t.val - 1, l⟩, iblk m c 1 t]) ?_ ?_)))
  · refine Fin.forall_fin_two.mpr ⟨fun k => blk0 ⟨t.val - 1, l⟩ 0 ?_ k (y 0) i ?_, fun k => blk0 t 1 h k (y 0) i hi⟩
    · show (t.val - 1) % 2 = 0
      omega
    · show (t.val - 1) / 2 * 1024 + (y 0).val = i.val
      rw [e, hi]
  · refine Fin.forall_fin_two.mpr ⟨fun k => blk1 ⟨t.val - 1, l⟩ 0 ?_ k (y 1), fun k => blk1 t 1 h k (y 1)⟩
    show (t.val - 1) % 2 = 0
    omega

/-- The array after the run. -/
theorem final : (dats m 0 c).arrAt 2 (cfgs 0).N = tprod (m ((c : Thread nD τ).loc main_arg0)) (m ((c : Thread nD τ).loc main_arg1)) := by
  refine (dats m 0 c).arrAt_eq_of_covers 2 _ (by decide +kernel) fun t hf y => ?_
  blk_simp
  rw [after0_2]
  have e0 : win0_2.index t 0 = t.val / 2 := by rw [idx2 t]; rfl
  have e1 : win0_2.index t 1 = 0 := by rw [idx2 t]; rfl
  refine (block t ((flush0_2 t).mp hf) y (((win0_2.blk t).view.emb y) 0) ?_).trans ?_
  · show _ = win0_2.index t 0 * 1024 + 1 * (y 0).val
    rw [e0, Nat.one_mul]
  · refine congrArg (tdot _ _ _) (Fin.ext ?_)
    show (y 1).val = win0_2.index t 1 * 2048 + 1 * (y 1).val
    rw [e1, Nat.one_mul, Nat.zero_mul, Nat.zero_add]

end Cert.Kernel16Ideal.Proj

namespace Cert.Reference16Ideal.Proj

open Cert.Reference16Ideal Cert.Reference16Ideal.Gen
open _root_.Ffn

/-- The reference's entry: the same products, each taken in the other order. -/
theorem value (x : FVec Ideal S4096x2048 .bf16) (d : FVec Ideal S4096x2048 .bf16) :
    truncf .bf16 (transpose S2048x2048 [1, 0] (Host.dotGeneral dot_S4096x2048_S4096x2048_S2048x2048_0_0_1_1_n_n none (extf .f32 d bitsLt_bf16_f32) (extf .f32 x bitsLt_bf16_f32)) transposes_S2048x2048_S2048x2048_1_0) bitsLt_bf16_f32
      = tprod x d := by
  funext j
  clean_types; pointwise
  exact Finset.sum_congr rfl fun k _ => mul_comm _ _

end Cert.Reference16Ideal.Proj

end
-- ==== Proof.Proj17.lean ====
/- The first mixer's input projection: rows times weights, in blocks of 1024 rows by 1280 columns. -/
module

public import proofs.«01_k».proof.Proof.Runs
public import proofs.«01_k».proof.Proof.Gen.Kernel17Ideal.Value
public import proofs.«01_k».proof.Proof.Gen.Reference17Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel17Ideal.Proj

open Cert.Kernel17Ideal Cert.Kernel17Ideal.Gen
open _root_.Ffn
open Idealize.ShloMosaic.Pipeline (Dat Window)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

theorem i_lt (t : Fin cfg0.N) : (grid0.coords t 0).val < 4 := (grid0.coords t 0).isLt
theorem j_lt (t : Fin cfg0.N) : (grid0.coords t 1).val < 4 := (grid0.coords t 1).isLt

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨(grid0.coords t 0).val * 1024 + a.val, by have := i_lt t; omega⟩ k) := by
  blk_ext [iblk, idx0 t]

theorem blk1 (t : Fin cfg0.N) (k : Fin 2048) (b : Fin 1280) :
    iblk m c 1 t (ix2 k b) = V m c main_arg1 (ix2 k ⟨(grid0.coords t 1).val * 1280 + b.val, by have := j_lt t; omega⟩) := by
  blk_ext [iblk, idx1 t]

/-- What a grid point writes, from the two blocks it reads. -/
theorem block (x : Vec Ideal S1024x2048 .bf16) (w : Vec Ideal S2048x1280 .bf16) (y : S1024x1280.Idx) :
    @Eq EReal (out0_2 (F := Ideal) x w y) (dot x w (y 0) (y 1)) := by
  unfold out0_2
  canon_tiles z hz
  open_payloads
  pointwise
  rw [show z 0 = y 0 from Fin.ext hz0.symm, show z 1 = y 1 from Fin.ext hz1.symm]
  rfl

/-- The array after the run. -/
theorem final : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  refine (block _ _ y).trans ?_
  have e0 : win0_2.index t 0 = (grid0.coords t 0).val := by rw [idx2 t]; rfl
  have e1 : win0_2.index t 1 = (grid0.coords t 1).val := by rw [idx2 t]; rfl
  refine dot_block (fun k => (blk0 t (y 0) k).trans ?_) fun k => (blk1 t k (y 1)).trans ?_
  · rw [V_main_arg0]
    refine congrArg _ (congrArg (ix2 · k) (Fin.ext ?_))
    show (grid0.coords t 0).val * 1024 + (y 0).val = win0_2.index t 0 * 1024 + 1 * (y 0).val
    rw [e0, Nat.one_mul]
  · rw [V_main_arg1]
    refine congrArg _ (congrArg (ix2 k ·) (Fin.ext ?_))
    show (grid0.coords t 1).val * 1280 + (y 1).val = win0_2.index t 1 * 1280 + 1 * (y 1).val
    rw [e1, Nat.one_mul]

end Cert.Kernel17Ideal.Proj

namespace Cert.Reference17Ideal.Proj

open Cert.Reference17Ideal Cert.Reference17Ideal.Gen
open _root_.Ffn

/-- The reference's entry. -/
theorem value (x : FVec Ideal S4096x2048 .bf16) (w : FVec Ideal S2048x5120 .bf16) :
    truncf .bf16 (Host.dotGeneral dot_S4096x2048_S2048x5120_S4096x5120_1_0_0_1_n_n none (extf .f32 x bitsLt_bf16_f32) (extf .f32 w bitsLt_bf16_f32)) bitsLt_bf16_f32
      = prod x w := by
  funext j
  clean_types; pointwise
  rfl

end Cert.Reference17Ideal.Proj

end
-- ==== Proof.Proj18.lean ====
/- The gradient of the first mixer's input rows: `dy · wᵀ`, summed over the 5120 columns four runs of 1280 at a time. Four grid
   points fill a block: the first starts the running sum, the next two add their runs' terms, the last adds its own and writes the sum out. -/
module

public import proofs.«01_k».proof.Proof.Runs
public import proofs.«01_k».proof.Proof.Gen.Kernel18Ideal.Value
public import proofs.«01_k».proof.Proof.Gen.Reference18Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel18Ideal.Proj

open Cert.Kernel18Ideal Cert.Kernel18Ideal.Gen
open _root_.Ffn
open Idealize.ShloMosaic.Pipeline (Dat Window)

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)

theorem hz : (![0, 0] : Fin 2 → Nat) = fun _ => 0 := funext fun a => by fin_cases a <;> rfl

section Body

variable (c : Dev nD) (i : grid0.Coords) (a : Memref sig .tc .vmem S1024x1280 .bf16) (ha : a.IsWhole) (b : Memref sig .tc .vmem S2048x1280 .bf16) (hb : b.IsWhole)
    (o : Memref sig .tc .vmem S1024x2048 .bf16) (ho : o.IsWhole) (s : Memref sig .tc .vmem S1024x2048 .f32) (hs : s.IsWhole)

/-- The first point of a run leaves its product in the running sum. -/
theorem sum_A (h0 : cond0_0 i) (h1 : ¬cond0_1 i) (h2 : ¬cond0_2 i) (x : Vec Ideal S1024x1280 .bf16) (w : Vec Ideal S2048x1280 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S1024x1280) hz, View.ld_unit_zero (S := S2048x1280) hz, shapeCast_self]

/-- A later point adds its product to the running sum. -/
theorem sum_B (h0 : ¬cond0_0 i) (h1 : cond0_1 i) (h2 : ¬cond0_2 i) (x : Vec Ideal S1024x1280 .bf16) (w : Vec Ideal S2048x1280 .bf16) (r : Vec Ideal S1024x2048 .f32) :
    sout0_B_0 (F := Ideal) c i a ha b hb o ho s hs h0 h1 h2 x w r = k0_pay2 r x w := by
  unfold sout0_B_0
  rw [View.read_writes_eq_canon _ _ _ (scover0_B_0 c i a ha b hb o ho s hs h0 h1 h2 x w r)]
  unfold kernelRun0_B
  dsimp only
  rw [View.canon_unit_zero hz]
  simp only [View.readAt_eq_ld, ha.read_unread, hb.read_unread, hs.read_unread, View.ld_unit_zero (S := S1024x2048) hz, View.ld_unit_zero (S := S1024x1280) hz, View.ld_unit_zero (S := S2048x1280) hz, shapeCast_self]

/-- The last point writes the running sum with its product added. -/
theorem out_C (h0 : ¬cond0_0 i) (h1 : cond0_1 i) (h2 : cond0_2 i) (x : Vec Ideal S1024x1280 .bf16) (w : Vec Ideal S2048x1280 .bf16) (r : Vec Ideal S1024x2048 .f32) :
    out0_C_2 (F := Ideal) c i a ha b hb o ho s hs h0 h1 h2 x w r = k0_pay3 (k0_pay2 r x w) := by
  unfold out0_C_2
  rw [View.read_writes_eq_canon _ _ _ (cover0_C_2 c i a ha b hb o ho s hs h0 h1 h2 x w r)]
  unfold kernelRun0_C
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S1024x1280) hz, View.ld_unit_zero (S := S2048x1280) hz, shapeCast_self]

end Body

theorem pay1 (x : Vec Ideal S1024x1280 .bf16) (w : Vec Ideal S2048x1280 .bf16) (y : S1024x2048.Idx) :
    @Eq EReal (k0_pay1 (F := Ideal) x w y) (dotT x w (y 0) (y 1)) := by
  unfold k0_pay1
  pointwise
  rfl

theorem pay2 (r : Vec Ideal S1024x2048 .f32) (x : Vec Ideal S1024x1280 .bf16) (w : Vec Ideal S2048x1280 .bf16) (y : S1024x2048.Idx) :
    @Eq EReal (k0_pay2 (F := Ideal) r x w y) (@HAdd.hAdd EReal EReal EReal _ (r y) (dotT x w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem runs : 4 * 1280 = 5120 := rfl

theorem blk0 (t : Fin cfg0.N) (q : Fin 4) (h : t.val % 4 = q.val) (a : Fin 1024) (k : Fin 1280) (i : Fin 4096) (hi : t.val / 4 * 1024 + a.val = i.val) :
    iblk m c 0 t (ix2 a k) = m ((c : Thread nD τ).loc main_arg0) (ix2 i (spot runs q k)) := by
  have e : iblk m c 0 t (ix2 a k) = V m c main_arg0 (ix2 ⟨t.val / 4 * 1024 + a.val, by omega⟩ ⟨t.val % 4 * 1280 + k.val, by omega⟩) := by
    blk_ext [iblk, idx0 t]
  rw [show spot runs q k = ⟨t.val % 4 * 1280 + k.val, by omega⟩ from Fin.ext (congrArg (· * 1280 + k.val) h.symm), show i = ⟨t.val / 4 * 1024 + a.val, by omega⟩ from Fin.ext hi.symm, e, V_main_arg0]

theorem blk1 (t : Fin cfg0.N) (q : Fin 4) (h : t.val % 4 = q.val) (b : Fin 2048) (k : Fin 1280) :
    iblk m c 1 t (ix2 b k) = m ((c : Thread nD τ).loc main_arg1) (ix2 b (spot runs q k)) := by
  have e : iblk m c 1 t (ix2 b k) = V m c main_arg1 (ix2 b ⟨t.val % 4 * 1280 + k.val, by omega⟩) := by
    blk_ext [iblk, idx1 t]
  rw [show spot runs q k = ⟨t.val % 4 * 1280 + k.val, by omega⟩ from Fin.ext (congrArg (· * 1280 + k.val) h.symm), e, V_main_arg1]

theorem first (t : Fin cfg0.N) (h : t.val % 4 = 0) (y : S1024x2048.Idx) :
    @Eq EReal ((outsAt0 m c t.val t.isLt).2 y) (dotT (iblk m c 0 t) (iblk m c 1 t) (y 0) (y 1)) := by
  rw [outsAt0_A m c t h (by omega) (by omega)]
  dsimp only
  rw [sum_A]
  exact pay1 _ _ y

theorem later (t : Fin cfg0.N) (h : t.val % 4 = 1 ∨ t.val % 4 = 2) (y : S1024x2048.Idx) :
    @Eq EReal ((outsAt0 m c t.val t.isLt).2 y)
      (@HAdd.hAdd EReal EReal EReal _ ((outsAt0 m c (t.val - 1) (Nat.lt_of_le_of_lt (Nat.sub_le _ _) t.isLt)).2 y) (dotT (iblk m c 0 t) (iblk m c 1 t) (y 0) (y 1))) := by
  rw [outsAt0_B m c t (by omega) (by omega) (by omega)]
  dsimp only
  rw [sum_B]
  exact pay2 _ _ _ y

theorem last (t : Fin cfg0.N) (h : t.val % 4 = 3) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (dotT (iblk m c 0 t) (iblk m c 1 t) (y 0) (y 1))) := by
  rw [outsAt0_C m c t (by omega) (by omega) h]
  dsimp only
  rw [out_C]
  exact (pay3 _ y).trans (pay2 _ _ _ y)

/-- The grid point `n` before `t`. -/
abbrev back (t : Fin cfg0.N) (n : ℕ) : Fin cfg0.N := ⟨t.val - n, Nat.lt_of_le_of_lt (Nat.sub_le _ _) t.isLt⟩

/-- The point of run `q`, of the block whose last point is `t`. -/
abbrev pt (t : Fin cfg0.N) (q : Fin 4) : Fin cfg0.N := back t (3 - q.val)

/-- The block the last point writes. -/
theorem block (t : Fin cfg0.N) (h : t.val % 4 = 3) (y : S1024x2048.Idx) (i : Fin 4096) (hi : t.val / 4 * 1024 + (y 0).val = i.val) :
    @Eq EReal ((outsAt0 m c t.val t.isLt).1 y) (dotT (m ((c : Thread nD τ).loc main_arg0)) (m ((c : Thread nD τ).loc main_arg1)) i (y 1)) := by
  have r (q : Fin 4) : (pt t q).val % 4 = q.val := by
    show (t.val - (3 - q.val)) % 4 = q.val
    omega
  have e (q : Fin 4) : (pt t q).val / 4 * 1024 + (y 0).val = i.val := by
    rw [← hi]
    congr 2
    show (t.val - (3 - q.val)) / 4 = t.val / 4
    omega
  refine Eq.trans ?_ (dotT_runs runs (xs := fun q => iblk m c 0 (pt t q)) (ys := fun q => iblk m c 1 (pt t q))
    (fun q k => blk0 (pt t q) q (r q) (y 0) k i (e q)) fun q k => blk1 (pt t q) q (r q) (y 1) k)
  rw [Fin.sum_univ_four]
  refine (last t h y).trans (add_eq ?_ rfl)
  refine (later (back t 1) (Or.inr (r 2)) y).trans (add_eq ?_ rfl)
  refine (later (back t 2) (Or.inl (r 1)) y).trans (add_eq ?_ rfl)
  exact first (back t 3) (r 0) y

/-- The array after the run. -/
theorem final : (dats m 0 c).arrAt 2 (cfgs 0).N = prodT (m ((c : Thread nD τ).loc main_arg0)) (m ((c : Thread nD τ).loc main_arg1)) := by
  refine (dats m 0 c).arrAt_eq_of_covers 2 _ (by decide +kernel) fun t hf y => ?_
  blk_simp
  rw [after0_2]
  have e0 : win0_2.index t 0 = t.val / 4 := by rw [idx2 t]; rfl
  have e1 : win0_2.index t 1 = 0 := by rw [idx2 t]; rfl
  refine (block t ((flush0_2 t).mp hf) y (((win0_2.blk t).view.emb y) 0) ?_).trans ?_
  · show _ = win0_2.index t 0 * 1024 + 1 * (y 0).val
    rw [e0, Nat.one_mul]
  · refine congrArg (dotT _ _ _) (Fin.ext ?_)
    show (y 1).val = win0_2.index t 1 * 2048 + 1 * (y 1).val
    rw [e1, Nat.one_mul, Nat.zero_mul, Nat.zero_add]

end Cert.Kernel18Ideal.Proj

namespace Cert.Reference18Ideal.Proj

open Cert.Reference18Ideal Cert.Reference18Ideal.Gen
open _root_.Ffn

/-- The reference's entry. -/
theorem value (x : FVec Ideal S4096x5120 .bf16) (w : FVec Ideal S2048x5120 .bf16) :
    truncf .bf16 (Host.dotGeneral dot_S4096x5120_S2048x5120_S4096x2048_1_1_0_0_n_n none (extf .f32 x bitsLt_bf16_f32) (extf .f32 w bitsLt_bf16_f32)) bitsLt_bf16_f32
      = prodT x w := by
  funext j
  clean_types; pointwise
  rfl

end Cert.Reference18Ideal.Proj

end
-- ==== Proof.Proj19.lean ====
/- The gradient of the first mixer's input weights: `xᵀ · dy`, summed over the 4096 rows two runs of 2048 at a time. Two grid
   points fill a block: the first starts the running sum, the second adds its run's terms and writes the sum out. -/
module

public import proofs.«01_k».proof.Proof.Runs
public import proofs.«01_k».proof.Proof.Gen.Kernel19Ideal.Value
public import proofs.«01_k».proof.Proof.Gen.Reference19Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel19Ideal.Proj

open Cert.Kernel19Ideal Cert.Kernel19Ideal.Gen
open _root_.Ffn
open Idealize.ShloMosaic.Pipeline (Dat Window)

theorem idx0 : ∀ t : Fin cfg0.N, win0_0.index t = ![t.val % 2, t.val / 8] := (by decide +kernel : ∀ t : Fin grid0.N, _)
theorem idx1 : ∀ t : Fin cfg0.N, win0_1.index t = ![t.val % 2, t.val / 2 % 4] := (by decide +kernel : ∀ t : Fin grid0.N, _)
theorem idx2 : ∀ t : Fin cfg0.N, win0_2.index t = ![t.val / 8, t.val / 2 % 4] := (by decide +kernel : ∀ t : Fin grid0.N, _)

theorem hz : (![0, 0] : Fin 2 → Nat) = fun _ => 0 := funext fun a => by fin_cases a <;> rfl

section Body

variable (c : Dev nD) (i : grid0.Coords) (a : Memref sig .tc .vmem S2048x1024 .bf16) (ha : a.IsWhole) (b : Memref sig .tc .vmem S2048x1280 .bf16) (hb : b.IsWhole)
    (o : Memref sig .tc .vmem S1024x1280 .bf16) (ho : o.IsWhole) (s : Memref sig .tc .vmem S1024x1280 .f32) (hs : s.IsWhole)

/-- The first point of a block leaves its product in the running sum. -/
theorem sum_A (h0 : cond0_0 i) (h1 : ¬cond0_1 i) (h2 : ¬cond0_2 i) (x : Vec Ideal S2048x1024 .bf16) (w : Vec Ideal S2048x1280 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x1280) hz, View.ld_unit_zero (S := S2048x1024) hz, View.ld_unit_zero (S := S2048x1280) hz, shapeCast_self]

/-- The second point writes the running sum with its product added. -/
theorem out_B (h0 : ¬cond0_0 i) (h1 : cond0_1 i) (h2 : cond0_2 i) (x : Vec Ideal S2048x1024 .bf16) (w : Vec Ideal S2048x1280 .bf16) (r : Vec Ideal S1024x1280 .f32) :
    out0_B_2 (F := Ideal) c i a ha b hb o ho s hs h0 h1 h2 x w r = k0_pay3 (k0_pay2 r x w) := by
  unfold out0_B_2
  rw [View.read_writes_eq_canon _ _ _ (cover0_B_2 c i a ha b hb o ho s hs h0 h1 h2 x w r)]
  unfold kernelRun0_B
  dsimp only
  sl_unfold_words
  rw [View.canon_unit_zero hz, View.readCov_unit_zero (S := S1024x1280) _ hz]
  simp only [View.readAt_eq_ld, ha.read_unread, hb.read_unread, hs.read_unread, View.ld_unit_zero (S := S1024x1280) hz, View.ld_unit_zero (S := S2048x1024) hz, View.ld_unit_zero (S := S2048x1280) hz, shapeCast_self]

end Body

theorem pay1 (x : Vec Ideal S2048x1024 .bf16) (w : Vec Ideal S2048x1280 .bf16) (y : S1024x1280.Idx) :
    @Eq EReal (k0_pay1 (F := Ideal) x w y) (tdot x w (y 0) (y 1)) := by
  unfold k0_pay1
  pointwise
  rfl

theorem pay2 (r : Vec Ideal S1024x1280 .f32) (x : Vec Ideal S2048x1024 .bf16) (w : Vec Ideal S2048x1280 .bf16) (y : S1024x1280.Idx) :
    @Eq EReal (k0_pay2 (F := Ideal) r x w y) (@HAdd.hAdd EReal EReal EReal _ (r y) (tdot x w (y 0) (y 1))) := by
  unfold k0_pay2
  pointwise
  rfl

theorem pay3 (r : Vec Ideal S1024x1280 .f32) (y : S1024x1280.Idx) : @Eq EReal (k0_pay3 (F := Ideal) r y) (r y) := by
  unfold k0_pay3
  pointwise

variable {m : (ℓ : Loc nD τ sig) → Buf (Elt Ideal) ℓ} {c : Dev nD}

theorem runs : 2 * 2048 = 4096 := rfl

theorem blk0 (t : Fin cfg0.N) (q : Fin 2) (h : t.val % 2 = q.val) (k : Fin 2048) (a : Fin 1024) (i : Fin 2048) (hi : t.val / 8 * 1024 + a.val = i.val) :
    iblk m c 0 t (ix2 k a) = m ((c : Thread nD τ).loc main_arg0) (ix2 (spot runs q k) i) := by
  have e : iblk m c 0 t (ix2 k a) = V m c main_arg0 (ix2 ⟨t.val % 2 * 2048 + k.val, by omega⟩ ⟨t.val / 8 * 1024 + a.val, by omega⟩) := by
    blk_ext [iblk, idx0 t]
  rw [show spot runs q k = ⟨t.val % 2 * 2048 + k.val, by omega⟩ from Fin.ext (congrArg (· * 2048 + k.val) h.symm), show i = ⟨t.val / 8 * 1024 + a.val, by omega⟩ from Fin.ext hi.symm, e, V_main_arg0]

theorem blk1 (t : Fin cfg0.N) (q : Fin 2) (h : t.val % 2 = q.val) (k : Fin 2048) (b : Fin 1280) (j : Fin 5120) (hj : t.val / 2 % 4 * 1280 + b.val = j.val) :
    iblk m c 1 t (ix2 k b) = m ((c : Thread nD τ).loc main_arg1) (ix2 (spot runs q k) j) := by
  have e : iblk m c 1 t (ix2 k b) = V m c main_arg1 (ix2 ⟨t.val % 2 * 2048 + k.val, by omega⟩ ⟨t.val / 2 % 4 * 1280 + b.val, by omega⟩) := by
    blk_ext [iblk, idx1 t]
  rw [show spot runs q k = ⟨t.val % 2 * 2048 + k.val, by omega⟩ from Fin.ext (congrArg (· * 2048 + k.val) h.symm), show j = ⟨t.val / 2 % 4 * 1280 + b.val, by omega⟩ from Fin.ext hj.symm, e, V_main_arg1]

theorem first (t : Fin cfg0.N) (h : t.val % 2 = 0) (y : S1024x1280.Idx) :
    @Eq EReal ((outsAt0 m c t.val t.isLt).2 y) (tdot (iblk m c 0 t) (iblk m c 1 t) (y 0) (y 1)) := by
  rw [outsAt0_A m c t h (by omega) (by omega)]
  dsimp only
  rw [sum_A]
  exact pay1 _ _ y

theorem second (t : Fin cfg0.N) (h : t.val % 2 = 1) (y : S1024x1280.Idx) :
    @Eq EReal ((outsAt0 m c t.val t.isLt).1 y)
      (@HAdd.hAdd EReal EReal EReal _ ((outsAt0 m c (t.val - 1) (Nat.lt_of_le_of_lt (Nat.sub_le _ _) t.isLt)).2 y) (tdot (iblk m c 0 t) (iblk m c 1 t) (y 0) (y 1))) := by
  rw [outsAt0_B m c t (by omega) h h]
  dsimp only
  rw [out_B]
  exact (pay3 _ y).trans (pay2 _ _ _ y)

/-- The block the second point writes. -/
theorem block (t : Fin cfg0.N) (h : t.val % 2 = 1) (y : S1024x1280.Idx) (i : Fin 2048) (hi : t.val / 8 * 1024 + (y 0).val = i.val) (j : Fin 5120) (hj : t.val / 2 % 4 * 1280 + (y 1).val = j.val) :
    @Eq EReal ((outsAt0 m c t.val t.isLt).1 y) (tdot (m ((c : Thread nD τ).loc main_arg0)) (m ((c : Thread nD τ).loc main_arg1)) i j) := by
  have l : t.val - 1 < cfg0.N := Nat.lt_of_le_of_lt (Nat.sub_le _ _) t.isLt
  have e : (t.val - 1) / 8 = t.val / 8 := by omega
  have f : (t.val - 1) / 2 = t.val / 2 := by omega
  refine (second t h y).trans ((add_eq (first ⟨t.val - 1, l⟩ (by dsimp only; omega) y) rfl).trans ((Fin.sum_univ_two _).symm.trans
    (tdot_runs runs (xs := ![iblk m c 0 ⟨t.val - 1, l⟩, iblk m c 0 t]) (ys := ![iblk m c 1 ⟨t.val - 1, l⟩, iblk m c 1 t]) ?_ ?_)))
  · refine Fin.forall_fin_two.mpr ⟨fun k => blk0 ⟨t.val - 1, l⟩ 0 ?_ k (y 0) i ?_, fun k => blk0 t 1 h k (y 0) i hi⟩
    · show (t.val - 1) % 2 = 0
      omega
    · show (t.val - 1) / 8 * 1024 + (y 0).val = i.val
      rw [e, hi]
  · refine Fin.forall_fin_two.mpr ⟨fun k => blk1 ⟨t.val - 1, l⟩ 0 ?_ k (y 1) j ?_, fun k => blk1 t 1 h k (y 1) j hj⟩
    · show (t.val - 1) % 2 = 0
      omega
    · show (t.val - 1) / 2 % 4 * 1280 + (y 1).val = j.val
      rw [f, hj]

/-- The array after the run. -/
theorem final : (dats m 0 c).arrAt 2 (cfgs 0).N = tprod (m ((c : Thread nD τ).loc main_arg0)) (m ((c : Thread nD τ).loc main_arg1)) := by
  refine (dats m 0 c).arrAt_eq_of_covers 2 _ (by decide +kernel) fun t hf y => ?_
  blk_simp
  rw [after0_2]
  have e0 : win0_2.index t 0 = t.val / 8 := by rw [idx2 t]; rfl
  have e1 : win0_2.index t 1 = t.val / 2 % 4 := by rw [idx2 t]; rfl
  refine block t ((flush0_2 t).mp hf) y _ ?_ _ ?_
  · show _ = win0_2.index t 0 * 1024 + 1 * (y 0).val
    rw [e0, Nat.one_mul]
  · show _ = win0_2.index t 1 * 1280 + 1 * (y 1).val
    rw [e1, Nat.one_mul]

end Cert.Kernel19Ideal.Proj

namespace Cert.Reference19Ideal.Proj

open Cert.Reference19Ideal Cert.Reference19Ideal.Gen
open _root_.Ffn

/-- The reference's entry: the same products, each taken in the other order. -/
theorem value (x : FVec Ideal S4096x2048 .bf16) (d : FVec Ideal S4096x5120 .bf16) :
    truncf .bf16 (transpose S2048x5120 [1, 0] (Host.dotGeneral dot_S4096x5120_S4096x2048_S5120x2048_0_0_1_1_n_n none (extf .f32 d bitsLt_bf16_f32) (extf .f32 x bitsLt_bf16_f32)) transposes_S5120x2048_S2048x5120_1_0) bitsLt_bf16_f32
      = tprod x d := by
  funext j
  clean_types; pointwise
  exact Finset.sum_congr rfl fun k _ => mul_comm _ _

end Cert.Reference19Ideal.Proj

end
-- ==== Proof.Proj20.lean ====
/- The second mixer's input projection: rows times weights, in blocks of 1024 rows by 2048 columns. -/
module

public import proofs.«01_k».proof.Proof.Runs
public import proofs.«01_k».proof.Proof.Gen.Kernel20Ideal.Value
public import proofs.«01_k».proof.Proof.Gen.Reference20Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel20Ideal.Proj

open Cert.Kernel20Ideal Cert.Kernel20Ideal.Gen
open _root_.Ffn
open Idealize.ShloMosaic.Pipeline (Dat Window)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)

theorem i_lt (t : Fin cfg0.N) : (grid0.coords t 0).val < 4 := (grid0.coords t 0).isLt
theorem j_lt (t : Fin cfg0.N) : (grid0.coords t 1).val < 3 := (grid0.coords t 1).isLt

variable {m : (ℓ : Loc nD τ sig) → Buf (Elt Ideal) ℓ} {c : Dev nD}

theorem blk0 (t : Fin cfg0.N) (a : Fin 1024) (k : Fin 2048) :
    iblk m c 0 t (ix2 a k) = V m c main_arg0 (ix2 ⟨(grid0.coords t 0).val * 1024 + a.val, by have := i_lt t; omega⟩ k) := by
  blk_ext [iblk, idx0 t]

theorem blk1 (t : Fin cfg0.N) (k : Fin 2048) (b : Fin 2048) :
    iblk m c 1 t (ix2 k b) = V m c main_arg1 (ix2 k ⟨(grid0.coords t 1).val * 2048 + b.val, by have := j_lt t; omega⟩) := by
  blk_ext [iblk, idx1 t]

/-- What a grid point writes, from the two blocks it reads. -/
theorem block (x : Vec Ideal S1024x2048 .bf16) (w : Vec Ideal S2048x2048 .bf16) (y : S1024x2048.Idx) :
    @Eq EReal (out0_2 (F := Ideal) x w y) (dot x w (y 0) (y 1)) := by
  unfold out0_2
  canon_tiles z hz
  open_payloads
  pointwise
  rw [show z 0 = y 0 from Fin.ext hz0.symm, show z 1 = y 1 from Fin.ext hz1.symm]
  rfl

/-- The array after the run. -/
theorem final : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]
  refine (block _ _ y).trans ?_
  have e0 : win0_2.index t 0 = (grid0.coords t 0).val := by rw [idx2 t]; rfl
  have e1 : win0_2.index t 1 = (grid0.coords t 1).val := by rw [idx2 t]; rfl
  refine dot_block (fun k => (blk0 t (y 0) k).trans ?_) fun k => (blk1 t k (y 1)).trans ?_
  · rw [V_main_arg0]
    refine congrArg _ (congrArg (ix2 · k) (Fin.ext ?_))
    show (grid0.coords t 0).val * 1024 + (y 0).val = win0_2.index t 0 * 1024 + 1 * (y 0).val
    rw [e0, Nat.one_mul]
  · rw [V_main_arg1]
    refine congrArg _ (congrArg (ix2 k ·) (Fin.ext ?_))
    show (grid0.coords t 1).val * 2048 + (y 1).val = win0_2.index t 1 * 2048 + 1 * (y 1).val
    rw [e1, Nat.one_mul]

end Cert.Kernel20Ideal.Proj

namespace Cert.Reference20Ideal.Proj

open Cert.Reference20Ideal Cert.Reference20Ideal.Gen
open _root_.Ffn

/-- The reference's entry. -/
theorem value (x : FVec Ideal S4096x2048 .bf16) (w : FVec Ideal S2048x6144 .bf16) :
    truncf .bf16 (Host.dotGeneral dot_S4096x2048_S2048x6144_S4096x6144_1_0_0_1_n_n none (extf .f32 x bitsLt_bf16_f32) (extf .f32 w bitsLt_bf16_f32)) bitsLt_bf16_f32
      = prod x w := by
  funext j
  clean_types; pointwise
  rfl

end Cert.Reference20Ideal.Proj

end
-- ==== Proof.Proj21.lean ====
/- The gradient of the second mixer's input rows: `dy · wᵀ`, summed over the 6144 columns three runs of 2048 at a time. Three grid
   points fill a block: the first starts the running sum, the second adds its run's terms, the third adds its own and writes the sum out. -/
module

public import proofs.«01_k».proof.Proof.Runs
public import proofs.«01_k».proof.Proof.Gen.Kernel21Ideal.Value
public import proofs.«01_k».proof.Proof.Gen.Reference21Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel21Ideal.Proj

open Cert.Kernel21Ideal Cert.Kernel21Ideal.Gen
open _root_.Ffn
open Idealize.ShloMosaic.Pipeline (Dat Window)

theorem idx0 : ∀ t : Fin cfg0.N, win0_0.index t = ![t.val / 3, t.val % 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, 0] := (by decide +kernel : ∀ t : Fin grid0.N, _)

theorem hz : (![0, 0] : Fin 2 → Nat) = fun _ => 0 := funext fun a => by fin_cases a <;> rfl

section Body

variable (c : Dev nD) (i : grid0.Coords) (a : Memref sig .tc .vmem S1024x2048 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a run leaves its product in the running sum. -/
theorem sum_A (h0 : cond0_0 i) (h1 : ¬cond0_1 i) (h2 : ¬cond0_2 i) (x : Vec Ideal S1024x2048 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x2048) hz, shapeCast_self]

/-- A later point adds its product to the running sum. -/
theorem sum_B (h0 : ¬cond0_0 i) (h1 : cond0_1 i) (h2 : ¬cond0_2 i) (x : Vec Ideal S1024x2048 .bf16) (w : Vec Ideal S2048x2048 .bf16) (r : Vec Ideal S1024x2048 .f32) :
    sout0_B_0 (F := Ideal) c i a ha b hb o ho s hs h0 h1 h2 x w r = k0_pay2 r x w := by
  unfold sout0_B_0
  rw [View.read_writes_eq_canon _ _ _ (scover0_B_0 c i a ha b hb o ho s hs h0 h1 h2 x w r)]
  unfold kernelRun0_B
  dsimp only
  rw [View.canon_unit_zero hz]
  simp only [View.readAt_eq_ld, ha.read_unread, hb.read_unread, hs.read_unread, View.ld_unit_zero (S := S1024x2048) hz, View.ld_unit_zero (S := S2048x2048) hz, shapeCast_self]

/-- The last point writes the running sum with its product added. -/
theorem out_C (h0 : ¬cond0_0 i) (h1 : cond0_1 i) (h2 : cond0_2 i) (x : Vec Ideal S1024x2048 .bf16) (w : Vec Ideal S2048x2048 .bf16) (r : Vec Ideal S1024x2048 .f32) :
    out0_C_2 (F := Ideal) c i a ha b hb o ho s hs h0 h1 h2 x w r = k0_pay3 (k0_pay2 r x w) := by
  unfold out0_C_2
  rw [View.read_writes_eq_canon _ _ _ (cover0_C_2 c i a ha b hb o ho s hs h0 h1 h2 x w r)]
  unfold kernelRun0_C
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x2048) hz, shapeCast_self]

end Body

theorem pay1 (x : Vec Ideal S1024x2048 .bf16) (w : Vec Ideal S2048x2048 .bf16) (y : S1024x2048.Idx) :
    @Eq EReal (k0_pay1 (F := Ideal) x w y) (dotT x w (y 0) (y 1)) := by
  unfold k0_pay1
  pointwise
  rfl

theorem pay2 (r : Vec Ideal S1024x2048 .f32) (x : Vec Ideal S1024x2048 .bf16) (w : Vec Ideal S2048x2048 .bf16) (y : S1024x2048.Idx) :
    @Eq EReal (k0_pay2 (F := Ideal) r x w y) (@HAdd.hAdd EReal EReal EReal _ (r y) (dotT x w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem runs : 3 * 2048 = 6144 := rfl

theorem blk0 (t : Fin cfg0.N) (q : Fin 3) (h : t.val % 3 = q.val) (a : Fin 1024) (k : Fin 2048) (i : Fin 4096) (hi : t.val / 3 * 1024 + a.val = i.val) :
    iblk m c 0 t (ix2 a k) = m ((c : Thread nD τ).loc main_arg0) (ix2 i (spot runs q k)) := by
  have e : iblk m c 0 t (ix2 a k) = V m c main_arg0 (ix2 ⟨t.val / 3 * 1024 + a.val, by omega⟩ ⟨t.val % 3 * 2048 + k.val, by omega⟩) := by
    blk_ext [iblk, idx0 t]
  rw [show spot runs q k = ⟨t.val % 3 * 2048 + k.val, by omega⟩ from Fin.ext (congrArg (· * 2048 + k.val) h.symm), show i = ⟨t.val / 3 * 1024 + a.val, by omega⟩ from Fin.ext hi.symm, e, V_main_arg0]

theorem blk1 (t : Fin cfg0.N) (q : Fin 3) (h : t.val % 3 = q.val) (b : Fin 2048) (k : Fin 2048) :
    iblk m c 1 t (ix2 b k) = m ((c : Thread nD τ).loc main_arg1) (ix2 b (spot runs q k)) := by
  have e : iblk m c 1 t (ix2 b k) = V m c main_arg1 (ix2 b ⟨t.val % 3 * 2048 + k.val, by omega⟩) := by
    blk_ext [iblk, idx1 t]
  rw [show spot runs q k = ⟨t.val % 3 * 2048 + k.val, by omega⟩ from Fin.ext (congrArg (· * 2048 + k.val) h.symm), e, V_main_arg1]

theorem first (t : Fin cfg0.N) (h : t.val % 3 = 0) (y : S1024x2048.Idx) :
    @Eq EReal ((outsAt0 m c t.val t.isLt).2 y) (dotT (iblk m c 0 t) (iblk m c 1 t) (y 0) (y 1)) := by
  rw [outsAt0_A m c t h (by omega) (by omega)]
  dsimp only
  rw [sum_A]
  exact pay1 _ _ y

theorem later (t : Fin cfg0.N) (h : t.val % 3 = 1) (y : S1024x2048.Idx) :
    @Eq EReal ((outsAt0 m c t.val t.isLt).2 y)
      (@HAdd.hAdd EReal EReal EReal _ ((outsAt0 m c (t.val - 1) (Nat.lt_of_le_of_lt (Nat.sub_le _ _) t.isLt)).2 y) (dotT (iblk m c 0 t) (iblk m c 1 t) (y 0) (y 1))) := by
  rw [outsAt0_B m c t (by omega) (by omega) (by omega)]
  dsimp only
  rw [sum_B]
  exact pay2 _ _ _ y

theorem last (t : Fin cfg0.N) (h : t.val % 3 = 2) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (dotT (iblk m c 0 t) (iblk m c 1 t) (y 0) (y 1))) := by
  rw [outsAt0_C m c t (by omega) (by omega) h]
  dsimp only
  rw [out_C]
  exact (pay3 _ y).trans (pay2 _ _ _ y)

/-- The grid point `n` before `t`. -/
abbrev back (t : Fin cfg0.N) (n : ℕ) : Fin cfg0.N := ⟨t.val - n, Nat.lt_of_le_of_lt (Nat.sub_le _ _) t.isLt⟩

/-- The point of run `q`, of the block whose last point is `t`. -/
abbrev pt (t : Fin cfg0.N) (q : Fin 3) : Fin cfg0.N := back t (2 - q.val)

/-- The block the last point writes. -/
theorem block (t : Fin cfg0.N) (h : t.val % 3 = 2) (y : S1024x2048.Idx) (i : Fin 4096) (hi : t.val / 3 * 1024 + (y 0).val = i.val) :
    @Eq EReal ((outsAt0 m c t.val t.isLt).1 y) (dotT (m ((c : Thread nD τ).loc main_arg0)) (m ((c : Thread nD τ).loc main_arg1)) i (y 1)) := by
  have r (q : Fin 3) : (pt t q).val % 3 = q.val := by
    show (t.val - (2 - q.val)) % 3 = q.val
    omega
  have e (q : Fin 3) : (pt t q).val / 3 * 1024 + (y 0).val = i.val := by
    rw [← hi]
    congr 2
    show (t.val - (2 - q.val)) / 3 = t.val / 3
    omega
  refine Eq.trans ?_ (dotT_runs runs (xs := fun q => iblk m c 0 (pt t q)) (ys := fun q => iblk m c 1 (pt t q))
    (fun q k => blk0 (pt t q) q (r q) (y 0) k i (e q)) fun q k => blk1 (pt t q) q (r q) (y 1) k)
  rw [Fin.sum_univ_three]
  refine (last t h y).trans (add_eq ?_ rfl)
  refine (later (back t 1) (r 1) y).trans (add_eq ?_ rfl)
  exact first (back t 2) (r 0) y

/-- The array after the run. -/
theorem final : (dats m 0 c).arrAt 2 (cfgs 0).N = prodT (m ((c : Thread nD τ).loc main_arg0)) (m ((c : Thread nD τ).loc main_arg1)) := by
  refine (dats m 0 c).arrAt_eq_of_covers 2 _ (by decide +kernel) fun t hf y => ?_
  blk_simp
  rw [after0_2]
  have e0 : win0_2.index t 0 = t.val / 3 := by rw [idx2 t]; rfl
  have e1 : win0_2.index t 1 = 0 := by rw [idx2 t]; rfl
  refine (block t ((flush0_2 t).mp hf) y (((win0_2.blk t).view.emb y) 0) ?_).trans ?_
  · show _ = win0_2.index t 0 * 1024 + 1 * (y 0).val
    rw [e0, Nat.one_mul]
  · refine congrArg (dotT _ _ _) (Fin.ext ?_)
    show (y 1).val = win0_2.index t 1 * 2048 + 1 * (y 1).val
    rw [e1, Nat.one_mul, Nat.zero_mul, Nat.zero_add]

end Cert.Kernel21Ideal.Proj

namespace Cert.Reference21Ideal.Proj

open Cert.Reference21Ideal Cert.Reference21Ideal.Gen
open _root_.Ffn

/-- The reference's entry. -/
theorem value (x : FVec Ideal S4096x6144 .bf16) (w : FVec Ideal S2048x6144 .bf16) :
    truncf .bf16 (Host.dotGeneral dot_S4096x6144_S2048x6144_S4096x2048_1_1_0_0_n_n none (extf .f32 x bitsLt_bf16_f32) (extf .f32 w bitsLt_bf16_f32)) bitsLt_bf16_f32
      = prodT x w := by
  funext j
  clean_types; pointwise
  rfl

end Cert.Reference21Ideal.Proj

end
-- ==== Proof.Proj22.lean ====
/- The gradient of the second mixer's input weights: `xᵀ · dy`, summed over the 4096 rows two runs of 2048 at a time. Two grid
   points fill a block: the first starts the running sum, the second adds its run's terms and writes the sum out. -/
module

public import proofs.«01_k».proof.Proof.Runs
public import proofs.«01_k».proof.Proof.Gen.Kernel22Ideal.Value
public import proofs.«01_k».proof.Proof.Gen.Reference22Ideal.Run
public import Idealize.ShloMosaic.Lib.Pipeline.ValueKit
public import Idealize.ShloMosaic.Lib.UnfoldOut
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Kernel22Ideal.Proj

open Cert.Kernel22Ideal Cert.Kernel22Ideal.Gen
open _root_.Ffn
open Idealize.ShloMosaic.Pipeline (Dat Window)

theorem idx0 : ∀ t : Fin cfg0.N, win0_0.index t = ![t.val % 2, t.val / 6] := (by decide +kernel : ∀ t : Fin grid0.N, _)
theorem idx1 : ∀ t : Fin cfg0.N, win0_1.index t = ![t.val % 2, t.val / 2 % 3] := (by decide +kernel : ∀ t : Fin grid0.N, _)
theorem idx2 : ∀ t : Fin cfg0.N, win0_2.index t = ![t.val / 6, t.val / 2 % 3] := (by decide +kernel : ∀ t : Fin grid0.N, _)

theorem hz : (![0, 0] : Fin 2 → Nat) = fun _ => 0 := funext fun a => by fin_cases a <;> rfl

section Body

variable (c : Dev nD) (i : grid0.Coords) (a : Memref sig .tc .vmem S2048x1024 .bf16) (ha : a.IsWhole) (b : Memref sig .tc .vmem S2048x2048 .bf16) (hb : b.IsWhole)
    (o : Memref sig .tc .vmem S1024x2048 .bf16) (ho : o.IsWhole) (s : Memref sig .tc .vmem S1024x2048 .f32) (hs : s.IsWhole)

/-- The first point of a block leaves its product in the running sum. -/
theorem sum_A (h0 : cond0_0 i) (h1 : ¬cond0_1 i) (h2 : ¬cond0_2 i) (x : Vec Ideal S2048x1024 .bf16) (w : Vec Ideal S2048x2048 .bf16) :
    sout0_A_0 (F := Ideal) c i a ha b hb o ho s hs h0 h1 h2 x w = k0_pay1 x w := by
  unfold sout0_A_0
  rw [View.read_writes_eq_canon _ _ _ (scover0_A_0 c i a ha b hb o ho s hs h0 h1 h2 x w)]
  unfold kernelRun0_A
  dsimp only
  rw [View.canon_unit_zero hz]
  simp only [View.readAt_eq_ld, ha.read_unread, hb.read_unread, View.ld_unit_zero (S := S1024x2048) hz, View.ld_unit_zero (S := S2048x1024) hz, View.ld_unit_zero (S := S2048x2048) hz, shapeCast_self]

/-- The second point writes the running sum with its product added. -/
theorem out_B (h0 : ¬cond0_0 i) (h1 : cond0_1 i) (h2 : cond0_2 i) (x : Vec Ideal S2048x1024 .bf16) (w : Vec Ideal S2048x2048 .bf16) (r : Vec Ideal S1024x2048 .f32) :
    out0_B_2 (F := Ideal) c i a ha b hb o ho s hs h0 h1 h2 x w r = k0_pay3 (k0_pay2 r x w) := by
  unfold out0_B_2
  rw [View.read_writes_eq_canon _ _ _ (cover0_B_2 c i a ha b hb o ho s hs h0 h1 h2 x w r)]
  unfold kernelRun0_B
  dsimp only
  sl_unfold_words
  rw [View.canon_unit_zero hz, View.readCov_unit_zero (S := S1024x2048) _ hz]
  simp only [View.readAt_eq_ld, ha.read_unread, hb.read_unread, hs.read_unread, View.ld_unit_zero (S := S1024x2048) hz, View.ld_unit_zero (S := S2048x1024) hz, View.ld_unit_zero (S := S2048x2048) hz, shapeCast_self]

end Body

theorem pay1 (x : Vec Ideal S2048x1024 .bf16) (w : Vec Ideal S2048x2048 .bf16) (y : S1024x2048.Idx) :
    @Eq EReal (k0_pay1 (F := Ideal) x w y) (tdot x w (y 0) (y 1)) := by
  unfold k0_pay1
  pointwise
  rfl

theorem pay2 (r : Vec Ideal S1024x2048 .f32) (x : Vec Ideal S2048x1024 .bf16) (w : Vec Ideal S2048x2048 .bf16) (y : S1024x2048.Idx) :
    @Eq EReal (k0_pay2 (F := Ideal) r x w y) (@HAdd.hAdd EReal EReal EReal _ (r y) (tdot x w (y 0) (y 1))) := by
  unfold k0_pay2
  pointwise
  rfl

theorem pay3 (r : Vec Ideal S1024x2048 .f32) (y : S1024x2048.Idx) : @Eq EReal (k0_pay3 (F := Ideal) r y) (r y) := by
  unfold k0_pay3
  pointwise

variable {m : (ℓ : Loc nD τ sig) → Buf (Elt Ideal) ℓ} {c : Dev nD}

theorem runs : 2 * 2048 = 4096 := rfl

theorem blk0 (t : Fin cfg0.N) (q : Fin 2) (h : t.val % 2 = q.val) (k : Fin 2048) (a : Fin 1024) (i : Fin 2048) (hi : t.val / 6 * 1024 + a.val = i.val) :
    iblk m c 0 t (ix2 k a) = m ((c : Thread nD τ).loc main_arg0) (ix2 (spot runs q k) i) := by
  have e : iblk m c 0 t (ix2 k a) = V m c main_arg0 (ix2 ⟨t.val % 2 * 2048 + k.val, by omega⟩ ⟨t.val / 6 * 1024 + a.val, by omega⟩) := by
    blk_ext [iblk, idx0 t]
  rw [show spot runs q k = ⟨t.val % 2 * 2048 + k.val, by omega⟩ from Fin.ext (congrArg (· * 2048 + k.val) h.symm), show i = ⟨t.val / 6 * 1024 + a.val, by omega⟩ from Fin.ext hi.symm, e, V_main_arg0]

theorem blk1 (t : Fin cfg0.N) (q : Fin 2) (h : t.val % 2 = q.val) (k : Fin 2048) (b : Fin 2048) (j : Fin 6144) (hj : t.val / 2 % 3 * 2048 + b.val = j.val) :
    iblk m c 1 t (ix2 k b) = m ((c : Thread nD τ).loc main_arg1) (ix2 (spot runs q k) j) := by
  have e : iblk m c 1 t (ix2 k b) = V m c main_arg1 (ix2 ⟨t.val % 2 * 2048 + k.val, by omega⟩ ⟨t.val / 2 % 3 * 2048 + b.val, by omega⟩) := by
    blk_ext [iblk, idx1 t]
  rw [show spot runs q k = ⟨t.val % 2 * 2048 + k.val, by omega⟩ from Fin.ext (congrArg (· * 2048 + k.val) h.symm), show j = ⟨t.val / 2 % 3 * 2048 + b.val, by omega⟩ from Fin.ext hj.symm, e, V_main_arg1]

theorem first (t : Fin cfg0.N) (h : t.val % 2 = 0) (y : S1024x2048.Idx) :
    @Eq EReal ((outsAt0 m c t.val t.isLt).2 y) (tdot (iblk m c 0 t) (iblk m c 1 t) (y 0) (y 1)) := by
  rw [outsAt0_A m c t h (by omega) (by omega)]
  dsimp only
  rw [sum_A]
  exact pay1 _ _ y

theorem second (t : Fin cfg0.N) (h : t.val % 2 = 1) (y : S1024x2048.Idx) :
    @Eq EReal ((outsAt0 m c t.val t.isLt).1 y)
      (@HAdd.hAdd EReal EReal EReal _ ((outsAt0 m c (t.val - 1) (Nat.lt_of_le_of_lt (Nat.sub_le _ _) t.isLt)).2 y) (tdot (iblk m c 0 t) (iblk m c 1 t) (y 0) (y 1))) := by
  rw [outsAt0_B m c t (by omega) h h]
  dsimp only
  rw [out_B]
  exact (pay3 _ y).trans (pay2 _ _ _ y)

/-- The block the second point writes. -/
theorem block (t : Fin cfg0.N) (h : t.val % 2 = 1) (y : S1024x2048.Idx) (i : Fin 2048) (hi : t.val / 6 * 1024 + (y 0).val = i.val) (j : Fin 6144) (hj : t.val / 2 % 3 * 2048 + (y 1).val = j.val) :
    @Eq EReal ((outsAt0 m c t.val t.isLt).1 y) (tdot (m ((c : Thread nD τ).loc main_arg0)) (m ((c : Thread nD τ).loc main_arg1)) i j) := by
  have l : t.val - 1 < cfg0.N := Nat.lt_of_le_of_lt (Nat.sub_le _ _) t.isLt
  have e : (t.val - 1) / 6 = t.val / 6 := by omega
  have f : (t.val - 1) / 2 = t.val / 2 := by omega
  refine (second t h y).trans ((add_eq (first ⟨t.val - 1, l⟩ (by dsimp only; omega) y) rfl).trans ((Fin.sum_univ_two _).symm.trans
    (tdot_runs runs (xs := ![iblk m c 0 ⟨t.val - 1, l⟩, iblk m c 0 t]) (ys := ![iblk m c 1 ⟨t.val - 1, l⟩, iblk m c 1 t]) ?_ ?_)))
  · refine Fin.forall_fin_two.mpr ⟨fun k => blk0 ⟨t.val - 1, l⟩ 0 ?_ k (y 0) i ?_, fun k => blk0 t 1 h k (y 0) i hi⟩
    · show (t.val - 1) % 2 = 0
      omega
    · show (t.val - 1) / 6 * 1024 + (y 0).val = i.val
      rw [e, hi]
  · refine Fin.forall_fin_two.mpr ⟨fun k => blk1 ⟨t.val - 1, l⟩ 0 ?_ k (y 1) j ?_, fun k => blk1 t 1 h k (y 1) j hj⟩
    · show (t.val - 1) % 2 = 0
      omega
    · show (t.val - 1) / 2 % 3 * 2048 + (y 1).val = j.val
      rw [f, hj]

/-- The array after the run. -/
theorem final : (dats m 0 c).arrAt 2 (cfgs 0).N = tprod (m ((c : Thread nD τ).loc main_arg0)) (m ((c : Thread nD τ).loc main_arg1)) := by
  refine (dats m 0 c).arrAt_eq_of_covers 2 _ (by decide +kernel) fun t hf y => ?_
  blk_simp
  rw [after0_2]
  have e0 : win0_2.index t 0 = t.val / 6 := by rw [idx2 t]; rfl
  have e1 : win0_2.index t 1 = t.val / 2 % 3 := by rw [idx2 t]; rfl
  refine block t ((flush0_2 t).mp hf) y _ ?_ _ ?_
  · show _ = win0_2.index t 0 * 1024 + 1 * (y 0).val
    rw [e0, Nat.one_mul]
  · show _ = win0_2.index t 1 * 2048 + 1 * (y 1).val
    rw [e1, Nat.one_mul]

end Cert.Kernel22Ideal.Proj

namespace Cert.Reference22Ideal.Proj

open Cert.Reference22Ideal Cert.Reference22Ideal.Gen
open _root_.Ffn

/-- The reference's entry: the same products, each taken in the other order. -/
theorem value (x : FVec Ideal S4096x2048 .bf16) (d : FVec Ideal S4096x6144 .bf16) :
    truncf .bf16 (transpose S2048x6144 [1, 0] (Host.dotGeneral dot_S4096x6144_S4096x2048_S6144x2048_0_0_1_1_n_n none (extf .f32 d bitsLt_bf16_f32) (extf .f32 x bitsLt_bf16_f32)) transposes_S6144x2048_S2048x6144_1_0) bitsLt_bf16_f32
      = tprod x d := by
  funext j
  clean_types; pointwise
  exact Finset.sum_congr rfl fun k _ => mul_comm _ _

end Cert.Reference22Ideal.Proj

end
-- ==== Proof.ProjCalls.lean ====
/- The products of the mixers' projections, forward and backward: each call leaves the reference's product, with nothing
   assumed of its arguments. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Proj14
public import proofs.«01_k».proof.Proof.Gen.Kernel15.Frame
public import proofs.«01_k».proof.Proof.Gen.Kernel15Ideal.Value
public import proofs.«01_k».proof.Proof.Gen.Reference15Ideal.Run
public import proofs.«01_k».proof.Proof.Proj15
public import proofs.«01_k».proof.Proof.Gen.Kernel16.Frame
public import proofs.«01_k».proof.Proof.Gen.Kernel16Ideal.Value
public import proofs.«01_k».proof.Proof.Gen.Reference16Ideal.Run
public import proofs.«01_k».proof.Proof.Proj16
public import proofs.«01_k».proof.Proof.Gen.Kernel17.Frame
public import proofs.«01_k».proof.Proof.Gen.Kernel17Ideal.Value
public import proofs.«01_k».proof.Proof.Gen.Reference17Ideal.Run
public import proofs.«01_k».proof.Proof.Proj17
public import proofs.«01_k».proof.Proof.Gen.Kernel18.Frame
public import proofs.«01_k».proof.Proof.Gen.Kernel18Ideal.Value
public import proofs.«01_k».proof.Proof.Gen.Reference18Ideal.Run
public import proofs.«01_k».proof.Proof.Proj18
public import proofs.«01_k».proof.Proof.Gen.Kernel19.Frame
public import proofs.«01_k».proof.Proof.Gen.Kernel19Ideal.Value
public import proofs.«01_k».proof.Proof.Gen.Reference19Ideal.Run
public import proofs.«01_k».proof.Proof.Proj19
public import proofs.«01_k».proof.Proof.Gen.Kernel20.Frame
public import proofs.«01_k».proof.Proof.Gen.Kernel20Ideal.Value
public import proofs.«01_k».proof.Proof.Gen.Reference20Ideal.Run
public import proofs.«01_k».proof.Proof.Proj20
public import proofs.«01_k».proof.Proof.Gen.Kernel21.Frame
public import proofs.«01_k».proof.Proof.Gen.Kernel21Ideal.Value
public import proofs.«01_k».proof.Proof.Gen.Reference21Ideal.Run
public import proofs.«01_k».proof.Proof.Proj21
public import proofs.«01_k».proof.Proof.Gen.Kernel22.Frame
public import proofs.«01_k».proof.Proof.Gen.Kernel22Ideal.Value
public import proofs.«01_k».proof.Proof.Gen.Reference22Ideal.Run
public import proofs.«01_k».proof.Proof.Proj22
public import Idealize.ShloMosaic.Adequacy
public import Idealize.ShloMosaic.Init

@[expose] public section

set_option maxHeartbeats 8000000

noncomputable section

namespace Cert.ProjCalls

open Idealize.ShloMosaic Idealize.SL.Sem Idealize.ShloMosaic.StableHlo

/-! The first mixer's output projection. -/

theorem frame14 : Cert.quiescent_Kernel14 := fun m g _ => Cert.Kernel14.Gen.frame m g

theorem frame_ideal14 : Cert.quiescent_Kernel14Ideal := fun m g _ => Cert.Kernel14Ideal.Gen.frame m g

theorem frame_reference14 : Cert.quiescent_Reference14Ideal := fun m g _ =>
  (θ_run Cert.Reference14Ideal.defs _ _).mono (fun r h => ⟨fun c => (h c).2, Idealize.ShloMosaic.sem_eq_zero_of_no_sems (by decide) r.2⟩)
    (Cert.Reference14Ideal.Value.run m g)

theorem algebraic14 : Cert.algebraic_Kernel14Ideal_Reference14Ideal := by
  intro m g m' g' _ e
  exact ⟨fun c => Ffn.prod (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run _ _ _).mono (fun _ h c => ⟨(h c).1.trans Cert.Kernel14Ideal.Proj.final, (h c).2⟩) (Cert.Kernel14Ideal.Value.run_blocks m g),
    (θ_run _ _ _).mono (fun _ h c => ⟨(h c).1.trans ((Cert.Reference14Ideal.Proj.value _ _).trans (by rw [(e c).1, (e c).2])), (h c).2⟩)
      (Cert.Reference14Ideal.Value.run m' g')⟩

/-! The gradient of its argument. -/

theorem frame15 : Cert.quiescent_Kernel15 := fun m g _ => Cert.Kernel15.Gen.frame m g

theorem frame_ideal15 : Cert.quiescent_Kernel15Ideal := fun m g _ => Cert.Kernel15Ideal.Gen.frame m g

theorem frame_reference15 : Cert.quiescent_Reference15Ideal := fun m g _ =>
  (θ_run Cert.Reference15Ideal.defs _ _).mono (fun r h => ⟨fun c => (h c).2, Idealize.ShloMosaic.sem_eq_zero_of_no_sems (by decide) r.2⟩)
    (Cert.Reference15Ideal.Value.run m g)

theorem algebraic15 : Cert.algebraic_Kernel15Ideal_Reference15Ideal := by
  intro m g m' g' _ e
  exact ⟨fun c => Ffn.prodT (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run _ _ _).mono (fun _ h c => ⟨(h c).1.trans Cert.Kernel15Ideal.Proj.final, (h c).2⟩) (Cert.Kernel15Ideal.Value.run_blocks m g),
    (θ_run _ _ _).mono (fun _ h c => ⟨(h c).1.trans ((Cert.Reference15Ideal.Proj.value _ _).trans (by rw [(e c).1, (e c).2])), (h c).2⟩)
      (Cert.Reference15Ideal.Value.run m' g')⟩

/-! And of its weights. -/

theorem frame16 : Cert.quiescent_Kernel16 := fun m g _ => Cert.Kernel16.Gen.frame m g

theorem frame_ideal16 : Cert.quiescent_Kernel16Ideal := fun m g _ => Cert.Kernel16Ideal.Gen.frame m g

theorem frame_reference16 : Cert.quiescent_Reference16Ideal := fun m g _ =>
  (θ_run Cert.Reference16Ideal.defs _ _).mono (fun r h => ⟨fun c => (h c).2, Idealize.ShloMosaic.sem_eq_zero_of_no_sems (by decide) r.2⟩)
    (Cert.Reference16Ideal.Value.run m g)

theorem algebraic16 : Cert.algebraic_Kernel16Ideal_Reference16Ideal := by
  intro m g m' g' _ e
  exact ⟨fun c => Ffn.tprod (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run _ _ _).mono (fun _ h c => ⟨(h c).1.trans Cert.Kernel16Ideal.Proj.final, (h c).2⟩) (Cert.Kernel16Ideal.Value.run_blocks m g),
    (θ_run _ _ _).mono (fun _ h c => ⟨(h c).1.trans ((Cert.Reference16Ideal.Proj.value _ _).trans (by rw [(e c).1, (e c).2])), (h c).2⟩)
      (Cert.Reference16Ideal.Value.run m' g')⟩

/-! The first mixer's input projection. -/

theorem frame17 : Cert.quiescent_Kernel17 := fun m g _ => Cert.Kernel17.Gen.frame m g

theorem frame_ideal17 : Cert.quiescent_Kernel17Ideal := fun m g _ => Cert.Kernel17Ideal.Gen.frame m g

theorem frame_reference17 : Cert.quiescent_Reference17Ideal := fun m g _ =>
  (θ_run Cert.Reference17Ideal.defs _ _).mono (fun r h => ⟨fun c => (h c).2, Idealize.ShloMosaic.sem_eq_zero_of_no_sems (by decide) r.2⟩)
    (Cert.Reference17Ideal.Value.run m g)

theorem algebraic17 : Cert.algebraic_Kernel17Ideal_Reference17Ideal := by
  intro m g m' g' _ e
  exact ⟨fun c => Ffn.prod (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run _ _ _).mono (fun _ h c => ⟨(h c).1.trans Cert.Kernel17Ideal.Proj.final, (h c).2⟩) (Cert.Kernel17Ideal.Value.run_blocks m g),
    (θ_run _ _ _).mono (fun _ h c => ⟨(h c).1.trans ((Cert.Reference17Ideal.Proj.value _ _).trans (by rw [(e c).1, (e c).2])), (h c).2⟩)
      (Cert.Reference17Ideal.Value.run m' g')⟩

/-! The gradient of its argument. -/

theorem frame18 : Cert.quiescent_Kernel18 := fun m g _ => Cert.Kernel18.Gen.frame m g

theorem frame_ideal18 : Cert.quiescent_Kernel18Ideal := fun m g _ => Cert.Kernel18Ideal.Gen.frame m g

theorem frame_reference18 : Cert.quiescent_Reference18Ideal := fun m g _ =>
  (θ_run Cert.Reference18Ideal.defs _ _).mono (fun r h => ⟨fun c => (h c).2, Idealize.ShloMosaic.sem_eq_zero_of_no_sems (by decide) r.2⟩)
    (Cert.Reference18Ideal.Value.run m g)

theorem algebraic18 : Cert.algebraic_Kernel18Ideal_Reference18Ideal := by
  intro m g m' g' _ e
  exact ⟨fun c => Ffn.prodT (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run _ _ _).mono (fun _ h c => ⟨(h c).1.trans Cert.Kernel18Ideal.Proj.final, (h c).2⟩) (Cert.Kernel18Ideal.Value.run_blocks m g),
    (θ_run _ _ _).mono (fun _ h c => ⟨(h c).1.trans ((Cert.Reference18Ideal.Proj.value _ _).trans (by rw [(e c).1, (e c).2])), (h c).2⟩)
      (Cert.Reference18Ideal.Value.run m' g')⟩

/-! And of its weights. -/

theorem frame19 : Cert.quiescent_Kernel19 := fun m g _ => Cert.Kernel19.Gen.frame m g

theorem frame_ideal19 : Cert.quiescent_Kernel19Ideal := fun m g _ => Cert.Kernel19Ideal.Gen.frame m g

theorem frame_reference19 : Cert.quiescent_Reference19Ideal := fun m g _ =>
  (θ_run Cert.Reference19Ideal.defs _ _).mono (fun r h => ⟨fun c => (h c).2, Idealize.ShloMosaic.sem_eq_zero_of_no_sems (by decide) r.2⟩)
    (Cert.Reference19Ideal.Value.run m g)

theorem algebraic19 : Cert.algebraic_Kernel19Ideal_Reference19Ideal := by
  intro m g m' g' _ e
  exact ⟨fun c => Ffn.tprod (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    (θ_run _ _ _).mono (fun _ h c => ⟨(h c).1.trans Cert.Kernel19Ideal.Proj.final, (h c).2⟩) (Cert.Kernel19Ideal.Value.run_blocks m g),
    (θ_run _ _ _).mono (fun _ h c => ⟨(h c).1.trans ((Cert.Reference19Ideal.Proj.value _ _).trans (by rw [(e c).1, (e c).2])), (h c).2⟩)
      (Cert.Reference19Ideal.Value.run m' g')⟩

/-! The second mixer's input projection. -/

theorem frame20 : Cert.quiescent_Kernel20 := fun m g _ => Cert.Kernel20.Gen.frame m g

theorem frame_ideal20 : Cert.quiescent_Kernel20Ideal := fun m g _ => Cert.Kernel20Ideal.Gen.frame m g

theorem frame_reference20 : Cert.quiescent_Reference20Ideal := fun m g _ =>
  (θ_run Cert.Reference20Ideal.defs _ _).mono (fun r h => ⟨fun c => (h c).2, Idealize.ShloMosaic.sem_eq_zero_of_no_sems (by decide) r.2⟩)
    (Cert.Reference20Ideal.Value.run m g)

theorem algebraic20 : Cert.algebraic_Kernel20Ideal_Reference20Ideal := by
  intro m g m' g' _ e
  exact ⟨fun c => Ffn.prod (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    (θ_run _ _ _).mono (fun _ h c => ⟨(h c).1.trans Cert.Kernel20Ideal.Proj.final, (h c).2⟩) (Cert.Kernel20Ideal.Value.run_blocks m g),
    (θ_run _ _ _).mono (fun _ h c => ⟨(h c).1.trans ((Cert.Reference20Ideal.Proj.value _ _).trans (by rw [(e c).1, (e c).2])), (h c).2⟩)
      (Cert.Reference20Ideal.Value.run m' g')⟩

/-! The gradient of its argument. -/

theorem frame21 : Cert.quiescent_Kernel21 := fun m g _ => Cert.Kernel21.Gen.frame m g

theorem frame_ideal21 : Cert.quiescent_Kernel21Ideal := fun m g _ => Cert.Kernel21Ideal.Gen.frame m g

theorem frame_reference21 : Cert.quiescent_Reference21Ideal := fun m g _ =>
  (θ_run Cert.Reference21Ideal.defs _ _).mono (fun r h => ⟨fun c => (h c).2, Idealize.ShloMosaic.sem_eq_zero_of_no_sems (by decide) r.2⟩)
    (Cert.Reference21Ideal.Value.run m g)

theorem algebraic21 : Cert.algebraic_Kernel21Ideal_Reference21Ideal := by
  intro m g m' g' _ e
  exact ⟨fun c => Ffn.prodT (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    (θ_run _ _ _).mono (fun _ h c => ⟨(h c).1.trans Cert.Kernel21Ideal.Proj.final, (h c).2⟩) (Cert.Kernel21Ideal.Value.run_blocks m g),
    (θ_run _ _ _).mono (fun _ h c => ⟨(h c).1.trans ((Cert.Reference21Ideal.Proj.value _ _).trans (by rw [(e c).1, (e c).2])), (h c).2⟩)
      (Cert.Reference21Ideal.Value.run m' g')⟩

/-! And of its weights. -/

theorem frame22 : Cert.quiescent_Kernel22 := fun m g _ => Cert.Kernel22.Gen.frame m g

theorem frame_ideal22 : Cert.quiescent_Kernel22Ideal := fun m g _ => Cert.Kernel22Ideal.Gen.frame m g

theorem frame_reference22 : Cert.quiescent_Reference22Ideal := fun m g _ =>
  (θ_run Cert.Reference22Ideal.defs _ _).mono (fun r h => ⟨fun c => (h c).2, Idealize.ShloMosaic.sem_eq_zero_of_no_sems (by decide) r.2⟩)
    (Cert.Reference22Ideal.Value.run m g)

theorem algebraic22 : Cert.algebraic_Kernel22Ideal_Reference22Ideal := by
  intro m g m' g' _ e
  exact ⟨fun c => Ffn.tprod (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)),
    (θ_run _ _ _).mono (fun _ h c => ⟨(h c).1.trans Cert.Kernel22Ideal.Proj.final, (h c).2⟩) (Cert.Kernel22Ideal.Value.run_blocks m g),
    (θ_run _ _ _).mono (fun _ h c => ⟨(h c).1.trans ((Cert.Reference22Ideal.Proj.value _ _).trans (by rw [(e c).1, (e c).2])), (h c).2⟩)
      (Cert.Reference22Ideal.Value.run m' g')⟩

end Cert.ProjCalls

end
-- ==== Proof.lean ====
/- The claims about the gradients of one dilated attention branch (both programs terminate, leave their arguments and the
   counters as they were, and end with the same three arrays), and all claims together with those of `Calls`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Finite
public import proofs.«01_k».proof.Proof.Algebraic
public import proofs.«01_k».proof.Proof.Calls
public import proofs.«01_k».proof.Proof.NormCall
public import proofs.«01_k».proof.Proof.StepCalls
public import proofs.«01_k».proof.Proof.SmallCall
public import proofs.«01_k».proof.Proof.ProjCalls
public import Idealize.ShloMosaic.Adequacy
public import Idealize.ShloMosaic.Init

@[expose] public section

set_option maxHeartbeats 8000000

noncomputable section

namespace Cert.Proof

open Idealize.ShloMosaic Idealize.SL.Sem Idealize.ShloMosaic.StableHlo

attribute [local instance] Cert.Finite.facts

/-- The kernel as written terminates with its arguments and every counter as at launch. -/
theorem frame_kernel : Cert.quiescent_Kernel := fun m g _ => Cert.Kernel.Gen.frame m g

/-- So does the kernel over the reals. -/
theorem frame_ideal : Cert.quiescent_KernelIdeal := fun m g _ => Cert.KernelIdeal.Gen.frame m g

theorem frame_ideal_finite : Cert.quiescent_KernelIdeal_pre_finite := fun m g _ => Cert.KernelIdeal.Gen.frame m g

/-- And the reference, which declares no counter. -/
theorem reference_rests (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2, Idealize.ShloMosaic.sem_eq_zero_of_no_sems (by decide) r.2⟩)
    (Cert.ReferenceIdeal.Value.run m g)

theorem frame_reference : Cert.quiescent_ReferenceIdeal := fun m g _ => reference_rests m g

theorem frame_reference_finite : Cert.quiescent_ReferenceIdeal_pre_finite := fun m g _ => reference_rests m g

/-- The mask's constant, a large negative number in the kernel as written, is the lower infinity over the reals. -/
theorem preserves : Cert.preserves_Kernel_KernelIdeal :=
  IdealRules.named_const.statement Cert.KernelIdeal.κ "mask" .f32 0xF149F2CA#32 ⊥ rfl

/-- On finite arguments the kernel and the reference end with the same gradients. -/
theorem algebraic : Cert.algebraic_KernelIdeal_ReferenceIdeal_pre_finite := by
  intro m g m' g' h e
  refine ⟨fun c => Cert.Algebraic.dqs (Cert.Finite.arrays m c), fun c => Cert.Algebraic.dks (Cert.Finite.arrays m c),
    fun c => Cert.Algebraic.dvs (Cert.Finite.arrays m c), Cert.Algebraic.kernel m g _ (Cert.Finite.kernel m h),
    Cert.Algebraic.reference m' g' (fun c => Cert.Finite.arrays m c) fun c => Cert.Finite.reference m h m' c ?_ ?_ ?_ ?_ ?_ ?_⟩
  · exact fun t j => congrFun (e c).1 (ix2 t j)
  · exact fun t j => congrFun (e c).2.1 (ix2 t j)
  · exact fun t j => congrFun (e c).2.2.1 (ix2 t j)
  · exact fun t j => congrFun (e c).2.2.2.1 (ix2 t j)
  · exact fun t j => congrFun (e c).2.2.2.2.1 (ix2 t j)
  · exact fun t j => congrFun (e c).2.2.2.2.2 (ix2 t j)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel7.Gen.facts, Cert.Kernel7Ideal.Gen.facts, Cert.Reference7Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Finite.facts, Cert.NormCall.facts,
  frame_kernel, frame_ideal, frame_ideal_finite, frame_reference, frame_reference_finite,
  Cert.Calls.up_frame, Cert.Calls.up_frame_ideal, Cert.Calls.up_frame_reference,
  Cert.Calls.da_frame, Cert.Calls.da_frame_ideal, Cert.Calls.da_frame_reference,
  Cert.Calls.dw2_frame, Cert.Calls.dw2_frame_ideal, Cert.Calls.dw2_frame_reference,
  Cert.Calls.dh_frame, Cert.Calls.dh_frame_ideal, Cert.Calls.dh_frame_reference,
  Cert.Calls.dw1_frame, Cert.Calls.dw1_frame_ideal, Cert.Calls.dw1_frame_reference,
  Cert.Calls.down_frame, Cert.Calls.down_frame_ideal, Cert.Calls.down_frame_reference,
  Cert.NormCall.frame, Cert.NormCall.frame_ideal, Cert.NormCall.frame_ideal_finite, Cert.NormCall.frame_reference, Cert.NormCall.frame_reference_finite,
  Cert.StepCalls.frame9, Cert.StepCalls.frame_ideal9, Cert.StepCalls.frame_reference9,
  Cert.StepCalls.frame10, Cert.StepCalls.frame_ideal10, Cert.StepCalls.frame_reference10,
  Cert.StepCalls.frame11, Cert.StepCalls.frame_ideal11, Cert.StepCalls.frame_reference11,
  Cert.StepCalls.frame12, Cert.StepCalls.frame_ideal12, Cert.StepCalls.frame_reference12,
  Cert.SmallCall.frame, Cert.SmallCall.frame_ideal, Cert.SmallCall.frame_reference,
  Cert.ProjCalls.frame14, Cert.ProjCalls.frame_ideal14, Cert.ProjCalls.frame_reference14,
  Cert.ProjCalls.frame15, Cert.ProjCalls.frame_ideal15, Cert.ProjCalls.frame_reference15,
  Cert.ProjCalls.frame16, Cert.ProjCalls.frame_ideal16, Cert.ProjCalls.frame_reference16,
  Cert.ProjCalls.frame17, Cert.ProjCalls.frame_ideal17, Cert.ProjCalls.frame_reference17,
  Cert.ProjCalls.frame18, Cert.ProjCalls.frame_ideal18, Cert.ProjCalls.frame_reference18,
  Cert.ProjCalls.frame19, Cert.ProjCalls.frame_ideal19, Cert.ProjCalls.frame_reference19,
  Cert.ProjCalls.frame20, Cert.ProjCalls.frame_ideal20, Cert.ProjCalls.frame_reference20,
  Cert.ProjCalls.frame21, Cert.ProjCalls.frame_ideal21, Cert.ProjCalls.frame_reference21,
  Cert.ProjCalls.frame22, Cert.ProjCalls.frame_ideal22, Cert.ProjCalls.frame_reference22,
  preserves, algebraic,
  trivial, Cert.Calls.up_algebraic,
  trivial, Cert.Calls.da_algebraic,
  trivial, Cert.Calls.dw2_algebraic,
  trivial, Cert.Calls.dh_algebraic,
  trivial, Cert.Calls.dw1_algebraic,
  trivial, Cert.Calls.down_algebraic,
  trivial, Cert.NormCall.algebraic,
  trivial, Cert.StepCalls.algebraic9,
  trivial, Cert.StepCalls.algebraic10,
  trivial, Cert.StepCalls.algebraic11,
  trivial, Cert.StepCalls.algebraic12,
  trivial, Cert.SmallCall.algebraic,
  trivial, Cert.ProjCalls.algebraic14,
  trivial, Cert.ProjCalls.algebraic15,
  trivial, Cert.ProjCalls.algebraic16,
  trivial, Cert.ProjCalls.algebraic17,
  trivial, Cert.ProjCalls.algebraic18,
  trivial, Cert.ProjCalls.algebraic19,
  trivial, Cert.ProjCalls.algebraic20,
  trivial, Cert.ProjCalls.algebraic21,
  trivial, Cert.ProjCalls.algebraic22⟩

end Cert.Proof

end
